-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_finite_weights [hPre_finite_weights : Cert.Pre_finite_weights.Facts] (m : (ℓ : Loc Cert.InprojIdeal.nD Cert.InprojIdeal.τ Cert.InprojIdeal.sig) → Buf (Elt Ideal) ℓ) : Prop :=
  ∀ c : Dev Cert.InprojIdeal.nD,
    (Cert.Pre_finite_weights.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6))) = (fun _ => 1#1)

def Pre_InprojReferenceIdeal (m : (ℓ : Loc Cert.InprojReferenceIdeal.nD Cert.InprojReferenceIdeal.τ Cert.InprojReferenceIdeal.sig) → Buf (Elt Ideal) ℓ) : Prop :=
  True

def Pre_InprojReferenceIdeal_finite_weights [hPre_finite_weights : Cert.Pre_finite_weights.Facts] (m : (ℓ : Loc Cert.InprojReferenceIdeal.nD Cert.InprojReferenceIdeal.τ Cert.InprojReferenceIdeal.sig) → Buf (Elt Ideal) ℓ) : Prop :=
  ∀ c : Dev Cert.InprojReferenceIdeal.nD,
    (Cert.Pre_finite_weights.fn (F := Ideal) (m ((c.tc : Thread Cert.InprojReferenceIdeal.nD Cert.InprojReferenceIdeal.τ).loc Cert.InprojReferenceIdeal.main_arg0)) (m ((c.tc : Thread Cert.InprojReferenceIdeal.nD Cert.InprojReferenceIdeal.τ).loc Cert.InprojReferenceIdeal.main_arg1)) (m ((c.tc : Thread Cert.InprojReferenceIdeal.nD Cert.InprojReferenceIdeal.τ).loc Cert.InprojReferenceIdeal.main_arg2)) (m ((c.tc : Thread Cert.InprojReferenceIdeal.nD Cert.InprojReferenceIdeal.τ).loc Cert.InprojReferenceIdeal.main_arg3)) (m ((c.tc : Thread Cert.InprojReferenceIdeal.nD Cert.InprojReferenceIdeal.τ).loc Cert.InprojReferenceIdeal.main_arg4)) (m ((c.tc : Thread Cert.InprojReferenceIdeal.nD Cert.InprojReferenceIdeal.τ).loc Cert.InprojReferenceIdeal.main_arg5)) (m ((c.tc : Thread Cert.InprojReferenceIdeal.nD Cert.InprojReferenceIdeal.τ).loc Cert.InprojReferenceIdeal.main_arg6))) = (fun _ => 1#1)

def Pre_Experts [hPre_routed : Cert.Pre_routed.Facts] (m : (ℓ : Loc Cert.Experts.nD Cert.Experts.τ Cert.Experts.sig) → Buf (Elt Bits) ℓ) : Prop :=
  ∀ c : Dev Cert.Experts.nD,
    (Cert.Pre_routed.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8))) = (fun _ => 1#1)

def Pre_ExpertsIdeal [hPre_routed : Cert.Pre_routed.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_routed [hPre_routed : Cert.Pre_routed.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_routed.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7)) (m ((c.tc : Thread Cert.ExpertsReferenceIdeal.nD Cert.ExpertsReferenceIdeal.τ).loc Cert.ExpertsReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ r.2.sem = fun _ => 0)

def quiescent_InprojIdeal_pre_finite_weights [hInprojIdeal : Cert.InprojIdeal.Facts] [hPre_finite_weights : Cert.Pre_finite_weights.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_finite_weights m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6))
      ∧ r.2.sem = fun _ => 0)

def quiescent_InprojReferenceIdeal_pre_finite_weights [hInprojReferenceIdeal : Cert.InprojReferenceIdeal.Facts] [hPre_finite_weights : Cert.Pre_finite_weights.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal_finite_weights m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6))
      ∧ r.2.sem = fun _ => 0)

def quiescent_Experts [hExperts : Cert.Experts.Facts] [hPre_routed : Cert.Pre_routed.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8))
      ∧ r.2.sem = fun _ => 0)

def quiescent_ExpertsIdeal [hExpertsIdeal : Cert.ExpertsIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7)
      ∧ r.2.mem ((c.tc : Thread Cert.ExpertsReferenceIdeal.nD Cert.ExpertsReferenceIdeal.τ).loc Cert.ExpertsReferenceIdeal.main_arg8) = m ((c.tc : Thread Cert.ExpertsReferenceIdeal.nD Cert.ExpertsReferenceIdeal.τ).loc Cert.ExpertsReferenceIdeal.main_arg8))
      ∧ r.2.sem = fun _ => 0)

def quiescent_ExpertsReferenceIdeal_pre_routed [hExpertsReferenceIdeal : Cert.ExpertsReferenceIdeal.Facts] [hPre_routed : Cert.Pre_routed.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_routed m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7)
      ∧ r.2.mem ((c.tc : Thread Cert.ExpertsReferenceIdeal.nD Cert.ExpertsReferenceIdeal.τ).loc Cert.ExpertsReferenceIdeal.main_arg8) = m ((c.tc : Thread Cert.ExpertsReferenceIdeal.nD Cert.ExpertsReferenceIdeal.τ).loc Cert.ExpertsReferenceIdeal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Inproj_InprojIdeal : Prop :=
  True

def algebraic_InprojIdeal_InprojReferenceIdeal_pre_finite_weights [hInprojIdeal : Cert.InprojIdeal.Facts] [hInprojReferenceIdeal : Cert.InprojReferenceIdeal.Facts] [hPre_finite_weights : Cert.Pre_finite_weights.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal_finite_weights m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)
      ∧ m' ((c.tc : Thread Cert.InprojReferenceIdeal.nD Cert.InprojReferenceIdeal.τ).loc Cert.InprojReferenceIdeal.main_arg5) = m ((c.tc : Thread Cert.InprojIdeal.nD Cert.InprojIdeal.τ).loc Cert.InprojIdeal.main_arg5)
      ∧ m' ((c.tc : Thread Cert.InprojReferenceIdeal.nD Cert.InprojReferenceIdeal.τ).loc Cert.InprojReferenceIdeal.main_arg6) = m ((c.tc : Thread Cert.InprojIdeal.nD Cert.InprojIdeal.τ).loc Cert.InprojIdeal.main_arg6)) →
    ∃ (v0 : (c : Dev Cert.InprojIdeal.nD) → Buf (Elt Ideal) ((c.tc : Thread Cert.InprojIdeal.nD Cert.InprojIdeal.τ).loc Cert.InprojIdeal.main_v24_0)) (v1 : (c : Dev Cert.InprojIdeal.nD) → Buf (Elt Ideal) ((c.tc : Thread Cert.InprojIdeal.nD Cert.InprojIdeal.τ).loc Cert.InprojIdeal.main_v24_1)) (v2 : (c : Dev Cert.InprojIdeal.nD) → Buf (Elt Ideal) ((c.tc : Thread Cert.InprojIdeal.nD Cert.InprojIdeal.τ).loc Cert.InprojIdeal.main_v24_2)) (v3 : (c : Dev Cert.InprojIdeal.nD) → Buf (Elt Ideal) ((c.tc : Thread Cert.InprojIdeal.nD Cert.InprojIdeal.τ).loc Cert.InprojIdeal.main_v24_3)) (v4 : (c : Dev Cert.InprojIdeal.nD) → Buf (Elt Ideal) ((c.tc : Thread Cert.InprojIdeal.nD Cert.InprojIdeal.τ).loc Cert.InprojIdeal.main_v24_4)) (v5 : (c : Dev Cert.InprojIdeal.nD) → Buf (Elt Ideal) ((c.tc : Thread Cert.InprojIdeal.nD Cert.InprojIdeal.τ).loc Cert.InprojIdeal.main_v24_5)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v24_0) = v0 c
          ∧ r.2.mem ((c.tc : Thread Cert.InprojIdeal.nD Cert.InprojIdeal.τ).loc Cert.InprojIdeal.main_v24_1) = v1 c
          ∧ r.2.mem ((c.tc : Thread Cert.InprojIdeal.nD Cert.InprojIdeal.τ).loc Cert.InprojIdeal.main_v24_2) = v2 c
          ∧ r.2.mem ((c.tc : Thread Cert.InprojIdeal.nD Cert.InprojIdeal.τ).loc Cert.InprojIdeal.main_v24_3) = v3 c
          ∧ r.2.mem ((c.tc : Thread Cert.InprojIdeal.nD Cert.InprojIdeal.τ).loc Cert.InprojIdeal.main_v24_4) = v4 c
          ∧ r.2.mem ((c.tc : Thread Cert.InprojIdeal.nD Cert.InprojIdeal.τ).loc Cert.InprojIdeal.main_v24_5) = v5 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v33) = v0 c
          ∧ r.2.mem ((c.tc : Thread Cert.InprojReferenceIdeal.nD Cert.InprojReferenceIdeal.τ).loc Cert.InprojReferenceIdeal.main_v50) = v1 c
          ∧ r.2.mem ((c.tc : Thread Cert.InprojReferenceIdeal.nD Cert.InprojReferenceIdeal.τ).loc Cert.InprojReferenceIdeal.main_v80) = v2 c
          ∧ r.2.mem ((c.tc : Thread Cert.InprojReferenceIdeal.nD Cert.InprojReferenceIdeal.τ).loc Cert.InprojReferenceIdeal.main_v81) = v3 c
          ∧ r.2.mem ((c.tc : Thread Cert.InprojReferenceIdeal.nD Cert.InprojReferenceIdeal.τ).loc Cert.InprojReferenceIdeal.main_v82) = v4 c
          ∧ r.2.mem ((c.tc : Thread Cert.InprojReferenceIdeal.nD Cert.InprojReferenceIdeal.τ).loc Cert.InprojReferenceIdeal.main_v79) = v5 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5)
          ∧ r.2.mem ((c.tc : Thread Cert.InprojReferenceIdeal.nD Cert.InprojReferenceIdeal.τ).loc Cert.InprojReferenceIdeal.main_arg6) = m' ((c.tc : Thread Cert.InprojReferenceIdeal.nD Cert.InprojReferenceIdeal.τ).loc Cert.InprojReferenceIdeal.main_arg6))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)
      ∧ m' ((c.tc : Thread Cert.ExpertsReferenceIdeal.nD Cert.ExpertsReferenceIdeal.τ).loc Cert.ExpertsReferenceIdeal.main_arg7) = m ((c.tc : Thread Cert.ExpertsIdeal.nD Cert.ExpertsIdeal.τ).loc Cert.ExpertsIdeal.main_arg7)
      ∧ m' ((c.tc : Thread Cert.ExpertsReferenceIdeal.nD Cert.ExpertsReferenceIdeal.τ).loc Cert.ExpertsReferenceIdeal.main_arg8) = m ((c.tc : Thread Cert.ExpertsIdeal.nD Cert.ExpertsIdeal.τ).loc Cert.ExpertsIdeal.main_arg8)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v76) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6)
          ∧ r.2.mem ((c.tc : Thread Cert.ExpertsReferenceIdeal.nD Cert.ExpertsReferenceIdeal.τ).loc Cert.ExpertsReferenceIdeal.main_arg7) = m' ((c.tc : Thread Cert.ExpertsReferenceIdeal.nD Cert.ExpertsReferenceIdeal.τ).loc Cert.ExpertsReferenceIdeal.main_arg7)
          ∧ r.2.mem ((c.tc : Thread Cert.ExpertsReferenceIdeal.nD Cert.ExpertsReferenceIdeal.τ).loc Cert.ExpertsReferenceIdeal.main_arg8) = m' ((c.tc : Thread Cert.ExpertsReferenceIdeal.nD Cert.ExpertsReferenceIdeal.τ).loc Cert.ExpertsReferenceIdeal.main_arg8))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojReferenceIdeal : Cert.InprojReferenceIdeal.Facts) (hExperts : Cert.Experts.Facts) (hExpertsIdeal : Cert.ExpertsIdeal.Facts) (hExpertsReferenceIdeal : Cert.ExpertsReferenceIdeal.Facts) (hPre_finite : Cert.Pre_finite.Facts) (hPre_finite_weights : Cert.Pre_finite_weights.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Inproj (hInproj := hInproj)
    ∧ quiescent_InprojIdeal (hInprojIdeal := hInprojIdeal)
    ∧ quiescent_InprojIdeal_pre_finite_weights (hInprojIdeal := hInprojIdeal) (hPre_finite_weights := hPre_finite_weights)
    ∧ quiescent_InprojReferenceIdeal (hInprojReferenceIdeal := hInprojReferenceIdeal)
    ∧ quiescent_InprojReferenceIdeal_pre_finite_weights (hInprojReferenceIdeal := hInprojReferenceIdeal) (hPre_finite_weights := hPre_finite_weights)
    ∧ quiescent_Experts (hExperts := hExperts) (hPre_routed := hPre_routed)
    ∧ quiescent_ExpertsIdeal (hExpertsIdeal := hExpertsIdeal) (hPre_routed := hPre_routed)
    ∧ quiescent_ExpertsReferenceIdeal (hExpertsReferenceIdeal := hExpertsReferenceIdeal)
    ∧ quiescent_ExpertsReferenceIdeal_pre_routed (hExpertsReferenceIdeal := hExpertsReferenceIdeal) (hPre_routed := hPre_routed)
    ∧ preserves_Kernel_KernelIdeal
    ∧ algebraic_KernelIdeal_ReferenceIdeal_pre_finite (hKernelIdeal := hKernelIdeal) (hReferenceIdeal := hReferenceIdeal) (hPre_finite := hPre_finite)
    ∧ preserves_Inproj_InprojIdeal
    ∧ algebraic_InprojIdeal_InprojReferenceIdeal_pre_finite_weights (hInprojIdeal := hInprojIdeal) (hInprojReferenceIdeal := hInprojReferenceIdeal) (hPre_finite_weights := hPre_finite_weights)
    ∧ preserves_Experts_ExpertsIdeal
    ∧ algebraic_ExpertsIdeal_ExpertsReferenceIdeal (hExpertsIdeal := hExpertsIdeal) (hExpertsReferenceIdeal := hExpertsReferenceIdeal) (hPre_routed := hPre_routed)
-- ==== Pre_finite.lean ====
abbrev S32768x512 : Shape := ⟨2, ![32768, 512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel

variable [Facts]

def fn {F : FTy → Type} [FloatOps F] (main_arg0 : FVec F S32768x512 .f32) (main_arg1 : FVec F S32768x512 .f32) (main_arg2 : FVec F S32768x512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  main_v8
-- ==== Pre_finite_weights.lean ====
abbrev S16x2048x1024 : Shape := ⟨3, ![16, 2048, 1024]⟩
abbrev S1x1024 : Shape := ⟨2, ![1, 1024]⟩
abbrev S1x1024x3600 : Shape := ⟨3, ![1, 1024, 3600]⟩
abbrev S1x64 : Shape := ⟨2, ![1, 64]⟩
abbrev S1x8 : Shape := ⟨2, ![1, 8]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1x1024x3600 : S_.BroadcastsInDim S1x1024x3600 (![] : Fin 0 → Fin S1x1024x3600.rank)
  reducesTo_S1x1024x3600_S_d0_1_2 : S1x1024x3600.ReducesTo [0, 1, 2] S_

variable [Facts]

def fn {F : FTy → Type} [FloatOps F] (main_arg0 : FVec F S16x2048x1024 .f32) (main_arg1 : FVec F S1x1024 .f32) (main_arg2 : FVec F S1x1024x3600 .f32) (main_arg3 : FVec F S1x64 .f32) (main_arg4 : FVec F S1x64 .f32) (main_arg5 : FVec F S1x8 .f32) (main_arg6 : FVec F S1x8 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024x3600 .f32 := Host.absf main_arg2
  let main_cst_0 : FVec F S_ .f32 := constant S_ .f32 0x7F800000#32
  let main_v5 : FVec F S1x1024x3600 .f32 := broadcastInDim S1x1024x3600 ![] bcast_S_S1x1024x3600 main_cst_0
  let main_v6 : IVec S1x1024x3600 1 := cmpf .olt main_v4 main_v5
  let main_c_1 : IVec S_ 1 := constantI S_ 1 1#1
  let main_v7 : IVec S_ 1 := (fun x v => Host.reduce IntOp.andi x v reducesTo_S1x1024x3600_S_d0_1_2 h_S_) main_v6 main_c_1
  let main_v8 : IVec S_ 1 := andi main_v3 main_v7
  main_v8
-- ==== Pre_routed.lean ====
abbrev S548 : Shape := ⟨1, ![548]⟩
abbrev S1 : Shape := ⟨1, ![1]⟩
abbrev S140288x1024 : Shape := ⟨2, ![140288, 1024]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S548 : S_.BroadcastsInDim S548 (![] : Fin 0 → Fin S548.rank)
  reducesTo_S548_S_d0 : S548.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S548 32) (main_arg1 : IVec S1 32) (main_arg2 : FVec F S140288x1024 .f32) (main_arg3 : FVec F S32x1024x1024 .bf16) (main_arg4 : FVec F S32x1024x1024 .bf16) (main_arg5 : FVec F S32x1024x1024 .bf16) (main_arg6 : FVec F S32x1x1024 .f32) (main_arg7 : FVec F S32x1x1024 .f32) (main_arg8 : FVec F S32x1x1024 .f32) : IVec S_ 1 :=
  let main_c : IVec S_ 32 := constantI S_ 32 0#32
  let main_v0 : IVec S548 32 := broadcastInDim S548 ![] bcast_S_S548 main_c
  let main_v1 : IVec S548 1 := cmpi .sge main_arg0 main_v0
  let main_c_0 : IVec S_ 32 := constantI S_ 32 32#32
  let main_v2 : IVec S548 32 := broadcastInDim S548 ![] bcast_S_S548 main_c_0
  let main_v3 : IVec S548 1 := cmpi .slt main_arg0 main_v2
  let main_v4 : IVec S548 1 := andi main_v1 main_v3
  let main_c_1 : IVec S_ 1 := constantI S_ 1 1#1
  let main_v5 : IVec S_ 1 := (fun x v => Host.reduce IntOp.andi x v reducesTo_S548_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 548#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Kernel.lean ====
abbrev S32768x512 : Shape := ⟨2, ![32768, 512]⟩
abbrev S8 : Shape := ⟨1, ![8]⟩
abbrev S_ : Shape := ⟨0, ![]⟩
abbrev S256x128 : Shape := ⟨2, ![256, 128]⟩
abbrev S2048x128 : Shape := ⟨2, ![2048, 128]⟩
abbrev S8x128 : Shape := ⟨2, ![8, 128]⟩
abbrev S128x2048 : Shape := ⟨2, ![128, 2048]⟩
abbrev S128x512 : Shape := ⟨2, ![128, 512]⟩
abbrev S128 : Shape := ⟨1, ![128]⟩
abbrev S1x128 : Shape := ⟨2, ![1, 128]⟩
abbrev S128x256 : Shape := ⟨2, ![128, 256]⟩
abbrev S512x128 : Shape := ⟨2, ![512, 128]⟩
abbrev S8x512 : Shape := ⟨2, ![8, 512]⟩
abbrev S512 : Shape := ⟨1, ![512]⟩
abbrev S1x512 : Shape := ⟨2, ![1, 512]⟩
abbrev S1 : Shape := ⟨1, ![1]⟩
abbrev S256x512 : Shape := ⟨2, ![256, 512]⟩
abbrev S512x512 : Shape := ⟨2, ![512, 512]⟩
abbrev S64x256 : Shape := ⟨2, ![64, 256]⟩

abbrev nBuf : Space → Nat
  | .hbm => 17
  | .vmem => 11
  | .smem => 1
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S32768x512, .f32⟩
  | .local _ .vmem, ⟨0, _⟩ => ⟨S256x128, .f32⟩
  | .local _ .vmem, ⟨1, _⟩ => ⟨S256x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S256x128, .f32⟩
  | .local _ .vmem, ⟨7, _⟩ => ⟨S256x128, .f32⟩
  | .local _ .vmem, ⟨8, _⟩ => ⟨S8x128, .f32⟩
  | .local _ .vmem, ⟨9, _⟩ => ⟨S128x2048, .bf16⟩
  | .local _ .vmem, ⟨10, _⟩ => ⟨S128x512, .f32⟩
  | .local _ .smem, ⟨0, _⟩ => ⟨S8, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![16, 4, 8], ![false, false, false]⟩

def k0_off1 (i : grid0.Coords) : Fin 1 → Nat :=
  let c2_i32 : BitVec 32 := 2#32
  let arg1 : BitVec 32 := BitVec.ofNat 32 (i 1).val
  let v82 : BitVec 32 := Scalar.muli c2_i32 arg1
  let v83 : Index := Scalar.indexCast v82
  ![v83.toNat]
def k0_off2 (i : grid0.Coords) : Fin 1 → Nat :=
  let c2_i32_24 : BitVec 32 := 2#32
  let arg1 : BitVec 32 := BitVec.ofNat 32 (i 1).val
  let v85 : BitVec 32 := Scalar.muli c2_i32_24 arg1
  let c1_i32 : BitVec 32 := 1#32
  let v86 : BitVec 32 := Scalar.addi v85 c1_i32
  let v87 : Index := Scalar.indexCast v86
  ![v87.toNat]
def k0_mult1 (i : grid0.Coords) : BitVec 32 :=
  let arg2 : BitVec 32 := BitVec.ofNat 32 (i 2).val
  let c256_i32_31 : BitVec 32 := 256#32
  let v114 : BitVec 32 := Scalar.muli arg2 c256_i32_31
  v114
def k0_off3 (i : grid0.Coords) : Fin 2 → Nat :=
  let arg2 : BitVec 32 := BitVec.ofNat 32 (i 2).val
  let c256_i32_31 : BitVec 32 := 256#32
  let v114 : BitVec 32 := Scalar.muli arg2 c256_i32_31
  let v115 : BitVec 32 := v114
  let v116 : Index := Scalar.indexCast v115
  let c0_32 : Index := 0#32
  ![v116.toNat, 0]
def k0_off4 (i : grid0.Coords) : Fin 2 → Nat :=
  let c0_38 : Index := 0#32
  let arg2 : BitVec 32 := BitVec.ofNat 32 (i 2).val
  let c256_i32_31 : BitVec 32 := 256#32
  let v114 : BitVec 32 := Scalar.muli arg2 c256_i32_31
  let v115 : BitVec 32 := v114
  let v132 : Index := Scalar.indexCast v115
  ![0, v132.toNat]
@[reducible] def k0_t1_loop (i : grid0.Coords) : Scf.Loop 32 :=
  let c0_i32_50 : BitVec 32 := 0#32
  let arg2 : BitVec 32 := BitVec.ofNat 32 (i 2).val
  let c1_i32_42 : BitVec 32 := 1#32
  let v139 : BitVec 32 := Scalar.addi arg2 c1_i32_42
  let c0_i32_44 : BitVec 32 := 0#32
  let v141 : BitVec 1 := Scalar.cmpi .sgt v139 c0_i32_44
  let v142 : BitVec 32 := Scalar.extui v141
  let c0_i32_45 : BitVec 32 := 0#32
  let v143 : BitVec 1 := Scalar.cmpi .slt v139 c0_i32_45
  let v144 : BitVec 32 := Scalar.extui v143
  let v145 : BitVec 32 := Scalar.subi v142 v144
  let c2_i32_43 : BitVec 32 := 2#32
  let c0_i32_46 : BitVec 32 := 0#32
  let v146 : BitVec 1 := Scalar.cmpi .sgt c2_i32_43 c0_i32_46
  let v147 : BitVec 32 := Scalar.extui v146
  let c0_i32_47 : BitVec 32 := 0#32
  let v148 : BitVec 1 := Scalar.cmpi .slt c2_i32_43 c0_i32_47
  let v149 : BitVec 32 := Scalar.extui v148
  let v150 : BitVec 32 := Scalar.subi v147 v149
  let v151 : BitVec 1 := Scalar.cmpi .ne v145 v150
  let v152 : BitVec 32 := Scalar.remsi v139 c2_i32_43
  let c0_i32_48 : BitVec 32 := 0#32
  let v153 : BitVec 1 := Scalar.cmpi .ne v152 c0_i32_48
  let v154 : BitVec 1 := Scalar.andi v151 v153
  let v140 : BitVec 32 := Scalar.divsi v139 c2_i32_43
  let c1_i32_49 : BitVec 32 := 1#32
  let v155 : BitVec 32 := Scalar.subi v140 c1_i32_49
  let v156 : BitVec 32 := Scalar.select v154 v155 v140
  let v157 : BitVec 32 := Scalar.subi v156 c0_i32_50
  let c1_i32_51 : BitVec 32 := 1#32
  let v159 : BitVec 32 := Scalar.divsi v157 c1_i32_51
  let v160 : BitVec 32 := Scalar.muli v159 c1_i32_51
  let v161 : BitVec 32 := Scalar.addi c0_i32_50 v160
  let c1_i32_52 : BitVec 32 := 1#32
  ⟨c0_i32_50, v161, c1_i32_52⟩
def k0_mult2 (i : grid0.Coords) (k0_t1 : Fin (k0_t1_loop i).trips) : BitVec 32 :=
  let c2_i32_59 : BitVec 32 := 2#32
  let c0_i32_50 : BitVec 32 := 0#32
  let c1_i32_52 : BitVec 32 := 1#32
  let arg11 : BitVec 32 := Scf.iv c0_i32_50 c1_i32_52 k0_t1
  let v174 : BitVec 32 := Scalar.muli c2_i32_59 arg11
  let c256_i32_60 : BitVec 32 := 256#32
  let v175 : BitVec 32 := Scalar.muli v174 c256_i32_60
  v175
def k0_off5 (i : grid0.Coords) (k0_t1 : Fin (k0_t1_loop i).trips) : Fin 2 → Nat :=
  let c2_i32_59 : BitVec 32 := 2#32
  let c0_i32_50 : BitVec 32 := 0#32
  let c1_i32_52 : BitVec 32 := 1#32
  let arg11 : BitVec 32 := Scf.iv c0_i32_50 c1_i32_52 k0_t1
  let v174 : BitVec 32 := Scalar.muli c2_i32_59 arg11
  let c256_i32_60 : BitVec 32 := 256#32
  let v175 : BitVec 32 := Scalar.muli v174 c256_i32_60
  let v176 : BitVec 32 := v175
  let v177 : Index := Scalar.indexCast v176
  let c0_61 : Index := 0#32
  ![v177.toNat, 0]
def k0_off6 (i : grid0.Coords) (k0_t1 : Fin (k0_t1_loop i).trips) : Fin 2 → Nat :=
  let c0_78 : Index := 0#32
  let c2_i32_59 : BitVec 32 := 2#32
  let c0_i32_50 : BitVec 32 := 0#32
  let c1_i32_52 : BitVec 32 := 1#32
  let arg11 : BitVec 32 := Scf.iv c0_i32_50 c1_i32_52 k0_t1
  let v174 : BitVec 32 := Scalar.muli c2_i32_59 arg11
  let c256_i32_60 : BitVec 32 := 256#32
  let v175 : BitVec 32 := Scalar.muli v174 c256_i32_60
  let v176 : BitVec 32 := v175
  let v240 : Index := Scalar.indexCast v176
  ![0, v240.toNat]
@[reducible] def k0_t2_loop (i : grid0.Coords) : Scf.Loop 32 :=
  let c0_i32_50 : BitVec 32 := 0#32
  let arg2 : BitVec 32 := BitVec.ofNat 32 (i 2).val
  let c1_i32_42 : BitVec 32 := 1#32
  let v139 : BitVec 32 := Scalar.addi arg2 c1_i32_42
  let c0_i32_44 : BitVec 32 := 0#32
  let v141 : BitVec 1 := Scalar.cmpi .sgt v139 c0_i32_44
  let v142 : BitVec 32 := Scalar.extui v141
  let c0_i32_45 : BitVec 32 := 0#32
  let v143 : BitVec 1 := Scalar.cmpi .slt v139 c0_i32_45
  let v144 : BitVec 32 := Scalar.extui v143
  let v145 : BitVec 32 := Scalar.subi v142 v144
  let c2_i32_43 : BitVec 32 := 2#32
  let c0_i32_46 : BitVec 32 := 0#32
  let v146 : BitVec 1 := Scalar.cmpi .sgt c2_i32_43 c0_i32_46
  let v147 : BitVec 32 := Scalar.extui v146
  let c0_i32_47 : BitVec 32 := 0#32
  let v148 : BitVec 1 := Scalar.cmpi .slt c2_i32_43 c0_i32_47
  let v149 : BitVec 32 := Scalar.extui v148
  let v150 : BitVec 32 := Scalar.subi v147 v149
  let v151 : BitVec 1 := Scalar.cmpi .ne v145 v150
  let v152 : BitVec 32 := Scalar.remsi v139 c2_i32_43
  let c0_i32_48 : BitVec 32 := 0#32
  let v153 : BitVec 1 := Scalar.cmpi .ne v152 c0_i32_48
  let v154 : BitVec 1 := Scalar.andi v151 v153
  let v140 : BitVec 32 := Scalar.divsi v139 c2_i32_43
  let c1_i32_49 : BitVec 32 := 1#32
  let v155 : BitVec 32 := Scalar.subi v140 c1_i32_49
  let v156 : BitVec 32 := Scalar.select v154 v155 v140
  let v157 : BitVec 32 := Scalar.subi v156 c0_i32_50
  let c1_i32_51 : BitVec 32 := 1#32
  let v159 : BitVec 32 := Scalar.divsi v157 c1_i32_51
  let v160 : BitVec 32 := Scalar.muli v159 c1_i32_51
  let v161 : BitVec 32 := Scalar.addi c0_i32_50 v160
  let v158 : BitVec 32 := Scalar.addi c0_i32_50 v157
  let c1_i32_53 : BitVec 32 := 1#32
  ⟨v161, v158, c1_i32_53⟩
def k0_mult3 (i : grid0.Coords) (k0_t2 : Fin (k0_t2_loop i).trips) : BitVec 32 :=
  let c2_i32_59 : BitVec 32 := 2#32
  let c0_i32_50 : BitVec 32 := 0#32
  let arg2 : BitVec 32 := BitVec.ofNat 32 (i 2).val
  let c1_i32_42 : BitVec 32 := 1#32
  let v139 : BitVec 32 := Scalar.addi arg2 c1_i32_42
  let c0_i32_44 : BitVec 32 := 0#32
  let v141 : BitVec 1 := Scalar.cmpi .sgt v139 c0_i32_44
  let v142 : BitVec 32 := Scalar.extui v141
  let c0_i32_45 : BitVec 32 := 0#32
  let v143 : BitVec 1 := Scalar.cmpi .slt v139 c0_i32_45
  let v144 : BitVec 32 := Scalar.extui v143
  let v145 : BitVec 32 := Scalar.subi v142 v144
  let c2_i32_43 : BitVec 32 := 2#32
  let c0_i32_46 : BitVec 32 := 0#32
  let v146 : BitVec 1 := Scalar.cmpi .sgt c2_i32_43 c0_i32_46
  let v147 : BitVec 32 := Scalar.extui v146
  let c0_i32_47 : BitVec 32 := 0#32
  let v148 : BitVec 1 := Scalar.cmpi .slt c2_i32_43 c0_i32_47
  let v149 : BitVec 32 := Scalar.extui v148
  let v150 : BitVec 32 := Scalar.subi v147 v149
  let v151 : BitVec 1 := Scalar.cmpi .ne v145 v150
  let v152 : BitVec 32 := Scalar.remsi v139 c2_i32_43
  let c0_i32_48 : BitVec 32 := 0#32
  let v153 : BitVec 1 := Scalar.cmpi .ne v152 c0_i32_48
  let v154 : BitVec 1 := Scalar.andi v151 v153
  let v140 : BitVec 32 := Scalar.divsi v139 c2_i32_43
  let c1_i32_49 : BitVec 32 := 1#32
  let v155 : BitVec 32 := Scalar.subi v140 c1_i32_49
  let v156 : BitVec 32 := Scalar.select v154 v155 v140
  let v157 : BitVec 32 := Scalar.subi v156 c0_i32_50
  let c1_i32_51 : BitVec 32 := 1#32
  let v159 : BitVec 32 := Scalar.divsi v157 c1_i32_51
  let v160 : BitVec 32 := Scalar.muli v159 c1_i32_51
  let v161 : BitVec 32 := Scalar.addi c0_i32_50 v160
  let c1_i32_53 : BitVec 32 := 1#32
  let arg11 : BitVec 32 := Scf.iv v161 c1_i32_53 k0_t2
  let v174 : BitVec 32 := Scalar.muli c2_i32_59 arg11
  let c256_i32_60 : BitVec 32 := 256#32
  let v175 : BitVec 32 := Scalar.muli v174 c256_i32_60
  v175
def k0_off7 (i : grid0.Coords) (k0_t2 : Fin (k0_t2_loop i).trips) : Fin 2 → Nat :=
  let c2_i32_59 : BitVec 32 := 2#32
  let c0_i32_50 : BitVec 32 := 0#32
  let arg2 : BitVec 32 := BitVec.ofNat 32 (i 2).val
  let c1_i32_42 : BitVec 32 := 1#32
  let v139 : BitVec 32 := Scalar.addi arg2 c1_i32_42
  let c0_i32_44 : BitVec 32 := 0#32
  let v141 : BitVec 1 := Scalar.cmpi .sgt v139 c0_i32_44
  let v142 : BitVec 32 := Scalar.extui v141
  let c0_i32_45 : BitVec 32 := 0#32
  let v143 : BitVec 1 := Scalar.cmpi .slt v139 c0_i32_45
  let v144 : BitVec 32 := Scalar.extui v143
  let v145 : BitVec 32 := Scalar.subi v142 v144
  let c2_i32_43 : BitVec 32 := 2#32
  let c0_i32_46 : BitVec 32 := 0#32
  let v146 : BitVec 1 := Scalar.cmpi .sgt c2_i32_43 c0_i32_46
  let v147 : BitVec 32 := Scalar.extui v146
  let c0_i32_47 : BitVec 32 := 0#32
  let v148 : BitVec 1 := Scalar.cmpi .slt c2_i32_43 c0_i32_47
  let v149 : BitVec 32 := Scalar.extui v148
  let v150 : BitVec 32 := Scalar.subi v147 v149
  let v151 : BitVec 1 := Scalar.cmpi .ne v145 v150
  let v152 : BitVec 32 := Scalar.remsi v139 c2_i32_43
  let c0_i32_48 : BitVec 32 := 0#32
  let v153 : BitVec 1 := Scalar.cmpi .ne v152 c0_i32_48
  let v154 : BitVec 1 := Scalar.andi v151 v153
  let v140 : BitVec 32 := Scalar.divsi v139 c2_i32_43
  let c1_i32_49 : BitVec 32 := 1#32
  let v155 : BitVec 32 := Scalar.subi v140 c1_i32_49
  let v156 : BitVec 32 := Scalar.select v154 v155 v140
  let v157 : BitVec 32 := Scalar.subi v156 c0_i32_50
  let c1_i32_51 : BitVec 32 := 1#32
  let v159 : BitVec 32 := Scalar.divsi v157 c1_i32_51
  let v160 : BitVec 32 := Scalar.muli v159 c1_i32_51
  let v161 : BitVec 32 := Scalar.addi c0_i32_50 v160
  let c1_i32_53 : BitVec 32 := 1#32
  let arg11 : BitVec 32 := Scf.iv v161 c1_i32_53 k0_t2
  let v174 : BitVec 32 := Scalar.muli c2_i32_59 arg11
  let c256_i32_60 : BitVec 32 := 256#32
  let v175 : BitVec 32 := Scalar.muli v174 c256_i32_60
  let v176 : BitVec 32 := v175
  let v177 : Index := Scalar.indexCast v176
  let c0_61 : Index := 0#32
  ![v177.toNat, 0]
def k0_off8 (i : grid0.Coords) (k0_t2 : Fin (k0_t2_loop i).trips) : Fin 2 → Nat :=
  let c0_78 : Index := 0#32
  let c2_i32_59 : BitVec 32 := 2#32
  let c0_i32_50 : BitVec 32 := 0#32
  let arg2 : BitVec 32 := BitVec.ofNat 32 (i 2).val
  let c1_i32_42 : BitVec 32 := 1#32
  let v139 : BitVec 32 := Scalar.addi arg2 c1_i32_42
  let c0_i32_44 : BitVec 32 := 0#32
  let v141 : BitVec 1 := Scalar.cmpi .sgt v139 c0_i32_44
  let v142 : BitVec 32 := Scalar.extui v141
  let c0_i32_45 : BitVec 32 := 0#32
  let v143 : BitVec 1 := Scalar.cmpi .slt v139 c0_i32_45
  let v144 : BitVec 32 := Scalar.extui v143
  let v145 : BitVec 32 := Scalar.subi v142 v144
  let c2_i32_43 : BitVec 32 := 2#32
  let c0_i32_46 : BitVec 32 := 0#32
  let v146 : BitVec 1 := Scalar.cmpi .sgt c2_i32_43 c0_i32_46
  let v147 : BitVec 32 := Scalar.extui v146
  let c0_i32_47 : BitVec 32 := 0#32
  let v148 : BitVec 1 := Scalar.cmpi .slt c2_i32_43 c0_i32_47
  let v149 : BitVec 32 := Scalar.extui v148
  let v150 : BitVec 32 := Scalar.subi v147 v149
  let v151 : BitVec 1 := Scalar.cmpi .ne v145 v150
  let v152 : BitVec 32 := Scalar.remsi v139 c2_i32_43
  let c0_i32_48 : BitVec 32 := 0#32
  let v153 : BitVec 1 := Scalar.cmpi .ne v152 c0_i32_48
  let v154 : BitVec 1 := Scalar.andi v151 v153
  let v140 : BitVec 32 := Scalar.divsi v139 c2_i32_43
  let c1_i32_49 : BitVec 32 := 1#32
  let v155 : BitVec 32 := Scalar.subi v140 c1_i32_49
  let v156 : BitVec 32 := Scalar.select v154 v155 v140
  let v157 : BitVec 32 := Scalar.subi v156 c0_i32_50
  let c1_i32_51 : BitVec 32 := 1#32
  let v159 : BitVec 32 := Scalar.divsi v157 c1_i32_51
  let v160 : BitVec 32 := Scalar.muli v159 c1_i32_51
  let v161 : BitVec 32 := Scalar.addi c0_i32_50 v160
  let c1_i32_53 : BitVec 32 := 1#32
  let arg11 : BitVec 32 := Scf.iv v161 c1_i32_53 k0_t2
  let v174 : BitVec 32 := Scalar.muli c2_i32_59 arg11
  let c256_i32_60 : BitVec 32 := 256#32
  let v175 : BitVec 32 := Scalar.muli v174 c256_i32_60
  let v176 : BitVec 32 := v175
  let v240 : Index := Scalar.indexCast v176
  ![0, v240.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S32768x512 : Shape := ⟨2, ![32768, 512]⟩
abbrev S16x2048x8x64 : Shape := ⟨4, ![16, 2048, 8, 64]⟩
abbrev S8 : Shape := ⟨1, ![8]⟩
abbrev S_ : Shape := ⟨0, ![]⟩
abbrev S16x8x256x8x64 : Shape := ⟨5, ![16, 8, 256, 8, 64]⟩
abbrev S16x8x8x64 : Shape := ⟨4, ![16, 8, 8, 64]⟩
abbrev S16x8x2048x8 : Shape := ⟨4, ![16, 8, 2048, 8]⟩
abbrev S2048 : Shape := ⟨1, ![2048]⟩
abbrev S1x8 : Shape := ⟨2, ![1, 8]⟩
abbrev S2048x1 : Shape := ⟨2, ![2048, 1]⟩
abbrev S2048x8 : Shape := ⟨2, ![2048, 8]⟩
abbrev S16x8x2048x3 : Shape := ⟨4, ![16, 8, 2048, 3]⟩
abbrev S16x8x2048x1 : Shape := ⟨4, ![16, 8, 2048, 1]⟩
abbrev S1x1x1x8 : Shape := ⟨4, ![1, 1, 1, 8]⟩
abbrev S1x1x2048x8 : Shape := ⟨4, ![1, 1, 2048, 8]⟩
abbrev S1x2048 : Shape := ⟨2, ![1, 2048]⟩
abbrev S2048x2048 : Shape := ⟨2, ![2048, 2048]⟩
abbrev S16x8x2048x2048 : Shape := ⟨4, ![16, 8, 2048, 2048]⟩
abbrev S8x1x1 : Shape := ⟨3, ![8, 1, 1]⟩
abbrev S1x2048x2048 : Shape := ⟨3, ![1, 2048, 2048]⟩
abbrev S8x2048x2048 : Shape := ⟨3, ![8, 2048, 2048]⟩
abbrev S1x8x2048x2048 : Shape := ⟨4, ![1, 8, 2048, 2048]⟩
abbrev S16x8x2048x8x256 : Shape := ⟨5, ![16, 8, 2048, 8, 256]⟩
abbrev S1x1x2048x2048 : Shape := ⟨4, ![1, 1, 2048, 2048]⟩
abbrev S16x8x2048 : Shape := ⟨3, ![16, 8, 2048]⟩
abbrev S16x8x64x2048 : Shape := ⟨4, ![16, 8, 64, 2048]⟩

abbrev nBuf : Space → Nat
  | .hbm => 113
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S16x2048x8x64, .f32⟩
  | .hbm, ⟨4, _⟩ => ⟨S16x2048x8x64, .f32⟩
  | .hbm, ⟨5, _⟩ => ⟨S16x2048x8x64, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S16x8x256x8x64, .f32⟩
  | .hbm, ⟨20, _⟩ => ⟨S_, .f32⟩
  | .hbm, ⟨21, _⟩ => ⟨S16x8x8x64, .f32⟩
  | .hbm, ⟨22, _⟩ => ⟨S_, .f32⟩
  | .hbm, ⟨23, _⟩ => ⟨S16x8x8x64, .f32⟩
  | .hbm, ⟨24, _⟩ => ⟨S16x8x8x64, .f32⟩
  | .hbm, ⟨25, _⟩ => ⟨S16x8x2048x8, .f32⟩
  | .hbm, ⟨26, _⟩ => ⟨S2048, .i32⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S8, .i32⟩
  | .hbm, ⟨31, _⟩ => ⟨S1x8, .i32⟩
  | .hbm, ⟨32, _⟩ => ⟨S2048x1, .i32⟩
  | .hbm, ⟨33, _⟩ => ⟨S2048x8, .i32⟩
  | .hbm, ⟨34, _⟩ => ⟨S2048x8, .i32⟩
  | .hbm, ⟨35, _⟩ => ⟨S2048x8, .i1⟩
  | .hbm, ⟨36, _⟩ => ⟨S_, .f32⟩
  | .hbm, ⟨37, _⟩ => ⟨S_, .f32⟩
  | .hbm, ⟨38, _⟩ => ⟨S16x8x2048x8, .i1⟩
  | .hbm, ⟨39, _⟩ => ⟨S16x8x2048x8, .f32⟩
  | .hbm, ⟨40, _⟩ => ⟨S16x8x2048x8, .f32⟩
  | .hbm, ⟨41, _⟩ => ⟨S16x8x2048x3, .f32⟩
  | .hbm, ⟨42, _⟩ => ⟨S16x8x2048x3, .i32⟩
  | .hbm, ⟨43, _⟩ => ⟨S16x8x2048x1, .i32⟩
  | .hbm, ⟨44, _⟩ => ⟨S16x8x2048x1, .i32⟩
  | .hbm, ⟨45, _⟩ => ⟨S16x8x2048x1, .i32⟩
  | .hbm, ⟨46, _⟩ => ⟨S1x1x1x8, .i32⟩
  | .hbm, ⟨47, _⟩ => ⟨S16x8x2048x8, .i32⟩
  | .hbm, ⟨48, _⟩ => ⟨S16x8x2048x8, .i32⟩
  | .hbm, ⟨49, _⟩ => ⟨S16x8x2048x8, .i1⟩
  | .hbm, ⟨50, _⟩ => ⟨S1x1x1x8, .i32⟩
  | .hbm, ⟨51, _⟩ => ⟨S16x8x2048x8, .i32⟩
  | .hbm, ⟨52, _⟩ => ⟨S16x8x2048x8, .i32⟩
  | .hbm, ⟨53, _⟩ => ⟨S16x8x2048x8, .i1⟩
  | .hbm, ⟨54, _⟩ => ⟨S16x8x2048x8, .i1⟩
  | .hbm, ⟨55, _⟩ => ⟨S1x1x1x8, .i32⟩
  | .hbm, ⟨56, _⟩ => ⟨S16x8x2048x8, .i32⟩
  | .hbm, ⟨57, _⟩ => ⟨S16x8x2048x8, .i32⟩
  | .hbm, ⟨58, _⟩ => ⟨S16x8x2048x8, .i1⟩
  | .hbm, ⟨59, _⟩ => ⟨S16x8x2048x8, .i1⟩
  | .hbm, ⟨60, _⟩ => ⟨S1x1x2048x8, .i1⟩
  | .hbm, ⟨61, _⟩ => ⟨S16x8x2048x8, .i1⟩
  | .hbm, ⟨62, _⟩ => ⟨S16x8x2048x8, .i1⟩
  | .hbm, ⟨63, _⟩ => ⟨S2048x1, .i32⟩
  | .hbm, ⟨64, _⟩ => ⟨S1x2048, .i32⟩
  | .hbm, ⟨65, _⟩ => ⟨S2048x2048, .i32⟩
  | .hbm, ⟨66, _⟩ => ⟨S2048x2048, .i32⟩
  | .hbm, ⟨67, _⟩ => ⟨S2048x2048, .i32⟩
  | .hbm, ⟨68, _⟩ => ⟨S16x8x2048x2048, .f32⟩
  | .hbm, ⟨69, _⟩ => ⟨S_, .f32⟩
  | .hbm, ⟨70, _⟩ => ⟨S16x8x2048x2048, .f32⟩
  | .hbm, ⟨71, _⟩ => ⟨S16x8x2048x2048, .f32⟩
  | .hbm, ⟨72, _⟩ => ⟨S8x1x1, .f32⟩
  | .hbm, ⟨73, _⟩ => ⟨S2048x2048, .f32⟩
  | .hbm, ⟨74, _⟩ => ⟨S1x2048x2048, .f32⟩
  | .hbm, ⟨75, _⟩ => ⟨S8x2048x2048, .f32⟩
  | .hbm, ⟨76, _⟩ => ⟨S8x2048x2048, .f32⟩
  | .hbm, ⟨77, _⟩ => ⟨S8x2048x2048, .f32⟩
  | .hbm, ⟨78, _⟩ => ⟨S1x8x2048x2048, .f32⟩
  | .hbm, ⟨79, _⟩ => ⟨S16x8x2048x2048, .f32⟩
  | .hbm, ⟨80, _⟩ => ⟨S16x8x2048x2048, .f32⟩
  | .hbm, ⟨81, _⟩ => ⟨S2048x1, .i32⟩
  | .hbm, ⟨82, _⟩ => ⟨S1x2048, .i32⟩
  | .hbm, ⟨83, _⟩ => ⟨S2048x2048, .i32⟩
  | .hbm, ⟨84, _⟩ => ⟨S2048x2048, .i32⟩
  | .hbm, ⟨85, _⟩ => ⟨S2048x2048, .i1⟩
  | .hbm, ⟨86, _⟩ => ⟨S_, .i32⟩
  | .hbm, ⟨87, _⟩ => ⟨S2048x2048, .i32⟩
  | .hbm, ⟨88, _⟩ => ⟨S2048x2048, .i1⟩
  | .hbm, ⟨89, _⟩ => ⟨S2048x2048, .i1⟩
  | .hbm, ⟨90, _⟩ => ⟨S16x8x2048x8x256, .i1⟩
  | .hbm, ⟨91, _⟩ => ⟨S16x8x2048x2048, .i1⟩
  | .hbm, ⟨92, _⟩ => ⟨S1x1x2048x2048, .i1⟩
  | .hbm, ⟨93, _⟩ => ⟨S16x8x2048x2048, .i1⟩
  | .hbm, ⟨94, _⟩ => ⟨S16x8x2048x2048, .i1⟩
  | .hbm, ⟨95, _⟩ => ⟨S_, .f32⟩
  | .hbm, ⟨96, _⟩ => ⟨S_, .f32⟩
  | .hbm, ⟨97, _⟩ => ⟨S16x8x2048x2048, .f32⟩
  | .hbm, ⟨98, _⟩ => ⟨S16x8x2048x2048, .f32⟩
  | .hbm, ⟨99, _⟩ => ⟨S_, .f32⟩
  | .hbm, ⟨100, _⟩ => ⟨S16x8x2048, .f32⟩
  | .hbm, ⟨101, _⟩ => ⟨S16x8x2048x1, .f32⟩
  | .hbm, ⟨102, _⟩ => ⟨S16x8x2048x2048, .f32⟩
  | .hbm, ⟨103, _⟩ => ⟨S16x8x2048x2048, .f32⟩
  | .hbm, ⟨104, _⟩ => ⟨S16x8x2048x2048, .f32⟩
  | .hbm, ⟨105, _⟩ => ⟨S_, .f32⟩
  | .hbm, ⟨106, _⟩ => ⟨S16x8x2048, .f32⟩
  | .hbm, ⟨107, _⟩ => ⟨S16x8x2048x1, .f32⟩
  | .hbm, ⟨108, _⟩ => ⟨S16x8x2048x2048, .f32⟩
  | .hbm, ⟨109, _⟩ => ⟨S16x8x2048x2048, .f32⟩
  | .hbm, ⟨110, _⟩ => ⟨S16x8x64x2048, .f32⟩
  | .hbm, ⟨111, _⟩ => ⟨S16x2048x8x64, .f32⟩
  | .hbm, ⟨112, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v26 : Ref sig .tc := ⟨.hbm, 40, rfl⟩
abbrev main_values : Ref sig .tc := ⟨.hbm, 41, rfl⟩
abbrev main_indices : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_6 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_c_7 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_8 : Ref sig .tc := ⟨.hbm, 95, rfl⟩
abbrev main_call1_v0 : Ref sig .tc := ⟨.hbm, 96, rfl⟩
abbrev main_call1_v1 : Ref sig .tc := ⟨.hbm, 97, rfl⟩
abbrev main_v77 : Ref sig .tc := ⟨.hbm, 98, rfl⟩
abbrev main_cst_9 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_10 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩

abbrev nD : Nat := 1
abbrev τ : Topo := Topo.v7x

variable {F : FTy → Type} [FloatOps F]
-- ==== Inproj.lean ====
abbrev S16x2048x1024 : Shape := ⟨3, ![16, 2048, 1024]⟩
abbrev S1x1024 : Shape := ⟨2, ![1, 1024]⟩
abbrev S1x1024x3600 : Shape := ⟨3, ![1, 1024, 3600]⟩
abbrev S1x64 : Shape := ⟨2, ![1, 64]⟩
abbrev S1x8 : Shape := ⟨2, ![1, 8]⟩
abbrev S1024x3600 : Shape := ⟨2, ![1024, 3600]⟩
abbrev S_ : Shape := ⟨0, ![]⟩
abbrev S1024x3712 : Shape := ⟨2, ![1024, 3712]⟩
abbrev S64 : Shape := ⟨1, ![64]⟩
abbrev S8x64 : Shape := ⟨2, ![8, 64]⟩
abbrev S512 : Shape := ⟨1, ![512]⟩
abbrev S1x512 : Shape := ⟨2, ![1, 512]⟩
abbrev S8 : Shape := ⟨1, ![8]⟩
abbrev S128 : Shape := ⟨1, ![128]⟩
abbrev S1x128 : Shape := ⟨2, ![1, 128]⟩
abbrev S32768x1024 : Shape := ⟨2, ![32768, 1024]⟩
abbrev S1024 : Shape := ⟨1, ![1024]⟩
abbrev S32768x512 : Shape := ⟨2, ![32768, 512]⟩
abbrev S32768x1536 : Shape := ⟨2, ![32768, 1536]⟩
abbrev S32768x128 : Shape := ⟨2, ![32768, 128]⟩
abbrev S512x1024 : Shape := ⟨2, ![512, 1024]⟩
abbrev S512x512 : Shape := ⟨2, ![512, 512]⟩
abbrev S512x1536 : Shape := ⟨2, ![512, 1536]⟩
abbrev S512x128 : Shape := ⟨2, ![512, 128]⟩
abbrev S512x1 : Shape := ⟨2, ![512, 1]⟩
abbrev S512x3712 : Shape := ⟨2, ![512, 3712]⟩
abbrev S256x256 : Shape := ⟨2, ![256, 256]⟩
abbrev S512x256 : Shape := ⟨2, ![512, 256]⟩

abbrev nBuf : Space → Nat
  | .hbm => 43
  | .vmem => 20
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x3600, .f32⟩
  | .hbm, ⟨3, _⟩ => ⟨S1x64, .f32⟩
  | .hbm, ⟨4, _⟩ => ⟨S1x64, .f32⟩
  | .hbm, ⟨5, _⟩ => ⟨S1x8, .f32⟩
  | .hbm, ⟨6, _⟩ => ⟨S1x8, .f32⟩
  | .hbm, ⟨7, _⟩ => ⟨S1024x3600, .f32⟩
  | .hbm, ⟨8, _⟩ => ⟨S_, .i32⟩
  | .hbm, ⟨9, _⟩ => ⟨S_, .f32⟩
  | .hbm, ⟨10, _⟩ => ⟨S1024x3712, .f32⟩
  | .hbm, ⟨11, _⟩ => ⟨S1024x3712, .bf16⟩
  | .hbm, ⟨12, _⟩ => ⟨S64, .f32⟩
  | .hbm, ⟨13, _⟩ => ⟨S1x64, .f32⟩
  | .hbm, ⟨14, _⟩ => ⟨S8x64, .f32⟩
  | .hbm, ⟨15, _⟩ => ⟨S512, .f32⟩
  | .hbm, ⟨16, _⟩ => ⟨S1x512, .f32⟩
  | .hbm, ⟨17, _⟩ => ⟨S64, .f32⟩
  | .hbm, ⟨18, _⟩ => ⟨S1x64, .f32⟩
  | .hbm, ⟨19, _⟩ => ⟨S8x64, .f32⟩
  | .hbm, ⟨20, _⟩ => ⟨S512, .f32⟩
  | .hbm, ⟨21, _⟩ => ⟨S1x512, .f32⟩
  | .hbm, ⟨22, _⟩ => ⟨S8, .f32⟩
  | .hbm, ⟨23, _⟩ => ⟨S8, .f32⟩
  | .hbm, ⟨24, _⟩ => ⟨S8, .f32⟩
  | .hbm, ⟨25, _⟩ => ⟨S_, .i32⟩
  | .hbm, ⟨26, _⟩ => ⟨S_, .f32⟩
  | .hbm, ⟨27, _⟩ => ⟨S128, .f32⟩
  | .hbm, ⟨28, _⟩ => ⟨S1x128, .f32⟩
  | .hbm, ⟨29, _⟩ => ⟨S8, .f32⟩
  | .hbm, ⟨30, _⟩ => ⟨S_, .i32⟩
  | .hbm, ⟨31, _⟩ => ⟨S_, .f32⟩
  | .hbm, ⟨32, _⟩ => ⟨S128, .f32⟩
  | .hbm, ⟨33, _⟩ => ⟨S1x128, .f32⟩
  | .hbm, ⟨34, _⟩ => ⟨S32768x1024, .f32⟩
  | .hbm, ⟨35, _⟩ => ⟨S1024, .f32⟩
  | .hbm, ⟨36, _⟩ => ⟨S1x1024, .f32⟩
  | .hbm, ⟨37, _⟩ => ⟨S32768x512, .f32⟩
  | .hbm, ⟨38, _⟩ => ⟨S32768x512, .f32⟩
  | .hbm, ⟨39, _⟩ => ⟨S32768x512, .f32⟩
  | .hbm, ⟨40, _⟩ => ⟨S32768x1536, .f32⟩
  | .hbm, ⟨41, _⟩ => ⟨S32768x512, .f32⟩
  | .hbm, ⟨42, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3712, .bf16⟩
  | .local _ .vmem, ⟨4, _⟩ => ⟨S1x512, .f32⟩
  | .local _ .vmem, ⟨5, _⟩ => ⟨S1x512, .f32⟩
  | .local _ .vmem, ⟨6, _⟩ => ⟨S1x128, .f32⟩
  | .local _ .vmem, ⟨7, _⟩ => ⟨S1x128, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x1536, .f32⟩
  | .local _ .vmem, ⟨15, _⟩ => ⟨S512x1536, .f32⟩
  | .local _ .vmem, ⟨16, _⟩ => ⟨S512x512, .f32⟩
  | .local _ .vmem, ⟨17, _⟩ => ⟨S512x512, .f32⟩
  | .local _ .vmem, ⟨18, _⟩ => ⟨S512x128, .f32⟩
  | .local _ .vmem, ⟨19, _⟩ => ⟨S512x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_0 : Ref sig .tc := ⟨.hbm, 25, rfl⟩
abbrev main_call1_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_1 : Ref sig .tc := ⟨.hbm, 30, rfl⟩
abbrev main_call2_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24_0 : Ref sig .tc := ⟨.hbm, 37, rfl⟩
abbrev main_v24_1 : Ref sig .tc := ⟨.hbm, 38, rfl⟩
abbrev main_v24_2 : Ref sig .tc := ⟨.hbm, 39, rfl⟩
abbrev main_v24_3 : Ref sig .tc := ⟨.hbm, 40, rfl⟩
abbrev main_v24_4 : Ref sig .tc := ⟨.hbm, 41, rfl⟩
abbrev main_v24_5 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== InprojReferenceIdeal.lean ====
abbrev S16x2048x1024 : Shape := ⟨3, ![16, 2048, 1024]⟩
abbrev S1x1024 : Shape := ⟨2, ![1, 1024]⟩
abbrev S1x1024x3600 : Shape := ⟨3, ![1, 1024, 3600]⟩
abbrev S1x64 : Shape := ⟨2, ![1, 64]⟩
abbrev S1x8 : Shape := ⟨2, ![1, 8]⟩
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x3600 : Shape := ⟨2, ![1024, 3600]⟩
abbrev S32768x3600 : Shape := ⟨2, ![32768, 3600]⟩
abbrev S32768x512 : Shape := ⟨2, ![32768, 512]⟩
abbrev S32768x8x64 : Shape := ⟨3, ![32768, 8, 64]⟩
abbrev S64 : Shape := ⟨1, ![64]⟩
abbrev S32768x8 : Shape := ⟨2, ![32768, 8]⟩
abbrev S32768x8x1 : Shape := ⟨3, ![32768, 8, 1]⟩
abbrev S1x1x64 : Shape := ⟨3, ![1, 1, 64]⟩
abbrev S8 : Shape := ⟨1, ![8]⟩
abbrev S32768x112 : Shape := ⟨2, ![32768, 112]⟩
abbrev S32768x128 : Shape := ⟨2, ![32768, 128]⟩
abbrev S32768x1536 : Shape := ⟨2, ![32768, 1536]⟩

abbrev nBuf : Space → Nat
  | .hbm => 104
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x3600, .f32⟩
  | .hbm, ⟨3, _⟩ => ⟨S1x64, .f32⟩
  | .hbm, ⟨4, _⟩ => ⟨S1x64, .f32⟩
  | .hbm, ⟨5, _⟩ => ⟨S1x8, .f32⟩
  | .hbm, ⟨6, _⟩ => ⟨S1x8, .f32⟩
  | .hbm, ⟨7, _⟩ => ⟨S32768x1024, .f32⟩
  | .hbm, ⟨8, _⟩ => ⟨S1024, .f32⟩
  | .hbm, ⟨9, _⟩ => ⟨S32768x1024, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S1x1024, .f32⟩
  | .hbm, ⟨23, _⟩ => ⟨S32768x1024, .f32⟩
  | .hbm, ⟨24, _⟩ => ⟨S32768x1024, .f32⟩
  | .hbm, ⟨25, _⟩ => ⟨S1024x3600, .f32⟩
  | .hbm, ⟨26, _⟩ => ⟨S32768x3600, .f32⟩
  | .hbm, ⟨27, _⟩ => ⟨S32768x512, .f32⟩
  | .hbm, ⟨28, _⟩ => ⟨S32768x8x64, .f32⟩
  | .hbm, ⟨29, _⟩ => ⟨S64, .f32⟩
  | .hbm, ⟨30, _⟩ => ⟨S32768x8x64, .f32⟩
  | .hbm, ⟨31, _⟩ => ⟨S_, .f32⟩
  | .hbm, ⟨32, _⟩ => ⟨S32768x8, .f32⟩
  | .hbm, ⟨33, _⟩ => ⟨S32768x8x1, .f32⟩
  | .hbm, ⟨34, _⟩ => ⟨S_, .f32⟩
  | .hbm, ⟨35, _⟩ => ⟨S32768x8x1, .f32⟩
  | .hbm, ⟨36, _⟩ => ⟨S32768x8x1, .f32⟩
  | .hbm, ⟨37, _⟩ => ⟨S_, .f32⟩
  | .hbm, ⟨38, _⟩ => ⟨S32768x8x1, .f32⟩
  | .hbm, ⟨39, _⟩ => ⟨S32768x8x1, .f32⟩
  | .hbm, ⟨40, _⟩ => ⟨S32768x8x1, .f32⟩
  | .hbm, ⟨41, _⟩ => ⟨S32768x8x64, .f32⟩
  | .hbm, ⟨42, _⟩ => ⟨S32768x8x64, .f32⟩
  | .hbm, ⟨43, _⟩ => ⟨S1x1x64, .f32⟩
  | .hbm, ⟨44, _⟩ => ⟨S32768x8x64, .f32⟩
  | .hbm, ⟨45, _⟩ => ⟨S32768x8x64, .f32⟩
  | .hbm, ⟨46, _⟩ => ⟨S32768x512, .f32⟩
  | .hbm, ⟨47, _⟩ => ⟨S32768x512, .f32⟩
  | .hbm, ⟨48, _⟩ => ⟨S32768x8x64, .f32⟩
  | .hbm, ⟨49, _⟩ => ⟨S64, .f32⟩
  | .hbm, ⟨50, _⟩ => ⟨S32768x8x64, .f32⟩
  | .hbm, ⟨51, _⟩ => ⟨S_, .f32⟩
  | .hbm, ⟨52, _⟩ => ⟨S32768x8, .f32⟩
  | .hbm, ⟨53, _⟩ => ⟨S32768x8x1, .f32⟩
  | .hbm, ⟨54, _⟩ => ⟨S_, .f32⟩
  | .hbm, ⟨55, _⟩ => ⟨S32768x8x1, .f32⟩
  | .hbm, ⟨56, _⟩ => ⟨S32768x8x1, .f32⟩
  | .hbm, ⟨57, _⟩ => ⟨S_, .f32⟩
  | .hbm, ⟨58, _⟩ => ⟨S32768x8x1, .f32⟩
  | .hbm, ⟨59, _⟩ => ⟨S32768x8x1, .f32⟩
  | .hbm, ⟨60, _⟩ => ⟨S32768x8x1, .f32⟩
  | .hbm, ⟨61, _⟩ => ⟨S32768x8x64, .f32⟩
  | .hbm, ⟨62, _⟩ => ⟨S32768x8x64, .f32⟩
  | .hbm, ⟨63, _⟩ => ⟨S1x1x64, .f32⟩
  | .hbm, ⟨64, _⟩ => ⟨S32768x8x64, .f32⟩
  | .hbm, ⟨65, _⟩ => ⟨S32768x8x64, .f32⟩
  | .hbm, ⟨66, _⟩ => ⟨S32768x512, .f32⟩
  | .hbm, ⟨67, _⟩ => ⟨S32768x8, .f32⟩
  | .hbm, ⟨68, _⟩ => ⟨S8, .f32⟩
  | .hbm, ⟨69, _⟩ => ⟨S1x8, .f32⟩
  | .hbm, ⟨70, _⟩ => ⟨S32768x8, .f32⟩
  | .hbm, ⟨71, _⟩ => ⟨S32768x8, .f32⟩
  | .hbm, ⟨72, _⟩ => ⟨S8, .f32⟩
  | .hbm, ⟨73, _⟩ => ⟨S8, .f32⟩
  | .hbm, ⟨74, _⟩ => ⟨S8, .f32⟩
  | .hbm, ⟨75, _⟩ => ⟨S_, .f32⟩
  | .hbm, ⟨76, _⟩ => ⟨S32768x8, .f32⟩
  | .hbm, ⟨77, _⟩ => ⟨S32768x8, .f32⟩
  | .hbm, ⟨78, _⟩ => ⟨S32768x8, .f32⟩
  | .hbm, ⟨79, _⟩ => ⟨S32768x8, .f32⟩
  | .hbm, ⟨80, _⟩ => ⟨S32768x8, .f32⟩
  | .hbm, ⟨81, _⟩ => ⟨S_, .f32⟩
  | .hbm, ⟨82, _⟩ => ⟨S32768x8, .f32⟩
  | .hbm, ⟨83, _⟩ => ⟨S32768x8, .f32⟩
  | .hbm, ⟨84, _⟩ => ⟨S32768x8, .f32⟩
  | .hbm, ⟨85, _⟩ => ⟨S32768x8, .f32⟩
  | .hbm, ⟨86, _⟩ => ⟨S1x8, .f32⟩
  | .hbm, ⟨87, _⟩ => ⟨S32768x8, .f32⟩
  | .hbm, ⟨88, _⟩ => ⟨S32768x8, .f32⟩
  | .hbm, ⟨89, _⟩ => ⟨S32768x8, .f32⟩
  | .hbm, ⟨90, _⟩ => ⟨S32768x8, .f32⟩
  | .hbm, ⟨91, _⟩ => ⟨S32768x8, .f32⟩
  | .hbm, ⟨92, _⟩ => ⟨S_, .f32⟩
  | .hbm, ⟨93, _⟩ => ⟨S32768x8, .f32⟩
  | .hbm, ⟨94, _⟩ => ⟨S32768x8, .f32⟩
  | .hbm, ⟨95, _⟩ => ⟨S_, .f32⟩
  | .hbm, ⟨96, _⟩ => ⟨S32768x8, .f32⟩
  | .hbm, ⟨97, _⟩ => ⟨S32768x8, .f32⟩
  | .hbm, ⟨98, _⟩ => ⟨S_, .f32⟩
  | .hbm, ⟨99, _⟩ => ⟨S32768x112, .f32⟩
  | .hbm, ⟨100, _⟩ => ⟨S32768x128, .f32⟩
  | .hbm, ⟨101, _⟩ => ⟨S32768x512, .f32⟩
  | .hbm, ⟨102, _⟩ => ⟨S32768x1536, .f32⟩
  | .hbm, ⟨103, _⟩ => ⟨S32768x512, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_8 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_9 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_10 : Ref sig .tc := ⟨.hbm, 92, rfl⟩
abbrev main_v74 : Ref sig .tc := ⟨.hbm, 93, rfl⟩
abbrev main_v75 : Ref sig .tc := ⟨.hbm, 94, rfl⟩
abbrev main_cst_11 : Ref sig .tc := ⟨.hbm, 95, rfl⟩
abbrev main_v76 : Ref sig .tc := ⟨.hbm, 96, rfl⟩
abbrev main_v77 : Ref sig .tc := ⟨.hbm, 97, rfl⟩
abbrev main_cst_12 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩

abbrev nD : Nat := 1
abbrev τ : Topo := Topo.v7x

variable {F : FTy → Type} [FloatOps F]
-- ==== Experts.lean ====
abbrev S548 : Shape := ⟨1, ![548]⟩
abbrev S1 : Shape := ⟨1, ![1]⟩
abbrev S140288x1024 : Shape := ⟨2, ![140288, 1024]⟩
abbrev S32x1024x1024 : Shape := ⟨3, ![32, 1024, 1024]⟩
abbrev S32x1x1024 : Shape := ⟨3, ![32, 1, 1024]⟩
abbrev S256x1024 : Shape := ⟨2, ![256, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 8
  | .vmem => 16
  | .smem => 2
  | _ => 0

abbrev bufTy : (tb : Table) → Fin (tcTables nBuf tb) → BufTy
  | .hbm, ⟨0, _⟩ => ⟨S140288x1024, .f32⟩
  | .hbm, ⟨1, _⟩ => ⟨S32x1024x1024, .bf16⟩
  | .hbm, ⟨2, _⟩ => ⟨S32x1024x1024, .bf16⟩
  | .hbm, ⟨3, _⟩ => ⟨S32x1024x1024, .bf16⟩
  | .hbm, ⟨4, _⟩ => ⟨S32x1x1024, .f32⟩
  | .hbm, ⟨5, _⟩ => ⟨S32x1x1024, .f32⟩
  | .hbm, ⟨6, _⟩ => ⟨S32x1x1024, .f32⟩
  | .hbm, ⟨7, _⟩ => ⟨S140288x1024, .f32⟩
  | .local _ .vmem, ⟨0, _⟩ => ⟨S256x1024, .f32⟩
  | .local _ .vmem, ⟨1, _⟩ => ⟨S256x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S256x1024, .f32⟩
  | .local _ .vmem, ⟨15, _⟩ => ⟨S256x1024, .f32⟩
  | .local _ .smem, ⟨0, _⟩ => ⟨S548, .i32⟩
  | .local _ .smem, ⟨1, _⟩ => ⟨S1, .i32⟩
  | _, _ => ⟨S140288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v0 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![548], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S548.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S548) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S548.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S548) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S548.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S548) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S548.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S548) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S548.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S548) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S548.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S548) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ExpertsReferenceIdeal.lean ====
abbrev S548 : Shape := ⟨1, ![548]⟩
abbrev S1 : Shape := ⟨1, ![1]⟩
abbrev S140288x1024 : Shape := ⟨2, ![140288, 1024]⟩
abbrev S32x1024x1024 : Shape := ⟨3, ![32, 1024, 1024]⟩
abbrev S32x1x1024 : Shape := ⟨3, ![32, 1, 1024]⟩
abbrev S548x256x1024 : Shape := ⟨3, ![548, 256, 1024]⟩
abbrev S_ : Shape := ⟨0, ![]⟩
abbrev S548x1 : Shape := ⟨2, ![548, 1]⟩
abbrev S548x1024x1024 : Shape := ⟨3, ![548, 1024, 1024]⟩
abbrev S548x1x1024 : Shape := ⟨3, ![548, 1, 1024]⟩
abbrev S548x1x1 : Shape := ⟨3, ![548, 1, 1]⟩

abbrev nBuf : Space → Nat
  | .hbm => 114
  | .vmem => 0
  | .smem => 0
  | _ => 0

abbrev bufTy : (tb : Table) → Fin (tcTables nBuf tb) → BufTy
  | .hbm, ⟨0, _⟩ => ⟨S548, .i32⟩
  | .hbm, ⟨1, _⟩ => ⟨S1, .i32⟩
  | .hbm, ⟨2, _⟩ => ⟨S140288x1024, .f32⟩
  | .hbm, ⟨3, _⟩ => ⟨S32x1024x1024, .bf16⟩
  | .hbm, ⟨4, _⟩ => ⟨S32x1024x1024, .bf16⟩
  | .hbm, ⟨5, _⟩ => ⟨S32x1024x1024, .bf16⟩
  | .hbm, ⟨6, _⟩ => ⟨S32x1x1024, .f32⟩
  | .hbm, ⟨7, _⟩ => ⟨S32x1x1024, .f32⟩
  | .hbm, ⟨8, _⟩ => ⟨S32x1x1024, .f32⟩
  | .hbm, ⟨9, _⟩ => ⟨S548x256x1024, .f32⟩
  | .hbm, ⟨10, _⟩ => ⟨S_, .i32⟩
  | .hbm, ⟨11, _⟩ => ⟨S548, .i32⟩
  | .hbm, ⟨12, _⟩ => ⟨S548, .i1⟩
  | .hbm, ⟨13, _⟩ => ⟨S_, .i32⟩
  | .hbm, ⟨14, _⟩ => ⟨S548, .i32⟩
  | .hbm, ⟨15, _⟩ => ⟨S548, .i32⟩
  | .hbm, ⟨16, _⟩ => ⟨S548, .i32⟩
  | .hbm, ⟨17, _⟩ => ⟨S548x1, .i32⟩
  | .hbm, ⟨18, _⟩ => ⟨S548x1024x1024, .bf16⟩
  | .hbm, ⟨19, _⟩ => ⟨S548x1024x1024, .f32⟩
  | .hbm, ⟨20, _⟩ => ⟨S548x256x1024, .f32⟩
  | .hbm, ⟨21, _⟩ => ⟨S_, .i32⟩
  | .hbm, ⟨22, _⟩ => ⟨S548, .i32⟩
  | .hbm, ⟨23, _⟩ => ⟨S548, .i1⟩
  | .hbm, ⟨24, _⟩ => ⟨S_, .i32⟩
  | .hbm, ⟨25, _⟩ => ⟨S548, .i32⟩
  | .hbm, ⟨26, _⟩ => ⟨S548, .i32⟩
  | .hbm, ⟨27, _⟩ => ⟨S548, .i32⟩
  | .hbm, ⟨28, _⟩ => ⟨S548x1, .i32⟩
  | .hbm, ⟨29, _⟩ => ⟨S548x1x1024, .f32⟩
  | .hbm, ⟨30, _⟩ => ⟨S548x256x1024, .f32⟩
  | .hbm, ⟨31, _⟩ => ⟨S548x256x1024, .f32⟩
  | .hbm, ⟨32, _⟩ => ⟨S_, .f32⟩
  | .hbm, ⟨33, _⟩ => ⟨S548x256x1024, .f32⟩
  | .hbm, ⟨34, _⟩ => ⟨S548x256x1024, .f32⟩
  | .hbm, ⟨35, _⟩ => ⟨S_, .i32⟩
  | .hbm, ⟨36, _⟩ => ⟨S548, .i32⟩
  | .hbm, ⟨37, _⟩ => ⟨S548, .i1⟩
  | .hbm, ⟨38, _⟩ => ⟨S_, .i32⟩
  | .hbm, ⟨39, _⟩ => ⟨S548, .i32⟩
  | .hbm, ⟨40, _⟩ => ⟨S548, .i32⟩
  | .hbm, ⟨41, _⟩ => ⟨S548, .i32⟩
  | .hbm, ⟨42, _⟩ => ⟨S548x1, .i32⟩
  | .hbm, ⟨43, _⟩ => ⟨S548x1024x1024, .bf16⟩
  | .hbm, ⟨44, _⟩ => ⟨S548x1024x1024, .f32⟩
  | .hbm, ⟨45, _⟩ => ⟨S548x256x1024, .f32⟩
  | .hbm, ⟨46, _⟩ => ⟨S_, .i32⟩
  | .hbm, ⟨47, _⟩ => ⟨S548, .i32⟩
  | .hbm, ⟨48, _⟩ => ⟨S548, .i1⟩
  | .hbm, ⟨49, _⟩ => ⟨S_, .i32⟩
  | .hbm, ⟨50, _⟩ => ⟨S548, .i32⟩
  | .hbm, ⟨51, _⟩ => ⟨S548, .i32⟩
  | .hbm, ⟨52, _⟩ => ⟨S548, .i32⟩
  | .hbm, ⟨53, _⟩ => ⟨S548x1, .i32⟩
  | .hbm, ⟨54, _⟩ => ⟨S548x1x1024, .f32⟩
  | .hbm, ⟨55, _⟩ => ⟨S548x256x1024, .f32⟩
  | .hbm, ⟨56, _⟩ => ⟨S548x256x1024, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S548x256x1024, .f32⟩
  | .hbm, ⟨61, _⟩ => ⟨S548x256x1024, .f32⟩
  | .hbm, ⟨62, _⟩ => ⟨S_, .f32⟩
  | .hbm, ⟨63, _⟩ => ⟨S548x256x1024, .f32⟩
  | .hbm, ⟨64, _⟩ => ⟨S548x256x1024, .f32⟩
  | .hbm, ⟨65, _⟩ => ⟨S_, .f32⟩
  | .hbm, ⟨66, _⟩ => ⟨S548x256x1024, .f32⟩
  | .hbm, ⟨67, _⟩ => ⟨S548x256x1024, .f32⟩
  | .hbm, ⟨68, _⟩ => ⟨S548x256x1024, .f32⟩
  | .hbm, ⟨69, _⟩ => ⟨S548x256x1024, .f32⟩
  | .hbm, ⟨70, _⟩ => ⟨S_, .f32⟩
  | .hbm, ⟨71, _⟩ => ⟨S548x256x1024, .f32⟩
  | .hbm, ⟨72, _⟩ => ⟨S548x256x1024, .f32⟩
  | .hbm, ⟨73, _⟩ => ⟨S_, .f32⟩
  | .hbm, ⟨74, _⟩ => ⟨S548x256x1024, .f32⟩
  | .hbm, ⟨75, _⟩ => ⟨S548x256x1024, .f32⟩
  | .hbm, ⟨76, _⟩ => ⟨S548x256x1024, .f32⟩
  | .hbm, ⟨77, _⟩ => ⟨S_, .f32⟩
  | .hbm, ⟨78, _⟩ => ⟨S548x256x1024, .f32⟩
  | .hbm, ⟨79, _⟩ => ⟨S548x256x1024, .f32⟩
  | .hbm, ⟨80, _⟩ => ⟨S548x256x1024, .f32⟩
  | .hbm, ⟨81, _⟩ => ⟨S_, .i32⟩
  | .hbm, ⟨82, _⟩ => ⟨S548, .i32⟩
  | .hbm, ⟨83, _⟩ => ⟨S548, .i1⟩
  | .hbm, ⟨84, _⟩ => ⟨S_, .i32⟩
  | .hbm, ⟨85, _⟩ => ⟨S548, .i32⟩
  | .hbm, ⟨86, _⟩ => ⟨S548, .i32⟩
  | .hbm, ⟨87, _⟩ => ⟨S548, .i32⟩
  | .hbm, ⟨88, _⟩ => ⟨S548x1, .i32⟩
  | .hbm, ⟨89, _⟩ => ⟨S548x1024x1024, .bf16⟩
  | .hbm, ⟨90, _⟩ => ⟨S548x1024x1024, .f32⟩
  | .hbm, ⟨91, _⟩ => ⟨S548x256x1024, .f32⟩
  | .hbm, ⟨92, _⟩ => ⟨S_, .i32⟩
  | .hbm, ⟨93, _⟩ => ⟨S548, .i32⟩
  | .hbm, ⟨94, _⟩ => ⟨S548, .i1⟩
  | .hbm, ⟨95, _⟩ => ⟨S_, .i32⟩
  | .hbm, ⟨96, _⟩ => ⟨S548, .i32⟩
  | .hbm, ⟨97, _⟩ => ⟨S548, .i32⟩
  | .hbm, ⟨98, _⟩ => ⟨S548, .i32⟩
  | .hbm, ⟨99, _⟩ => ⟨S548x1, .i32⟩
  | .hbm, ⟨100, _⟩ => ⟨S548x1x1024, .f32⟩
  | .hbm, ⟨101, _⟩ => ⟨S548x256x1024, .f32⟩
  | .hbm, ⟨102, _⟩ => ⟨S548x256x1024, .f32⟩
  | .hbm, ⟨103, _⟩ => ⟨S548, .i32⟩
  | .hbm, ⟨104, _⟩ => ⟨S_, .i32⟩
  | .hbm, ⟨105, _⟩ => ⟨S548, .i32⟩
  | .hbm, ⟨106, _⟩ => ⟨S548, .i1⟩
  | .hbm, ⟨107, _⟩ => ⟨S548x1x1, .i1⟩
  | .hbm, ⟨108, _⟩ => ⟨S_, .f32⟩
  | .hbm, ⟨109, _⟩ => ⟨S_, .f32⟩
  | .hbm, ⟨110, _⟩ => ⟨S548x256x1024, .i1⟩
  | .hbm, ⟨111, _⟩ => ⟨S548x256x1024, .f32⟩
  | .hbm, ⟨112, _⟩ => ⟨S548x256x1024, .f32⟩
  | .hbm, ⟨113, _⟩ => ⟨S140288x1024, .f32⟩
  | _, _ => ⟨S548, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_cst_8 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_10 : Ref sig .tc := ⟨.hbm, 70, rfl⟩
abbrev main_v44 : Ref sig .tc := ⟨.hbm, 71, rfl⟩
abbrev main_v45 : Ref sig .tc := ⟨.hbm, 72, rfl⟩
abbrev main_cst_11 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_12 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_13 : Ref sig .tc := ⟨.hbm, 81, rfl⟩
abbrev main_v52 : Ref sig .tc := ⟨.hbm, 82, rfl⟩
abbrev main_v53 : Ref sig .tc := ⟨.hbm, 83, rfl⟩
abbrev main_c_14 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_15 : Ref sig .tc := ⟨.hbm, 92, rfl⟩
abbrev main_v61 : Ref sig .tc := ⟨.hbm, 93, rfl⟩
abbrev main_v62 : Ref sig .tc := ⟨.hbm, 94, rfl⟩
abbrev main_c_16 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_17 : Ref sig .tc := ⟨.hbm, 108, rfl⟩
abbrev main_call1_v0 : Ref sig .tc := ⟨.hbm, 109, rfl⟩
abbrev main_call1_v1 : Ref sig .tc := ⟨.hbm, 110, rfl⟩
abbrev main_call1_v2 : Ref sig .tc := ⟨.hbm, 111, rfl⟩
abbrev main_v75 : Ref sig .tc := ⟨.hbm, 112, rfl⟩
abbrev main_v76 : Ref sig .tc := ⟨.hbm, 113, rfl⟩

abbrev nD : Nat := 1
abbrev τ : Topo := Topo.v7x

variable {F : FTy → Type} [FloatOps F]
-- ==== Proof.Moba.RunFirst.lean ====
module

public import proofs.«01_k».proof.Proof.Gen.KernelIdeal.Frame.Runs
public import proofs.«01_k».proof.Proof.Gen.KernelIdeal.Loops

@[expose] public section

set_option maxRecDepth 16384

noncomputable section

namespace Cert.Moba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The resources of the runs below. -/
local notation "𝕄" => MT nD τ sig Unit (Elt F) ℕ (UR sig nD τ) ℕ

set_option maxHeartbeats 4000000 in
/-- The body at the first query block of a pair of heads: the mean keys and the transposed values are computed, then used. The pieces
    written into the output block, the mean keys and the transposed values are what the run finds. -/
def runFirst (c : Dev nD) (i : grid0.Coords) (arg3 : Memref sig .tc .smem S8 .f32) (harg3 : arg3.IsWhole) (arg4 : Memref sig .tc .vmem S256x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S256x128 .f32) (harg7 : arg7.IsWhole)
    (arg8 : Memref sig .tc .vmem S8x128 .f32) (harg8 : arg8.IsWhole) (arg9 : Memref sig .tc .vmem S128x2048 .bf16) (harg9 : arg9.IsWhole) (arg10 : Memref sig .tc .vmem S128x512 .f32) (harg10 : arg10.IsWhole) (hc : cond0_0 i)
    (x0 : Vec F S8 .f32) (x1 : Vec F S256x128 .f32) (x2 x3 : Vec F S2048x128 .f32) :
    Σ' (LO : List (View.Piece (Elt F) S256x128 .f32)) (LM : List (View.Piece (Elt F) S8x128 .f32)), { LT : List (View.Piece (Elt F) S128x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
              ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LM) ∗ (∃ f, arg9.view.loc (c : Thread nD τ) ↦[arg9.view.set]{fullShare} arg9.view.writes (Elt F) f LT) ∗ (∃ d, owns (c : Thread nD τ) arg10 fullShare d)) -∗ K ⟨⟩))
          ⊢ wp frame (wpE (defs₀ (F := F)) Variants.none c none) E (cc0_moba_prompt i arg3 harg3 arg4 harg4 arg5 harg5 arg6 harg6 arg7 harg7 arg8 harg8 arg9 harg9 arg10 harg10) K } := by
  refine ⟨?_, ?_, ?_, fun E K => ?run⟩
  case run =>
    simp only [cc0_moba_prompt_eq_skeleton]; unfold cc0_moba_prompt_skel
    simp only [k0_part6_eq_skeleton, k0_part1_eq_skeleton, k0_part2_eq_skeleton, k0_part3_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | sl_exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    iexists _, _; isplitr; swap; · iexact HS2
    ipureintro; rfl

end Cert.Moba

end
-- ==== Proof.Moba.RunNext.lean ====
module

public import proofs.«01_k».proof.Proof.Gen.KernelIdeal.Frame.Runs
public import proofs.«01_k».proof.Proof.Gen.KernelIdeal.Loops

@[expose] public section

set_option maxRecDepth 16384

noncomputable section

namespace Cert.Moba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The resources of the runs below. -/
local notation "𝕄" => MT nD τ sig Unit (Elt F) ℕ (UR sig nD τ) ℕ

set_option maxHeartbeats 4000000 in
/-- The body at a later query block: the mean keys `xs0` and the transposed values `xs1` are those the blocks before left. -/
def runNext (c : Dev nD) (i : grid0.Coords) (arg3 : Memref sig .tc .smem S8 .f32) (harg3 : arg3.IsWhole) (arg4 : Memref sig .tc .vmem S256x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S256x128 .f32) (harg7 : arg7.IsWhole)
    (arg8 : Memref sig .tc .vmem S8x128 .f32) (harg8 : arg8.IsWhole) (arg9 : Memref sig .tc .vmem S128x2048 .bf16) (harg9 : arg9.IsWhole) (arg10 : Memref sig .tc .vmem S128x512 .f32) (harg10 : arg10.IsWhole) (hc : ¬cond0_0 i)
    (x0 : Vec F S8 .f32) (x1 : Vec F S256x128 .f32) (x2 x3 : Vec F S2048x128 .f32) (xs0 : Vec F S8x128 .f32) (xs1 : Vec F S128x2048 .bf16) :
    { LO : List (View.Piece (Elt F) S256x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ owns (c : Thread nD τ) arg8 fullShare xs0 ∗ owns (c : Thread nD τ) arg9 fullShare xs1 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
              ∗ (∃ f, arg7.view.loc (c : Thread nD τ) ↦[arg7.view.set]{fullShare} arg7.view.writes (Elt F) f LO) ∗ owns (c : Thread nD τ) arg8 fullShare xs0 ∗ owns (c : Thread nD τ) arg9 fullShare xs1 ∗ (∃ d, owns (c : Thread nD τ) arg10 fullShare d)) -∗ K ⟨⟩))
          ⊢ wp frame (wpE (defs₀ (F := F)) Variants.none c none) E (cc0_moba_prompt i arg3 harg3 arg4 harg4 arg5 harg5 arg6 harg6 arg7 harg7 arg8 harg8 arg9 harg9 arg10 harg10) K } := by
  refine ⟨?_, fun E K => ?run⟩
  case run =>
    simp only [cc0_moba_prompt_eq_skeleton]; unfold cc0_moba_prompt_skel
    simp only [k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg8.eq_unread hfs0; obtain rfl := harg9.eq_unread hfs1
    sl_exec (disch := first | sl_exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]
    · iexists _; isplitr; · ipureintro; exact harg8.read_unread _
      iexact HS0
    isplitl [HS1]
    · iexists _; isplitr; · ipureintro; exact harg9.read_unread _
      iexact HS1
    iexists _, _; isplitr; swap; · iexact HS2
    ipureintro; rfl

end Cert.Moba

end
-- ==== Proof.Moba.Pieces.lean ====
module

public import proofs.«01_k».proof.Proof.Moba.RunFirst
public import proofs.«01_k».proof.Proof.Moba.RunNext
public import Idealize.ShloMosaic.Lib.VecWindow
public import Idealize.ShloMosaic.Lib.Pipeline.Value

@[expose] public section

set_option maxRecDepth 16384

noncomputable section

namespace Cert.Moba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- What one pair of key blocks turns the running maximum, the running sum and the accumulator into. -/
def pairStep (i : grid0.Coords) (v16 : FVec F S512x128 .bf16) (v17 : IVec S8x512 32) (v78 : FVec F S8x512 .f32) (v91 : FVec F S1x512 .f32) (v113 : FVec F S256x512 .f32)
    (x2 : Vec F S2048x128 .f32) (vt : Vec F S128x2048 .bf16) (k : Fin (k0_t1_loop i).trips) (s : (FVec F S1x512 .f32 × FVec F S1x512 .f32) × FVec F S128x512 .f32) :
    (FVec F S1x512 .f32 × FVec F S1x512 .f32) × FVec F S128x512 .f32 :=
  let kb : Vec F S512x128 .f32 := View.ld x2 (Rect.unit (k0_off5 i k) S512x128.size (k0_off5_inb i k))
  let vb : Vec F S128x512 .bf16 := View.ld vt (Rect.unit (k0_off6 i k) S128x512.size (k0_off6_inb i k))
  let a := k0_pay20 i (BitVec.ofNat 32 (i 2)) v16 v17 v78 v91 v113 0#32 1#32 k kb
  let b := k0_pay21 i v17 v78 0#32 1#32 k
  let d := k0_pay22 v16 v113 kb
  let e := k0_pay23 i (BitVec.ofNat 32 (i 2)) v91 0#32 1#32 k
  ((k0_pay49 s.1.1 a b d e, k0_pay54 s.1.1 s.1.2 a b d e), k0_pay53 s.1.1 a b d e vb s.2)

/-- The state before pair `k`. -/
def pairs (i : grid0.Coords) (v16 : FVec F S512x128 .bf16) (v17 : IVec S8x512 32) (v78 : FVec F S8x512 .f32) (v91 : FVec F S1x512 .f32) (v113 : FVec F S256x512 .f32)
    (x2 : Vec F S2048x128 .f32) (vt : Vec F S128x2048 .bf16) (s : (FVec F S1x512 .f32 × FVec F S1x512 .f32) × FVec F S128x512 .f32) :
    ℕ → (FVec F S1x512 .f32 × FVec F S1x512 .f32) × FVec F S128x512 .f32
  | 0 => s
  | k + 1 => if h : k < (k0_t1_loop i).trips then pairStep i v16 v17 v78 v91 v113 x2 vt ⟨k, h⟩ (pairs i v16 v17 v78 v91 v113 x2 vt s k)
      else pairs i v16 v17 v78 v91 v113 x2 vt s k

/-- The carried state of the run's loop is the pure recursion. -/
theorem loop_eq (c : Dev nD) (i : grid0.Coords) (arg3 : Memref sig .tc .smem S8 .f32) (harg3 : arg3.IsWhole) (arg4 : Memref sig .tc .vmem S256x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S256x128 .f32) (harg7 : arg7.IsWhole)
    (arg8 : Memref sig .tc .vmem S8x128 .f32) (harg8 : arg8.IsWhole) (arg9 : Memref sig .tc .vmem S128x2048 .bf16) (harg9 : arg9.IsWhole) (arg10 : Memref sig .tc .vmem S128x512 .f32) (harg10 : arg10.IsWhole)
    (v16 : FVec F S512x128 .bf16) (v17 : IVec S8x512 32) (v78 : FVec F S8x512 .f32) (v91 : FVec F S1x512 .f32) (v113 : FVec F S256x512 .f32) (v115 : BitVec 32) (v126 : FVec F S1x512 .f32) (v129 : FVec F S256x512 .f32)
    (x2 : Vec F S2048x128 .f32) (vt : Vec F S128x2048 .bf16) (a0 : FVec F S128x512 .f32) (ml : FVec F S1x512 .f32 × FVec F S1x512 .f32)
    (G : BufTy.Contents (Elt F) arg10.view.ty) (hG : arg10.view.read (Elt F) G = a0) (k : ℕ) (hk : k ≤ (k0_t1_loop i).trips) :
    ((st_k0_t1 (F := F) Variants.none c none i arg3 harg3 arg4 harg4 arg5 harg5 arg6 harg6 arg7 harg7 arg8 harg8 arg9 harg9 arg10 harg10 (BitVec.ofNat 32 (i 2)) v16 v17 v78 v91 v113 v115 v126 v129 (harg5.unread x2) (harg9.unread vt) G ml k).1,
      arg10.view.read (Elt F) (arg10.view.writes (Elt F) G (st_k0_t1 (F := F) Variants.none c none i arg3 harg3 arg4 harg4 arg5 harg5 arg6 harg6 arg7 harg7 arg8 harg8 arg9 harg9 arg10 harg10 (BitVec.ofNat 32 (i 2)) v16 v17 v78 v91 v113 v115 v126 v129 (harg5.unread x2) (harg9.unread vt) G ml k).2))
      = pairs i v16 v17 v78 v91 v113 x2 vt (ml, a0) k := by
  induction k with
  | zero => exact Prod.ext rfl hG
  | succ k ih =>
    have hk' : k < (k0_t1_loop i).trips := hk
    have ih := ih hk'.le
    have e := st_k0_t1_succ (F := F) Variants.none c none i arg3 harg3 arg4 harg4 arg5 harg5 arg6 harg6 arg7 harg7 arg8 harg8 arg9 harg9 arg10 harg10 (BitVec.ofNat 32 (i 2)) v16 v17 v78 v91 v113 v115 v126 v129 (harg5.unread x2) (harg9.unread vt) G ml ⟨k, hk'⟩
    dsimp only at e
    rw [e, pairs, dif_pos hk', ← ih]
    clear e ih
    generalize st_k0_t1 (F := F) Variants.none c none i arg3 harg3 arg4 harg4 arg5 harg5 arg6 harg6 arg7 harg7 arg8 harg8 arg9 harg9 arg10 harg10 (BitVec.ofNat 32 (i 2)) v16 v17 v78 v91 v113 v115 v126 v129 (harg5.unread x2) (harg9.unread vt) G ml k = p
    unfold tripR_k0_t1 tripL_k0_t1 trip_k0_t1; dsimp only
    rw [View.writes_append]
    sl_unfold_words
    simp only [View.readAt_eq_ld, harg5.read_unread, harg9.read_unread]
    rw [View.read_writes_full arg10.view]
    rw [View.ld_unit_zero (by funext a; fin_cases a <;> rfl)]
    rfl

/-- The loop's remainder has no trips. -/
theorem trips2 (i : grid0.Coords) : (k0_t2_loop i).trips = 0 := by
  have h : ∀ n : Fin 8, ∀ j : grid0.Coords, j 2 = n → (k0_t2_loop j).trips = 0 := by
    intro n j hj
    dsimp only [k0_t2_loop, Scf.Loop.trips]
    rw [hj]
    fin_cases n <;> decide
  exact h _ i rfl

/-- There are half as many pairs as blocks up to this one, rounded up. -/
theorem trips1 (i : grid0.Coords) : (k0_t1_loop i).trips = ((i 2).val + 1) / 2 := by
  have h : ∀ n : Fin 8, ∀ j : grid0.Coords, j 2 = n → (k0_t1_loop j).trips = (n.val + 1) / 2 := by
    intro n j hj
    dsimp only [k0_t1_loop, Scf.Loop.trips]
    rw [hj]
    fin_cases n <;> decide
  exact h _ i rfl

/-- What the run reads back after both loops. -/
theorem tail_eq (c : Dev nD) (i : grid0.Coords) (arg3 : Memref sig .tc .smem S8 .f32) (harg3 : arg3.IsWhole) (arg4 : Memref sig .tc .vmem S256x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S256x128 .f32) (harg7 : arg7.IsWhole)
    (arg8 : Memref sig .tc .vmem S8x128 .f32) (harg8 : arg8.IsWhole) (arg9 : Memref sig .tc .vmem S128x2048 .bf16) (harg9 : arg9.IsWhole) (arg10 : Memref sig .tc .vmem S128x512 .f32) (harg10 : arg10.IsWhole)
    (v16 : FVec F S512x128 .bf16) (v17 : IVec S8x512 32) (v78 : FVec F S8x512 .f32) (v91 : FVec F S1x512 .f32) (v113 : FVec F S256x512 .f32) (v115 v161 : BitVec 32) (v126 : FVec F S1x512 .f32) (v129 : FVec F S256x512 .f32)
    (x2 : Vec F S2048x128 .f32) (vt : Vec F S128x2048 .bf16) (a0 : FVec F S128x512 .f32) (ml : FVec F S1x512 .f32 × FVec F S1x512 .f32)
    (X9 : BufTy.Contents (Elt F) arg9.view.ty) (h9 : X9 = harg9.unread vt) :
    ((st_k0_t2 (F := F) Variants.none c none i arg3 harg3 arg4 harg4 arg5 harg5 arg6 harg6 arg7 harg7 arg8 harg8 arg9 harg9 arg10 harg10 (BitVec.ofNat 32 (i 2)) v16 v17 v78 v91 v113 v115 v126 v129 v161 (harg5.unread x2) X9 (arg10.view.writes (Elt F) arg10.view.junk ((st_k0_t1 (F := F) Variants.none c none i arg3 harg3 arg4 harg4 arg5 harg5 arg6 harg6 arg7 harg7 arg8 harg8 arg9 harg9 arg10 harg10 (BitVec.ofNat 32 (i 2)) v16 v17 v78 v91 v113 v115 v126 v129 (harg5.unread x2) X9 (arg10.view.writes (Elt F) arg10.view.junk [⟨Rect.unit ![0, 0] S128x512.size inb_S128x512_S128x512_0_0, a0⟩]) ml (k0_t1_loop i).trips).2 ++ [⟨Rect.unit ![0, 0] S128x512.size inb_S128x512_S128x512_0_0, a0⟩])) (st_k0_t1 (F := F) Variants.none c none i arg3 harg3 arg4 harg4 arg5 harg5 arg6 harg6 arg7 harg7 arg8 harg8 arg9 harg9 arg10 harg10 (BitVec.ofNat 32 (i 2)) v16 v17 v78 v91 v113 v115 v126 v129 (harg5.unread x2) X9 (arg10.view.writes (Elt F) arg10.view.junk [⟨Rect.unit ![0, 0] S128x512.size inb_S128x512_S128x512_0_0, a0⟩]) ml (k0_t1_loop i).trips).1 (k0_t2_loop i).trips).1.2,
      arg10.view.readCov (Val := Elt F) ((st_k0_t2 (F := F) Variants.none c none i arg3 harg3 arg4 harg4 arg5 harg5 arg6 harg6 arg7 harg7 arg8 harg8 arg9 harg9 arg10 harg10 (BitVec.ofNat 32 (i 2)) v16 v17 v78 v91 v113 v115 v126 v129 v161 (harg5.unread x2) X9 (arg10.view.writes (Elt F) arg10.view.junk ((st_k0_t1 (F := F) Variants.none c none i arg3 harg3 arg4 harg4 arg5 harg5 arg6 harg6 arg7 harg7 arg8 harg8 arg9 harg9 arg10 harg10 (BitVec.ofNat 32 (i 2)) v16 v17 v78 v91 v113 v115 v126 v129 (harg5.unread x2) X9 (arg10.view.writes (Elt F) arg10.view.junk [⟨Rect.unit ![0, 0] S128x512.size inb_S128x512_S128x512_0_0, a0⟩]) ml (k0_t1_loop i).trips).2 ++ [⟨Rect.unit ![0, 0] S128x512.size inb_S128x512_S128x512_0_0, a0⟩])) (st_k0_t1 (F := F) Variants.none c none i arg3 harg3 arg4 harg4 arg5 harg5 arg6 harg6 arg7 harg7 arg8 harg8 arg9 harg9 arg10 harg10 (BitVec.ofNat 32 (i 2)) v16 v17 v78 v91 v113 v115 v126 v129 (harg5.unread x2) X9 (arg10.view.writes (Elt F) arg10.view.junk [⟨Rect.unit ![0, 0] S128x512.size inb_S128x512_S128x512_0_0, a0⟩]) ml (k0_t1_loop i).trips).1 (k0_t2_loop i).trips).2 ++ ((st_k0_t1 (F := F) Variants.none c none i arg3 harg3 arg4 harg4 arg5 harg5 arg6 harg6 arg7 harg7 arg8 harg8 arg9 harg9 arg10 harg10 (BitVec.ofNat 32 (i 2)) v16 v17 v78 v91 v113 v115 v126 v129 (harg5.unread x2) X9 (arg10.view.writes (Elt F) arg10.view.junk [⟨Rect.unit ![0, 0] S128x512.size inb_S128x512_S128x512_0_0, a0⟩]) ml (k0_t1_loop i).trips).2 ++ [⟨Rect.unit ![0, 0] S128x512.size inb_S128x512_S128x512_0_0, a0⟩])) (Rect.unit ![0, 0] S128x512.size inb_S128x512_S128x512_0_0).toLoadRect)
      = ((pairs i v16 v17 v78 v91 v113 x2 vt (ml, a0) (k0_t1_loop i).trips).1.2, (pairs i v16 v17 v78 v91 v113 x2 vt (ml, a0) (k0_t1_loop i).trips).2) := by
  subst h9
  rw [trips2]
  have e := loop_eq c i arg3 harg3 arg4 harg4 arg5 harg5 arg6 harg6 arg7 harg7 arg8 harg8 arg9 harg9 arg10 harg10 v16 v17 v78 v91 v113 v115 v126 v129 x2 vt a0 ml (arg10.view.writes (Elt F) arg10.view.junk [⟨Rect.unit ![0, 0] S128x512.size inb_S128x512_S128x512_0_0, a0⟩]) (View.read_writes_full _ _ _ _ _) _ le_rfl
  rw [← e]
  refine Prod.ext rfl ?_
  show arg10.view.readCov (Val := Elt F) ([] ++ _) _ = _
  rw [List.nil_append]
  unfold View.readCov
  rw [View.writes_append, View.readAt_eq_ld, View.ld_unit_zero (by funext a; fin_cases a <;> rfl)]

/-- The output block of a point: from the slopes, the queries, the keys, the mean keys and the transposed values. -/
def outBlk (i : grid0.Coords) (x0 : Vec F S8 .f32) (x1 : Vec F S256x128 .f32) (x2 : Vec F S2048x128 .f32) (km : Vec F S8x128 .f32) (vt : Vec F S128x2048 .bf16) : Vec F S256x128 .f32 :=
  let qb := k0_pay34 x1
  let v17 := iota .tc S8x512 32 [0] iota_S8x512_d0_w32
  let s0 : Elt F .f32 := View.ld x0 (Rect.unit (k0_off1 i) S1.size (k0_off1_inb i)) (Shape.Idx.first (by rw [show (Rect.unit _ _ _).shape.numel = 1 from numel1_S1]; exact Nat.one_pos))
  let s1 : Elt F .f32 := View.ld x0 (Rect.unit (k0_off2 i) S1.size (k0_off2_inb i)) (Shape.Idx.first (by rw [show (Rect.unit _ _ _).shape.numel = 1 from numel1_S1]; exact Nat.one_pos))
  let kb : Vec F S256x128 .f32 := View.ld x2 (Rect.unit (k0_off3 i) S256x128.size (k0_off3_inb i))
  let vb : Vec F S128x256 .bf16 := View.ld vt (Rect.unit (k0_off4 i) S128x256.size (k0_off4_inb i))
  let p0 := k0_pay45 qb k0_pay39 s0 s1 kb
  let r := pairs i qb v17 (k0_pay38 v17 (k0_pay35 i x1 km) (k0_pay36 i) (FloatOps.ofBits .f32 0#32) k0_pay37) (k0_pay40 k0_pay39 s0 s1) (k0_pay42 k0_pay39 s0 s1) x2 vt
    ((k0_pay44 qb k0_pay39 s0 s1 kb, k0_pay46 p0), k0_pay47 p0 vb) (k0_t1_loop i).trips
  k0_pay1 (k0_pay62 r.1.2 r.2) (k0_pay63 r.1.2 r.2)

set_option maxHeartbeats 4000000 in
/-- The run away from the group's first point writes one piece: the output block. -/
theorem next_pieces (c : Dev nD) (i : grid0.Coords) (arg3 : Memref sig .tc .smem S8 .f32) (harg3 : arg3.IsWhole) (arg4 : Memref sig .tc .vmem S256x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S256x128 .f32) (harg7 : arg7.IsWhole)
    (arg8 : Memref sig .tc .vmem S8x128 .f32) (harg8 : arg8.IsWhole) (arg9 : Memref sig .tc .vmem S128x2048 .bf16) (harg9 : arg9.IsWhole) (arg10 : Memref sig .tc .vmem S128x512 .f32) (harg10 : arg10.IsWhole) (hc : ¬cond0_0 i)
    (x0 : Vec F S8 .f32) (x1 : Vec F S256x128 .f32) (x2 x3 : Vec F S2048x128 .f32) (xs0 : Vec F S8x128 .f32) (xs1 : Vec F S128x2048 .bf16) :
    (runNext c i arg3 harg3 arg4 harg4 arg5 harg5 arg6 harg6 arg7 harg7 arg8 harg8 arg9 harg9 arg10 harg10 hc x0 x1 x2 x3 xs0 xs1).1 = [⟨Rect.unit ![0, 0] S256x128.size inb_S256x128_S256x128_0_0, outBlk i x0 x1 x2 xs0 xs1⟩] := by
  unfold runNext; dsimp only
  sl_unfold_words
  simp only [View.readAt_eq_ld, harg3.read_unread, harg4.read_unread, harg5.read_unread, harg6.read_unread, harg8.read_unread, harg9.read_unread]
  rw [View.ld_unit_zero (by funext a; fin_cases a <;> rfl) _ x1, View.ld_unit_zero (by funext a; fin_cases a <;> rfl) _ xs0]
  exact congrArg (fun p : FVec F S1x512 .f32 × FVec F S128x512 .f32 => [(⟨Rect.unit ![0, 0] S256x128.size inb_S256x128_S256x128_0_0, k0_pay1 (k0_pay62 p.1 p.2) (k0_pay63 p.1 p.2)⟩ : View.Piece (Elt F) S256x128 .f32)])
    (tail_eq c i arg3 harg3 arg4 harg4 arg5 harg5 arg6 harg6 arg7 harg7 arg8 harg8 arg9 harg9 arg10 harg10 _ _ _ _ _ _ _ _ _ x2 xs1 _ _ _ rfl)

/-- The eight rows of mean keys. -/
def kmPieces (x2 : Vec F S2048x128 .f32) : List (View.Piece (Elt F) S8x128 .f32) :=
  [⟨Rect.unit ![7, 0] S1x128.size inb_S8x128_S1x128_7_0, k0_pay31 (View.ld x2 (Rect.unit ![1792, 0] S256x128.size inb_S2048x128_S256x128_1792_0))⟩,
    ⟨Rect.unit ![6, 0] S1x128.size inb_S8x128_S1x128_6_0, k0_pay31 (View.ld x2 (Rect.unit ![1536, 0] S256x128.size inb_S2048x128_S256x128_1536_0))⟩,
    ⟨Rect.unit ![5, 0] S1x128.size inb_S8x128_S1x128_5_0, k0_pay31 (View.ld x2 (Rect.unit ![1280, 0] S256x128.size inb_S2048x128_S256x128_1280_0))⟩,
    ⟨Rect.unit ![4, 0] S1x128.size inb_S8x128_S1x128_4_0, k0_pay31 (View.ld x2 (Rect.unit ![1024, 0] S256x128.size inb_S2048x128_S256x128_1024_0))⟩,
    ⟨Rect.unit ![3, 0] S1x128.size inb_S8x128_S1x128_3_0, k0_pay31 (View.ld x2 (Rect.unit ![768, 0] S256x128.size inb_S2048x128_S256x128_768_0))⟩,
    ⟨Rect.unit ![2, 0] S1x128.size inb_S8x128_S1x128_2_0, k0_pay31 (View.ld x2 (Rect.unit ![512, 0] S256x128.size inb_S2048x128_S256x128_512_0))⟩,
    ⟨Rect.unit ![1, 0] S1x128.size inb_S8x128_S1x128_1_0, k0_pay31 (View.ld x2 (Rect.unit ![256, 0] S256x128.size inb_S2048x128_S256x128_256_0))⟩,
    ⟨Rect.unit ![0, 0] S1x128.size inb_S8x128_S1x128_0_0, k0_pay31 (View.ld x2 (Rect.unit ![0, 0] S256x128.size inb_S2048x128_S256x128_0_0))⟩]

/-- The eight column blocks of transposed values. -/
def vtPieces (x3 : Vec F S2048x128 .f32) : List (View.Piece (Elt F) S128x2048 .bf16) :=
  [⟨Rect.unit ![0, 1792] S128x256.size inb_S128x2048_S128x256_0_1792, k0_pay32 (View.ld x3 (Rect.unit ![1792, 0] S256x128.size inb_S2048x128_S256x128_1792_0))⟩,
    ⟨Rect.unit ![0, 1536] S128x256.size inb_S128x2048_S128x256_0_1536, k0_pay32 (View.ld x3 (Rect.unit ![1536, 0] S256x128.size inb_S2048x128_S256x128_1536_0))⟩,
    ⟨Rect.unit ![0, 1280] S128x256.size inb_S128x2048_S128x256_0_1280, k0_pay32 (View.ld x3 (Rect.unit ![1280, 0] S256x128.size inb_S2048x128_S256x128_1280_0))⟩,
    ⟨Rect.unit ![0, 1024] S128x256.size inb_S128x2048_S128x256_0_1024, k0_pay32 (View.ld x3 (Rect.unit ![1024, 0] S256x128.size inb_S2048x128_S256x128_1024_0))⟩,
    ⟨Rect.unit ![0, 768] S128x256.size inb_S128x2048_S128x256_0_768, k0_pay32 (View.ld x3 (Rect.unit ![768, 0] S256x128.size inb_S2048x128_S256x128_768_0))⟩,
    ⟨Rect.unit ![0, 512] S128x256.size inb_S128x2048_S128x256_0_512, k0_pay32 (View.ld x3 (Rect.unit ![512, 0] S256x128.size inb_S2048x128_S256x128_512_0))⟩,
    ⟨Rect.unit ![0, 256] S128x256.size inb_S128x2048_S128x256_0_256, k0_pay32 (View.ld x3 (Rect.unit ![256, 0] S256x128.size inb_S2048x128_S256x128_256_0))⟩,
    ⟨Rect.unit ![0, 0] S128x256.size inb_S128x2048_S128x256_0_0, k0_pay32 (View.ld x3 (Rect.unit ![0, 0] S256x128.size inb_S2048x128_S256x128_0_0))⟩]

/-- The mean keys of a pair of heads. -/
def KM (x2 : Vec F S2048x128 .f32) : Vec F S8x128 .f32 := View.canon (Val := Elt F) (kmPieces x2)

/-- The transposed values of a pair of heads. -/
def VT (x3 : Vec F S2048x128 .f32) : Vec F S128x2048 .bf16 := View.canon (Val := Elt F) (vtPieces x3)

theorem km_cover (x2 : Vec F S2048x128 .f32) (y : S8x128.Idx) : ∃ p ∈ kmPieces x2, y ∈ p.1.set :=
  View.cover_of_tiledL (s := S8x128) (kmPieces x2) S1x128.size (by sl_kernel_rfl) y

theorem vt_cover (x3 : Vec F S2048x128 .f32) (y : S128x2048.Idx) : ∃ p ∈ vtPieces x3, y ∈ p.1.set :=
  View.cover_of_tiledL (s := S128x2048) (vtPieces x3) S128x256.size (by sl_kernel_rfl) y

set_option maxHeartbeats 4000000 in
theorem first_km (c : Dev nD) (i : grid0.Coords) (arg3 : Memref sig .tc .smem S8 .f32) (harg3 : arg3.IsWhole) (arg4 : Memref sig .tc .vmem S256x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S256x128 .f32) (harg7 : arg7.IsWhole)
    (arg8 : Memref sig .tc .vmem S8x128 .f32) (harg8 : arg8.IsWhole) (arg9 : Memref sig .tc .vmem S128x2048 .bf16) (harg9 : arg9.IsWhole) (arg10 : Memref sig .tc .vmem S128x512 .f32) (harg10 : arg10.IsWhole) (hc : cond0_0 i)
    (x0 : Vec F S8 .f32) (x1 : Vec F S256x128 .f32) (x2 x3 : Vec F S2048x128 .f32) :
    (runFirst c i arg3 harg3 arg4 harg4 arg5 harg5 arg6 harg6 arg7 harg7 arg8 harg8 arg9 harg9 arg10 harg10 hc x0 x1 x2 x3).2.1 = kmPieces x2 := by
  unfold runFirst; dsimp only
  sl_unfold_words
  simp only [View.readAt_eq_ld, harg5.read_unread]
  rfl

set_option maxHeartbeats 4000000 in
theorem first_vt (c : Dev nD) (i : grid0.Coords) (arg3 : Memref sig .tc .smem S8 .f32) (harg3 : arg3.IsWhole) (arg4 : Memref sig .tc .vmem S256x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S256x128 .f32) (harg7 : arg7.IsWhole)
    (arg8 : Memref sig .tc .vmem S8x128 .f32) (harg8 : arg8.IsWhole) (arg9 : Memref sig .tc .vmem S128x2048 .bf16) (harg9 : arg9.IsWhole) (arg10 : Memref sig .tc .vmem S128x512 .f32) (harg10 : arg10.IsWhole) (hc : cond0_0 i)
    (x0 : Vec F S8 .f32) (x1 : Vec F S256x128 .f32) (x2 x3 : Vec F S2048x128 .f32) :
    (runFirst c i arg3 harg3 arg4 harg4 arg5 harg5 arg6 harg6 arg7 harg7 arg8 harg8 arg9 harg9 arg10 harg10 hc x0 x1 x2 x3).2.2.1 = vtPieces x3 := by
  unfold runFirst; dsimp only
  sl_unfold_words
  simp only [View.readAt_eq_ld, harg6.read_unread]
  rfl

set_option maxHeartbeats 4000000 in
/-- The run at the group's first point writes one piece: the output block over the mean keys and values just written. -/
theorem first_pieces (c : Dev nD) (i : grid0.Coords) (arg3 : Memref sig .tc .smem S8 .f32) (harg3 : arg3.IsWhole) (arg4 : Memref sig .tc .vmem S256x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S256x128 .f32) (harg7 : arg7.IsWhole)
    (arg8 : Memref sig .tc .vmem S8x128 .f32) (harg8 : arg8.IsWhole) (arg9 : Memref sig .tc .vmem S128x2048 .bf16) (harg9 : arg9.IsWhole) (arg10 : Memref sig .tc .vmem S128x512 .f32) (harg10 : arg10.IsWhole) (hc : cond0_0 i)
    (x0 : Vec F S8 .f32) (x1 : Vec F S256x128 .f32) (x2 x3 : Vec F S2048x128 .f32) :
    (runFirst c i arg3 harg3 arg4 harg4 arg5 harg5 arg6 harg6 arg7 harg7 arg8 harg8 arg9 harg9 arg10 harg10 hc x0 x1 x2 x3).1 = [⟨Rect.unit ![0, 0] S256x128.size inb_S256x128_S256x128_0_0, outBlk i x0 x1 x2 (KM x2) (VT x3)⟩] := by
  have hM : arg8.view.readCov (Val := Elt F) (kmPieces x2) (Rect.unit ![0, 0] S8x128.size inb_S8x128_S8x128_0_0).toLoadRect = KM x2 := by
    rw [View.readCov_eq_canon_ld _ _ _ (km_cover x2), View.ld_unit_zero (by funext a; fin_cases a <;> rfl)]; rfl
  have hT : arg9.view.read (Elt F) (arg9.view.writes (Elt F) arg9.view.junk (vtPieces x3)) = VT x3 := View.read_writes_junk_eq_canon _ _
  rw [← hM, ← hT]
  unfold runFirst; dsimp only
  sl_unfold_words
  simp only [View.readAt_eq_ld, harg3.read_unread, harg4.read_unread, harg5.read_unread, harg6.read_unread]
  rw [View.ld_unit_zero (by funext a; fin_cases a <;> rfl) _ x1]
  exact congrArg (fun p : FVec F S1x512 .f32 × FVec F S128x512 .f32 => [(⟨Rect.unit ![0, 0] S256x128.size inb_S256x128_S256x128_0_0, k0_pay1 (k0_pay62 p.1 p.2) (k0_pay63 p.1 p.2)⟩ : View.Piece (Elt F) S256x128 .f32)])
    (tail_eq c i arg3 harg3 arg4 harg4 arg5 harg5 arg6 harg6 arg7 harg7 arg8 harg8 arg9 harg9 arg10 harg10 _ _ _ _ _ _ _ _ _ x2 _ _ _ _ (harg9.eq_unread rfl))

/-- The resources of the runs below. -/
local notation "𝕄" => MT nD τ sig Unit (Elt F) ℕ (UR sig nD τ) ℕ

/-- What is found with a property has the property under its other names. -/
theorem named3 {α β γ : Type} {P : α → β → γ → Prop} (r : Σ' (a : α) (b : β), { d : γ // P a b d }) {a : α} {b : β} {d : γ}
    (h1 : r.1 = a) (h2 : r.2.1 = b) (h3 : r.2.2.1 = d) : P a b d := by
  subst h1 h2 h3; exact r.2.2.2

/-- The run at a group's first point, with what it writes named. -/
theorem first_run (c : Dev nD) (i : grid0.Coords) (arg3 : Memref sig .tc .smem S8 .f32) (harg3 : arg3.IsWhole) (arg4 : Memref sig .tc .vmem S256x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S256x128 .f32) (harg7 : arg7.IsWhole)
    (arg8 : Memref sig .tc .vmem S8x128 .f32) (harg8 : arg8.IsWhole) (arg9 : Memref sig .tc .vmem S128x2048 .bf16) (harg9 : arg9.IsWhole) (arg10 : Memref sig .tc .vmem S128x512 .f32) (harg10 : arg10.IsWhole) (hc : cond0_0 i)
    (x0 : Vec F S8 .f32) (x1 : Vec F S256x128 .f32) (x2 x3 : Vec F S2048x128 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
              ∗ (∃ f, arg7.view.loc (c : Thread nD τ) ↦[arg7.view.set]{fullShare} arg7.view.writes (Elt F) f [⟨Rect.unit ![0, 0] S256x128.size inb_S256x128_S256x128_0_0, outBlk i x0 x1 x2 (KM x2) (VT x3)⟩]) ∗ (∃ f, arg8.view.loc (c : Thread nD τ) ↦[arg8.view.set]{fullShare} arg8.view.writes (Elt F) f (kmPieces x2)) ∗ (∃ f, arg9.view.loc (c : Thread nD τ) ↦[arg9.view.set]{fullShare} arg9.view.writes (Elt F) f (vtPieces x3)) ∗ (∃ d, owns (c : Thread nD τ) arg10 fullShare d)) -∗ K ⟨⟩))
          ⊢ wp frame (wpE (defs₀ (F := F)) Variants.none c none) E (cc0_moba_prompt i arg3 harg3 arg4 harg4 arg5 harg5 arg6 harg6 arg7 harg7 arg8 harg8 arg9 harg9 arg10 harg10) K := by
  exact named3 (runFirst c i arg3 harg3 arg4 harg4 arg5 harg5 arg6 harg6 arg7 harg7 arg8 harg8 arg9 harg9 arg10 harg10 hc x0 x1 x2 x3) (first_pieces c i arg3 harg3 arg4 harg4 arg5 harg5 arg6 harg6 arg7 harg7 arg8 harg8 arg9 harg9 arg10 harg10 hc x0 x1 x2 x3) (first_km c i arg3 harg3 arg4 harg4 arg5 harg5 arg6 harg6 arg7 harg7 arg8 harg8 arg9 harg9 arg10 harg10 hc x0 x1 x2 x3) (first_vt c i arg3 harg3 arg4 harg4 arg5 harg5 arg6 harg6 arg7 harg7 arg8 harg8 arg9 harg9 arg10 harg10 hc x0 x1 x2 x3)

/-- The run at a later point of a group, with what it writes named. -/
theorem next_run (c : Dev nD) (i : grid0.Coords) (arg3 : Memref sig .tc .smem S8 .f32) (harg3 : arg3.IsWhole) (arg4 : Memref sig .tc .vmem S256x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S256x128 .f32) (harg7 : arg7.IsWhole)
    (arg8 : Memref sig .tc .vmem S8x128 .f32) (harg8 : arg8.IsWhole) (arg9 : Memref sig .tc .vmem S128x2048 .bf16) (harg9 : arg9.IsWhole) (arg10 : Memref sig .tc .vmem S128x512 .f32) (harg10 : arg10.IsWhole) (hc : ¬cond0_0 i)
    (x0 : Vec F S8 .f32) (x1 : Vec F S256x128 .f32) (x2 x3 : Vec F S2048x128 .f32) (xs0 : Vec F S8x128 .f32) (xs1 : Vec F S128x2048 .bf16) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ owns (c : Thread nD τ) arg8 fullShare xs0 ∗ owns (c : Thread nD τ) arg9 fullShare xs1 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
              ∗ (∃ f, arg7.view.loc (c : Thread nD τ) ↦[arg7.view.set]{fullShare} arg7.view.writes (Elt F) f [⟨Rect.unit ![0, 0] S256x128.size inb_S256x128_S256x128_0_0, outBlk i x0 x1 x2 xs0 xs1⟩]) ∗ owns (c : Thread nD τ) arg8 fullShare xs0 ∗ owns (c : Thread nD τ) arg9 fullShare xs1 ∗ (∃ d, owns (c : Thread nD τ) arg10 fullShare d)) -∗ K ⟨⟩))
          ⊢ wp frame (wpE (defs₀ (F := F)) Variants.none c none) E (cc0_moba_prompt i arg3 harg3 arg4 harg4 arg5 harg5 arg6 harg6 arg7 harg7 arg8 harg8 arg9 harg9 arg10 harg10) K := by
  have h := (runNext c i arg3 harg3 arg4 harg4 arg5 harg5 arg6 harg6 arg7 harg7 arg8 harg8 arg9 harg9 arg10 harg10 hc x0 x1 x2 x3 xs0 xs1).2
  rw [next_pieces] at h
  exact h

end Cert.Moba
-- ==== Proof.Moba.Blocks.lean ====
module

public import proofs.«01_k».proof.Proof.Gen.KernelIdeal.Frame.Runs
public import Idealize.ShloMosaic.Lib.Pipeline.Value
public import Idealize.ShloMosaic.Lib.Pointwise.Index

@[expose] public section

set_option maxRecDepth 16384

noncomputable section

namespace Cert.Moba

open Cert.KernelIdeal Cert.KernelIdeal.Gen
open Idealize.ShloMosaic Idealize.ShloMosaic.TcCoe
open Idealize.SL Idealize.SL.Sem

variable {F : FTy → Type} [FloatOps F] [Named F]

variable (m : (ℓ : Loc nD τ sig) → Buf (Elt F) ℓ)

/-- A point's coordinates: the batch row, the pair of heads, the query block. -/
theorem coord_facts : ∀ t : Fin cfg0.N, (grid0.coords t 0).val = t.val / 32 ∧ (grid0.coords t 1).val = t.val / 8 % 4 ∧ (grid0.coords t 2).val = t.val % 8 :=
  (by decide +kernel : ∀ t : Fin grid0.N, _)

/-- The blocks of a point. -/
theorem idx_facts : ∀ t : Fin cfg0.N, win0_1.index t (0 : Fin 2) = t.val / 32 * 8 + t.val % 8 ∧ win0_1.index t (1 : Fin 2) = t.val / 8 % 4
    ∧ win0_2.index t (0 : Fin 2) = t.val / 32 ∧ win0_2.index t (1 : Fin 2) = t.val / 8 % 4
    ∧ win0_3.index t (0 : Fin 2) = t.val / 32 ∧ win0_3.index t (1 : Fin 2) = t.val / 8 % 4
    ∧ win0_4.index t (0 : Fin 2) = t.val / 32 * 8 + t.val % 8 ∧ win0_4.index t (1 : Fin 2) = t.val / 8 % 4
    ∧ win0_0.index t (0 : Fin 1) = 0 :=
  (by decide +kernel : ∀ t : Fin grid0.N, _)

theorem t_lt (t : Fin cfg0.N) : t.val < 512 := lt_of_lt_of_eq t.isLt (show cfg0.N = 512 from N_0)

/-- The queries' row. -/
abbrev qrow (t : Fin cfg0.N) (a : Fin 256) : Fin 32768 := ⟨(t.val / 32 * 8 + t.val % 8) * 256 + a.val, by have := t_lt t; omega⟩
/-- The keys' and values' row. -/
abbrev krow (t : Fin cfg0.N) (a : Fin 2048) : Fin 32768 := ⟨t.val / 32 * 2048 + a.val, by have := t_lt t; omega⟩
/-- The lane. -/
abbrev lane (t : Fin cfg0.N) (a : Fin 128) : Fin 512 := ⟨t.val / 8 % 4 * 128 + a.val, by have := t_lt t; omega⟩

theorem emb1 (t : Fin cfg0.N) (z : S256x128.Idx) : ((cfg0.win 1).blk t).view.emb z = ix2 (qrow t (z 0)) (lane t (z 1)) := by
  have e := idx_facts t
  funext a; apply Fin.ext
  match a with
  | ⟨0, _⟩ => show win0_1.index t (0 : Fin 2) * 256 + 1 * (z 0).val = _; rw [e.1, Nat.one_mul]; rfl
  | ⟨1, _⟩ => show win0_1.index t (1 : Fin 2) * 128 + 1 * (z 1).val = _; rw [e.2.1, Nat.one_mul]; rfl

theorem emb4 (t : Fin cfg0.N) (z : S256x128.Idx) : ((cfg0.win 4).blk t).view.emb z = ix2 (qrow t (z 0)) (lane t (z 1)) := by
  have e := idx_facts t
  funext a; apply Fin.ext
  match a with
  | ⟨0, _⟩ => show win0_4.index t (0 : Fin 2) * 256 + 1 * (z 0).val = _; rw [e.2.2.2.2.2.2.1, Nat.one_mul]; rfl
  | ⟨1, _⟩ => show win0_4.index t (1 : Fin 2) * 128 + 1 * (z 1).val = _; rw [e.2.2.2.2.2.2.2.1, Nat.one_mul]; rfl

theorem emb2 (t : Fin cfg0.N) (z : S2048x128.Idx) : ((cfg0.win 2).blk t).view.emb z = ix2 (krow t (z 0)) (lane t (z 1)) := by
  have e := idx_facts t
  funext a; apply Fin.ext
  match a with
  | ⟨0, _⟩ => show win0_2.index t (0 : Fin 2) * 2048 + 1 * (z 0).val = _; rw [e.2.2.1, Nat.one_mul]; rfl
  | ⟨1, _⟩ => show win0_2.index t (1 : Fin 2) * 128 + 1 * (z 1).val = _; rw [e.2.2.2.1, Nat.one_mul]; rfl

theorem emb3 (t : Fin cfg0.N) (z : S2048x128.Idx) : ((cfg0.win 3).blk t).view.emb z = ix2 (krow t (z 0)) (lane t (z 1)) := by
  have e := idx_facts t
  funext a; apply Fin.ext
  match a with
  | ⟨0, _⟩ => show win0_3.index t (0 : Fin 2) * 2048 + 1 * (z 0).val = _; rw [e.2.2.2.2.1, Nat.one_mul]; rfl
  | ⟨1, _⟩ => show win0_3.index t (1 : Fin 2) * 128 + 1 * (z 1).val = _; rw [e.2.2.2.2.2.1, Nat.one_mul]; rfl

theorem emb0 (t : Fin cfg0.N) (z : S8.Idx) : ((cfg0.win 0).blk t).view.emb z = z := by
  have e := idx_facts t
  funext a; apply Fin.ext
  match a with
  | ⟨0, _⟩ => show win0_0.index t (0 : Fin 1) * 8 + 1 * (z 0).val = _; rw [e.2.2.2.2.2.2.2.2, Nat.one_mul, Nat.zero_mul, Nat.zero_add]; rfl

/-- The slopes, the queries, the keys and the values that a point is given. -/
theorem iblk0_apply (c : Dev nD) (t : Fin cfg0.N) (z : S8.Idx) : iblk m c 0 t z = V m c main_v8 z := by
  show V m c main_v8 (((cfg0.win 0).blk t).view.emb z) = _
  rw [emb0]

theorem iblk1_apply (c : Dev nD) (t : Fin cfg0.N) (z : S256x128.Idx) : iblk m c 1 t z = m ((c : Thread nD τ).loc main_arg0) (ix2 (qrow t (z 0)) (lane t (z 1))) := by
  show V m c main_arg0 (((cfg0.win 1).blk t).view.emb z) = _
  rw [emb1, V_main_arg0]

theorem iblk2_apply (c : Dev nD) (t : Fin cfg0.N) (z : S2048x128.Idx) : iblk m c 2 t z = m ((c : Thread nD τ).loc main_arg1) (ix2 (krow t (z 0)) (lane t (z 1))) := by
  show V m c main_arg1 (((cfg0.win 2).blk t).view.emb z) = _
  rw [emb2, V_main_arg1]

theorem iblk3_apply (c : Dev nD) (t : Fin cfg0.N) (z : S2048x128.Idx) : iblk m c 3 t z = m ((c : Thread nD τ).loc main_arg2) (ix2 (krow t (z 0)) (lane t (z 1))) := by
  show V m c main_arg2 (((cfg0.win 3).blk t).view.emb z) = _
  rw [emb3, V_main_arg2]

/-- The keys and values of a point, at their plain type. -/
abbrev kblk (c : Dev nD) (t : Fin cfg0.N) : Vec F S2048x128 .f32 := iblk m c 2 t
abbrev vblk (c : Dev nD) (t : Fin cfg0.N) : Vec F S2048x128 .f32 := iblk m c 3 t

/-- Within a group of eight points the keys and the values stay. -/
theorem kblk_group (c : Dev nD) (t t' : Fin cfg0.N) (h : t.val / 8 = t'.val / 8) : kblk m c t = kblk m c t' := by
  funext z
  refine (iblk2_apply m c t z).trans (Eq.trans ?_ (iblk2_apply m c t' z).symm)
  congr 2
  · apply Fin.ext; show t.val / 32 * 2048 + _ = t'.val / 32 * 2048 + _; have : t.val / 32 = t'.val / 32 := by omega
    rw [this]
  · apply Fin.ext; show t.val / 8 % 4 * 128 + _ = t'.val / 8 % 4 * 128 + _; rw [h]

theorem vblk_group (c : Dev nD) (t t' : Fin cfg0.N) (h : t.val / 8 = t'.val / 8) : vblk m c t = vblk m c t' := by
  funext z
  refine (iblk3_apply m c t z).trans (Eq.trans ?_ (iblk3_apply m c t' z).symm)
  congr 2
  · apply Fin.ext; show t.val / 32 * 2048 + _ = t'.val / 32 * 2048 + _; have : t.val / 32 = t'.val / 32 := by omega
    rw [this]
  · apply Fin.ext; show t.val / 8 % 4 * 128 + _ = t'.val / 8 % 4 * 128 + _; rw [h]

end Cert.Moba
-- ==== Proof.Moba.Frame.lean ====
module

public import proofs.«01_k».proof.Proof.Moba.Pieces
public import proofs.«01_k».proof.Proof.Moba.Blocks
public import Idealize.ShloMosaic.Lib.Claim

@[expose] public section

set_option maxRecDepth 16384

noncomputable section

namespace Cert.Moba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The resources of the body. -/
local notation "𝕄" => MT nD τ sig Unit (Elt F) ℕ (UR sig nD τ) ℕ

variable (m : (ℓ : Loc nD τ sig) → Buf (Elt F) ℓ) (ρ : Dev nD → PrngReg)

/-- The block that point `t` leaves in the output. -/
def outAt (c : Dev nD) (t : Fin cfg0.N) : Vec F S256x128 .f32 :=
  outBlk (grid0.coords t) (iblk m c 0 t) (iblk m c 1 t) (kblk m c t) (KM (kblk m c t)) (VT (vblk m c t))

/-- Between two points the mean keys and the transposed values are those of the point before. -/
def carried (c : Dev nD) : (n : ℕ) → n ≤ cfg0.N → sProp 𝕄
  | 0, _ => Pipeline.ΦA spec0 c
  | n + 1, hn => iprop(iprop(owns (c : Thread nD τ) scM0_0 fullShare (KM (kblk m c ⟨n, hn⟩)) ∗ owns (c : Thread nD τ) scM0_1 fullShare (VT (vblk m c ⟨n, hn⟩)) ∗ (∃ d, owns (c : Thread nD τ) scM0_2 fullShare d)) ∗ (∃ r, prngReg c r))

theorem carried_zero (c : Dev nD) (n : ℕ) (h : n ≤ cfg0.N) (hz : n = 0) : carried m c n h = Pipeline.ΦA spec0 c := by
  subst hz; rfl

theorem carried_pos (c : Dev nD) (n : ℕ) (h : n ≤ cfg0.N) (hz : n ≠ 0) :
    carried m c n h = iprop(iprop(owns (c : Thread nD τ) scM0_0 fullShare (KM (kblk m c ⟨n - 1, by omega⟩)) ∗ owns (c : Thread nD τ) scM0_1 fullShare (VT (vblk m c ⟨n - 1, by omega⟩)) ∗ (∃ d, owns (c : Thread nD τ) scM0_2 fullShare d)) ∗ (∃ r, prngReg c r)) := by
  cases n with
  | zero => exact absurd rfl hz
  | succ n => rfl

/-- The pipeline's data: what every window holds after each point, and what is carried. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := carried m c t.val (Nat.le_of_lt_succ t.isLt)
  q _ := fullShare
  owed _ := 0

theorem dat_A (c : Dev nD) (w : Fin cfg0.W) : (dat m 0 c).A w = V m c (Pipeline.arrRef spec0 w) := by
  dsimp only [dat]

theorem dat_Φ (c : Dev nD) (t : Fin cfg0.N) : (dat m 0 c).Φ t.castSucc = carried m c t.val (Nat.le_of_lt t.isLt) := by
  dsimp only [dat]; exact Pipeline.Dat.Φ_castSucc (carried m c) t

theorem dat_after0 (c : Dev nD) (t : Fin cfg0.N) : (dat m 0 c).after 0 t = iblk m c 0 t := by dsimp only [dat]
theorem dat_after1 (c : Dev nD) (t : Fin cfg0.N) : (dat m 0 c).after 1 t = iblk m c 1 t := by dsimp only [dat]
theorem dat_after2 (c : Dev nD) (t : Fin cfg0.N) : (dat m 0 c).after 2 t = iblk m c 2 t := by dsimp only [dat]
theorem dat_after3 (c : Dev nD) (t : Fin cfg0.N) : (dat m 0 c).after 3 t = iblk m c 3 t := by dsimp only [dat]
theorem dat_after4 (c : Dev nD) (t : Fin cfg0.N) : (dat m 0 c).after 4 t = outAt m c t := by dsimp only [dat]

theorem dat_before0 (c : Dev nD) (t : Fin cfg0.N) (d) : (dat m 0 c).before 0 t d = iblk m c 0 t :=
  before0_0_of m (dat m 0 c) (dat_A m c 0) (dat_after0 m c) t d
theorem dat_before1 (c : Dev nD) (t : Fin cfg0.N) (d) : (dat m 0 c).before 1 t d = iblk m c 1 t :=
  before0_1_of m (dat m 0 c) (dat_A m c 1) (dat_after1 m c) t d
theorem dat_before2 (c : Dev nD) (t : Fin cfg0.N) (d) : (dat m 0 c).before 2 t d = iblk m c 2 t :=
  before0_2_of m (dat m 0 c) (dat_A m c 2) (dat_after2 m c) t d
theorem dat_before3 (c : Dev nD) (t : Fin cfg0.N) (d) : (dat m 0 c).before 3 t d = iblk m c 3 t :=
  before0_3_of m (dat m 0 c) (dat_A m c 3) (dat_after3 m c) t d

/-- One whole-block store leaves its payload, whatever was there. -/
theorem read_one {sig' : RefSig} {κ : Kind} {sp : Space} (v : View sig' κ sp S256x128 .f32) (f : v.ty.Contents (Elt F)) (w : Vec F S256x128 .f32) :
    v.read (Elt F) (v.writes (Elt F) f [⟨Rect.unit ![0, 0] S256x128.size inb_S256x128_S256x128_0_0, w⟩]) = w :=
  View.read_writes_full v f _ _ _

/-- What the body starts from at a point. -/
def startOf (c : Dev nD) (t : Fin cfg0.N) : sProp 𝕄 :=
  iprop((dat m 0 c).Φ t.castSucc ∗ (dat m 0 c).owesAt () t.castSucc
    ∗ (∃ d, owns (c : Thread nD τ) (ms0_0 t) fullShare ((dat m 0 c).before 0 t d))
    ∗ (∃ d, owns (c : Thread nD τ) (ms0_1 t) fullShare ((dat m 0 c).before 1 t d))
    ∗ (∃ d, owns (c : Thread nD τ) (ms0_2 t) fullShare ((dat m 0 c).before 2 t d))
    ∗ (∃ d, owns (c : Thread nD τ) (ms0_3 t) fullShare ((dat m 0 c).before 3 t d))
    ∗ (∃ d, owns (c : Thread nD τ) (ms0_4 t) fullShare ((dat m 0 c).before 4 t d)))

/-- What it ends with. -/
def endOf (c : Dev nD) (t : Fin cfg0.N) : sProp 𝕄 :=
  iprop((dat m 0 c).Φ t.succ ∗ (dat m 0 c).owesAt () t.succ
    ∗ owns (c : Thread nD τ) (ms0_0 t) fullShare ((dat m 0 c).after 0 t)
    ∗ owns (c : Thread nD τ) (ms0_1 t) fullShare ((dat m 0 c).after 1 t)
    ∗ owns (c : Thread nD τ) (ms0_2 t) fullShare ((dat m 0 c).after 2 t)
    ∗ owns (c : Thread nD τ) (ms0_3 t) fullShare ((dat m 0 c).after 3 t)
    ∗ owns (c : Thread nD τ) (ms0_4 t) fullShare ((dat m 0 c).after 4 t))

set_option maxHeartbeats 6400000 in
/-- The body's first point of a group, from scratch buffers holding anything. -/
theorem body_first (c : Dev nD) (t : Fin cfg0.N) (h0 : t.val % 8 = 0) :
    iprop(iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r))
      ∗ (dat m 0 c).owesAt () t.castSucc
      ∗ owns (c : Thread nD τ) (ms0_0 t) fullShare (iblk m c 0 t) ∗ owns (c : Thread nD τ) (ms0_1 t) fullShare (iblk m c 1 t)
      ∗ owns (c : Thread nD τ) (ms0_2 t) fullShare (iblk m c 2 t) ∗ owns (c : Thread nD τ) (ms0_3 t) fullShare (iblk m c 3 t)
      ∗ (∃ d, owns (c : Thread nD τ) (ms0_4 t) fullShare d))
    ⊢ wp frame (wpE (defs₀ (F := F)) Variants.none c none) Set.univ (bodyAt0 t) (fun _ => endOf m c t) := by
  unfold endOf bodyAt0
  rw [show (dat m 0 c).owesAt () t.succ = (dat m 0 c).owesAt () t.castSucc from rfl,
    dat_after0, dat_after1, dat_after2, dat_after3, dat_after4]
  rw [show (dat m 0 c).Φ t.succ = carried m c (t.val + 1) t.isLt from rfl, carried]
  have run := first_run (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t)
  iintro ⟨⟨⟨HS0, HS1, HS2⟩, Hg⟩, Ho, H0, H1, H2, H3, H4⟩
  iapply (run Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  iintro ⟨H0, H1, H2, H3, ⟨%f4, H4⟩, ⟨%g0, HS0⟩, ⟨%g1, HS1⟩, HS2⟩
  isplitl [HS0 HS1 HS2 Hg]
  · isplitl [HS0 HS1 HS2]
    · isplitl [HS0]
      · unfold owns; iexists _; isplitr
        swap; · iexact HS0
        ipureintro
        exact funext fun y => View.read_writes_apply_eq_canon _ _ _ _ (km_cover _ y)
      isplitl [HS1]
      · unfold owns; iexists _; isplitr
        swap; · iexact HS1
        ipureintro
        exact funext fun y => View.read_writes_apply_eq_canon _ _ _ _ (vt_cover _ y)
      iexact HS2
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact read_one _ _ _

set_option maxHeartbeats 6400000 in
/-- The body at any point. -/
theorem body_any (c : Dev nD) (t : Fin cfg0.N) :
    startOf m c t ⊢ wp frame (wpE (defs₀ (F := F)) Variants.none c none) Set.univ (bodyAt0 t) (fun _ => endOf m c t) := by
  by_cases h0 : t.val % 8 = 0
  · refine BIBase.Entails.trans ?_ (body_first m c t h0)
    unfold startOf
    simp only [dat_before0, dat_before1, dat_before2, dat_before3]
    by_cases hz : t.val = 0
    · rw [dat_Φ m c t, carried_zero m c _ _ hz, PhiA0_eq]
      iintro ⟨HΦ, Ho, ⟨%d0, H0⟩, ⟨%d1, H1⟩, ⟨%d2, H2⟩, ⟨%d3, H3⟩, ⟨%d4, H4⟩⟩
      isplitl [HΦ]; · iexact HΦ
      isplitl [Ho]; · iexact Ho
      isplitl [H0]; · iexact H0
      isplitl [H1]; · iexact H1
      isplitl [H2]; · iexact H2
      isplitl [H3]; · iexact H3
      iexists _; iexact H4
    · rw [dat_Φ m c t, carried_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      isplitl [HS0 HS1 HS2 Hg]
      · isplitl [HS0 HS1 HS2]
        · isplitl [HS0]
          · iexists _; iexact HS0
          isplitl [HS1]
          · iexists _; iexact HS1
          iexact HS2
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have ek : kblk m c ⟨t.val - 1, Nat.lt_of_le_of_lt (Nat.sub_le _ _) t.isLt⟩ = kblk m c t := kblk_group m c _ _ (by show (t.val - 1) / 8 = t.val / 8; omega)
    have ev : vblk m c ⟨t.val - 1, Nat.lt_of_le_of_lt (Nat.sub_le _ _) t.isLt⟩ = vblk m c t := vblk_group m c _ _ (by show (t.val - 1) / 8 = t.val / 8; omega)
    unfold startOf endOf bodyAt0
    simp only [dat_before0, dat_before1, dat_before2, dat_before3]
    rw [show (dat m 0 c).owesAt () t.succ = (dat m 0 c).owesAt () t.castSucc from rfl,
      dat_after0, dat_after1, dat_after2, dat_after3, dat_after4]
    rw [show (dat m 0 c).Φ t.succ = carried m c (t.val + 1) t.isLt from rfl, carried, dat_Φ m c t, carried_pos m c _ _ hz, ek, ev]
    have run := next_run (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (KM (kblk m c t)) (VT (vblk m c t))
    iintro ⟨⟨⟨HS0, HS1, HS2⟩, Hg⟩, Ho, ⟨%d0, H0⟩, ⟨%d1, H1⟩, ⟨%d2, H2⟩, ⟨%d3, H3⟩, ⟨%d4, H4⟩⟩
    iapply (run Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, ⟨%f4, H4⟩, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact read_one _ _ _

theorem row_at (t : Fin cfg0.N) : defs₀ (F := F) .tc cfg0.body (cfg0.bodyArgs t (cfg0.slots t)) = bodyAt0 t := by
  unfold defs₀; rw [Defs.onTc_tc]

theorem body_ok (c : Dev nD) : BodyObligation (dat (F := F) m 0 c) (defs₀ (F := F)) Variants.none () Set.univ := fun t => by
  rw [bigSep_W0, bigSep_W0, row_at]
  exact triple_restated (body_any m c t) rfl .rfl fun _ => .rfl

theorem enter (c : Dev nD) : Pipeline.ΦA spec0 c ⊢ (dat m 0 c).Φ 0 := by
  rw [show (dat m 0 c).Φ 0 = carried m c 0 (Nat.zero_le _) from rfl, carried_zero m c 0 _ rfl]

theorem leave (c : Dev nD) : (dat m 0 c).Φ (Fin.last cfg0.N) ⊢ Pipeline.ΦA spec0 c := by
  rw [show (dat m 0 c).Φ (Fin.last cfg0.N) = carried m c cfg0.N le_rfl from rfl, carried_pos m c _ _ (by rw [show cfg0.N = 512 from N_0]; omega), PhiA0_eq]
  iintro ⟨⟨HS0, HS1, HS2⟩, Hg⟩
  isplitl [HS0 HS1 HS2]
  · isplitl [HS0]
    · iexists _; iexact HS0
    isplitl [HS1]
    · iexists _; iexact HS1
    iexact HS2
  iexact Hg

set_option backward.isDefEq.respectTransparency.types false in
/-- Every run of the call ends, with the pipeline's arrays as the data say and every counter at zero. -/
theorem run_all : θ_run defs (onTc (τ := τ) (main (F := F))) (s₀ m ρ) (fun r => (Pipeline.FramePost cfgs (dat m) 0 (V m)) r ∧ r.2.sem = fun _ => 0) :=
  Pipeline.θ_run_frame_track (Q' := _) cfgs (dat m) (0 : Fin 1) launch0 defs₀ Variants.none m ρ main
    (hbody := fun c => (body_ok m c).loose) (hshare := fun c => (dat m 0 c).share_full fun _ => rfl)
    (howed := fun _ _ => rfl) (V := V m) (hmain := hmain m Variants.none) (hA := dat_A m) (hin := enter m) (hout := leave m)

/-- The arguments end as they were, and every counter at zero. -/
theorem ends : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dat m) (dat_A m) ((θ_run defs _ _).mono (fun _ h => h.1) (run_all m ρ))) ((θ_run defs _ _).mono (fun _ h => h.2) (run_all m ρ))

end Cert.Moba
-- ==== Proof.Moba.Same.lean ====
module

public import proofs.«01_k».proof.Defs
public import proofs.«01_k».proof.Proof.Gen.Kernel
public import proofs.«01_k».proof.Proof.Moba.Frame
public import Idealize.ShloMosaic.Lib.Claim

@[expose] public section

noncomputable section

namespace Cert.Moba

open Idealize.ShloMosaic Idealize.SL.Sem

/-- A named constant read as the number it was printed from. -/
@[reducible] def asPrinted : Named Bits where
  named _ _ {φ} bits := Scalar.ofBits φ bits

attribute [local instance] asPrinted

set_option maxRecDepth 16384 in
set_option maxHeartbeats 4000000 in
/-- The two prints differ only in the name of the mask. -/
theorem main_same : Cert.Kernel.main (F := Bits) = Cert.KernelIdeal.main (F := Bits) := rfl

set_option maxRecDepth 16384 in
theorem body_same : Cert.Kernel.cc0_moba_prompt (F := Bits) = Cert.KernelIdeal.cc0_moba_prompt (F := Bits) := rfl

set_option maxRecDepth 16384 in
theorem labels_same : Cert.Kernel.defs₀ (F := Bits) = Cert.KernelIdeal.defs₀ (F := Bits) := by
  unfold Cert.Kernel.defs₀ Cert.KernelIdeal.defs₀
  rw [body_same]
  refine congrArg Defs.onTc ?_
  funext l x
  match l, x with
  | 0, (t, s) => rfl
  | ⟨_ + 1, h⟩, _ => exact absurd h (Nat.not_lt.2 (Nat.le_add_left _ _))

theorem defs_same : Cert.Kernel.defs (F := Bits) = Cert.KernelIdeal.defs (F := Bits) := by
  unfold Cert.Kernel.defs Cert.KernelIdeal.defs
  rw [labels_same]
  rfl

/-- The printed kernel ends, with its arguments kept. -/
theorem printed_ends : Cert.quiescent_Kernel := fun m g _ => by
  rw [main_same, defs_same]
  exact ends (F := Bits) m g

end Cert.Moba
-- ==== Proof.Moba.Choice.lean ====
module

public import Idealize.ShloMosaic.Lib.Pointwise

@[expose] public section

noncomputable section

namespace Cert.Moba

/-- `i` is the first of the greatest entries. -/
def FirstMax (H : Fin 8 → EReal) (i : Fin 8) : Prop := ∀ j, j ≠ i → H j < H i ∨ (H j = H i ∧ i < j)

theorem FirstMax.unique {H : Fin 8 → EReal} {i j : Fin 8} (hi : FirstMax H i) (hj : FirstMax H j) : i = j := by
  by_contra h
  rcases hi j (Ne.symm h) with a | ⟨a, a'⟩ <;> rcases hj i h with b | ⟨b, b'⟩
  · exact absurd a b.asymm
  · exact absurd b.symm a.ne
  · exact absurd a.symm b.ne
  · exact absurd a' b'.asymm

theorem FirstMax.le {H : Fin 8 → EReal} {i : Fin 8} (hi : FirstMax H i) (j : Fin 8) : H j ≤ H i := by
  by_cases h : j = i
  · rw [h]
  · rcases hi j h with a | ⟨a, -⟩
    · exact a.le
    · exact a.le

/-- The order of a sorted choice: greater entries first, equal entries by position. -/
def Before (G : Fin 8 → EReal) (a b : Fin 8) : Prop := G b < G a ∨ (G b = G a ∧ a < b)

/-- Three rounds of "take the first greatest entry and cross it out" choose, among the entries that are not crossed out at the
    start, the first three of the sorted order. -/
theorem three_rounds (G : Fin 8 → EReal) (σ : Fin 8 → Fin 8) (hσ : Function.Bijective σ) (hs : ∀ a b, a < b → Before G (σ a) (σ b))
    (i0 i1 i2 : Fin 8) (h0 : FirstMax G i0) (h1 : FirstMax (Function.update G i0 ⊥) i1)
    (h2 : FirstMax (Function.update (Function.update G i0 ⊥) i1 ⊥) i2) (x : Fin 8) (hx : G x ≠ ⊥) :
    (x = i0 ∨ x = i1 ∨ x = i2) ↔ (x = σ 0 ∨ x = σ 1 ∨ x = σ 2) := by
  have e0 : i0 = σ 0 := by
    refine h0.unique fun j hj => ?_
    obtain ⟨a, rfl⟩ := hσ.2 j
    exact hs 0 a (Fin.pos_of_ne_zero fun h => hj (by rw [h]))
  have inj : ∀ {a b : Fin 8}, σ a = σ b → a = b := fun h => hσ.1 h
  obtain ⟨y, rfl⟩ := hσ.2 x
  -- the second round
  have s1 : G (σ 1) ≠ ⊥ → i1 = σ 1 := by
    intro hb
    refine h1.unique fun j hj => ?_
    obtain ⟨a, rfl⟩ := hσ.2 j
    have n1 : σ 1 ≠ i0 := fun h => absurd (inj (h.trans e0)) (by decide)
    by_cases ha : a = 0
    · subst ha
      left
      rw [← e0, Function.update_self, Function.update_of_ne n1]
      exact bot_lt_iff_ne_bot.mpr hb
    · have na : σ a ≠ i0 := fun h => ha (inj (h.trans e0))
      rw [Function.update_of_ne na, Function.update_of_ne n1]
      have a1 : a ≠ 1 := fun h => hj (by rw [h])
      exact hs 1 a (by omega)
  have s2 : G (σ 1) ≠ ⊥ → G (σ 2) ≠ ⊥ → i2 = σ 2 := by
    intro hb hc
    have e1 := s1 hb
    refine h2.unique fun j hj => ?_
    obtain ⟨a, rfl⟩ := hσ.2 j
    have n0 : σ 2 ≠ i0 := fun h => absurd (inj (h.trans e0)) (by decide)
    have n1 : σ 2 ≠ i1 := fun h => absurd (inj (h.trans e1)) (by decide)
    by_cases ha1 : a = 1
    · subst ha1
      left
      rw [← e1, Function.update_self, Function.update_of_ne n1, Function.update_of_ne n0]
      exact bot_lt_iff_ne_bot.mpr hc
    · have na1 : σ a ≠ i1 := fun h => ha1 (inj (h.trans e1))
      by_cases ha : a = 0
      · subst ha
        left
        rw [Function.update_of_ne na1, ← e0, Function.update_self, Function.update_of_ne n1, Function.update_of_ne n0]
        exact bot_lt_iff_ne_bot.mpr hc
      · have na : σ a ≠ i0 := fun h => ha (inj (h.trans e0))
        rw [Function.update_of_ne na1, Function.update_of_ne na, Function.update_of_ne n1, Function.update_of_ne n0]
        have a2 : a ≠ 2 := fun h => hj (by rw [h])
        exact hs 2 a (by omega)
  -- an entry at or before a live one is live
  have live : ∀ a b, a < b → G (σ b) ≠ ⊥ → G (σ a) ≠ ⊥ := by
    intro a b hab hb h
    rcases hs a b hab with h' | ⟨h', -⟩
    · rw [h] at h'; exact absurd h' not_lt_bot
    · exact hb (h'.trans h)
  constructor
  · rintro (h | h | h)
    · exact Or.inl (h.trans e0)
    · -- the second
      by_cases hy : y = 0
      · exact Or.inl (by rw [hy])
      · right; left
        by_contra hne
        have y1 : y ≠ 1 := fun h => hne (by rw [h])
        have l1 := live 1 y (by omega) hx
        exact hne (h.trans (s1 l1))
    · by_cases hy : y = 0
      · exact Or.inl (by rw [hy])
      by_cases hy1 : y = 1
      · exact Or.inr (Or.inl (by rw [hy1]))
      right; right
      by_contra hne
      have y2 : y ≠ 2 := fun h => hne (by rw [h])
      have l2 := live 2 y (by omega) hx
      exact hne (h.trans (s2 (live 1 2 (by decide) l2) l2))
  · rintro (h | h | h)
    · exact Or.inl (h.trans e0.symm)
    · have := inj h; subst this
      exact Or.inr (Or.inl (s1 hx).symm)
    · have := inj h; subst this
      exact Or.inr (Or.inr (s2 (live 1 2 (by decide) hx) hx).symm)

end Cert.Moba
-- ==== Proof.Moba.Words.lean ====
module

public import proofs.«01_k».proof.Proof.Moba.Choice
public import proofs.«01_k».proof.Proof.Gen.KernelIdeal.Skeleton
public import Idealize.ShloMosaic.Lib.Pointwise
public import Idealize.ShloMosaic.Lib.SortNet.Extract

@[expose] public section

noncomputable section

namespace Cert.Moba

open Idealize.ShloMosaic

/-! ## The constants -/

theorem lit_bot : Ideal.ofBits .f32 4286578688#32 = ⊥ := by
  simp [Ideal.ofBits, Ideal.ieee, -EReal.coe_mul]

theorem lit_256 : Ideal.ofBits .f32 1132462080#32 = ((256 : ℝ) : EReal) := by
  simp [Ideal.ofBits, Ideal.ieee, -EReal.coe_mul]; norm_num

theorem lit_eighth : Ideal.ofBits .f32 1040187392#32 = ((0.125 : ℝ) : EReal) := by
  simp [Ideal.ofBits, Ideal.ieee, -EReal.coe_mul]; norm_num

theorem lit_zero : Ideal.ofBits .f32 0#32 = 0 := by
  simp [Ideal.ofBits, Ideal.ieee, -EReal.coe_mul]

theorem lit_mask : Named.named (F := Ideal) Cert.KernelIdeal.κ "mask" (φ := .f32) 4048155338#32 = ⊥ :=
  rfl

/-! ## Comparisons of small numbers -/

theorem select_eq_ite {α : Type} (p : Prop) [Decidable p] (c : BitVec 1) (h : c = 1#1 ↔ p) (x y : α) : Scalar.select c x y = if p then x else y := by
  by_cases hp : p
  · rw [if_pos hp, h.mpr hp]; rfl
  · rw [if_neg hp]
    have : c ≠ 1#1 := fun hc => hp (h.mp hc)
    exact if_neg this

theorem cmp_eq_small (a b : ℕ) (ha : a < 2048) (hb : b < 2048) : IntOp.cmpi .eq (BitVec.ofNat 32 a) (BitVec.ofNat 32 b) = 1#1 ↔ a = b := by
  rw [show IntOp.cmpi .eq (BitVec.ofNat 32 a) (BitVec.ofNat 32 b) = BitVec.ofBool (BitVec.ofNat 32 a == BitVec.ofNat 32 b) from rfl]
  by_cases h : a = b
  · subst h; simp
  · have : BitVec.ofNat 32 a ≠ BitVec.ofNat 32 b := fun h' => h (by
      have := congrArg BitVec.toNat h'
      simp only [BitVec.toNat_ofNat] at this
      omega)
    rw [beq_eq_false_iff_ne.mpr this]
    simp [h]

theorem toInt_small (a : ℕ) (ha : a < 2048) : (BitVec.ofNat 32 a).toInt = a := by
  rw [BitVec.toInt_ofNat', Int.bmod_eq_of_le] <;> omega

theorem cmp_lt_small (a b : ℕ) (ha : a < 2048) (hb : b < 2048) : IntOp.cmpi .slt (BitVec.ofNat 32 a) (BitVec.ofNat 32 b) = 1#1 ↔ a < b := by
  rw [show IntOp.cmpi .slt (BitVec.ofNat 32 a) (BitVec.ofNat 32 b) = BitVec.ofBool ((BitVec.ofNat 32 a).slt (BitVec.ofNat 32 b)) from rfl,
    BitVec.slt_eq_decide, toInt_small a ha, toInt_small b hb]
  by_cases h : a < b
  · simp [h]
  · simp [h]

/-- The remainder by 256 as the kernel spells it. -/
theorem rem_256 (b : Fin 512) : (Scalar.select
          (IntOp.andi
            (IntOp.xori
              (IntOp.cmpi CmpIPredicate.slt
                (IntOp.remsi ArithUnit.vector (BitVec.ofNat 32 ↑b)
                  (Scalar.select (Scalar.cmpi CmpIPredicate.eq 256#32 0#32) 1#32 256#32))
                0#32)
              (Scalar.cmpi CmpIPredicate.slt (Scalar.select (Scalar.cmpi CmpIPredicate.eq 256#32 0#32) 1#32 256#32)
                0#32))
            (IntOp.cmpi CmpIPredicate.ne
              (IntOp.remsi ArithUnit.vector (BitVec.ofNat 32 ↑b)
                (Scalar.select (Scalar.cmpi CmpIPredicate.eq 256#32 0#32) 1#32 256#32))
              0#32))
          (IntOp.addi
            (IntOp.remsi ArithUnit.vector (BitVec.ofNat 32 ↑b)
              (Scalar.select (Scalar.cmpi CmpIPredicate.eq 256#32 0#32) 1#32 256#32))
            (Scalar.select (Scalar.cmpi CmpIPredicate.eq 256#32 0#32) 1#32 256#32))
          (IntOp.remsi ArithUnit.vector (BitVec.ofNat 32 ↑b)
            (Scalar.select (Scalar.cmpi CmpIPredicate.eq 256#32 0#32) 1#32 256#32))) = BitVec.ofNat 32 (b.val % 256) := by
  revert b; decide +kernel

theorem toInt_diff (a b : ℕ) (ha : a < 2048) (hb : b < 2048) : (IntOp.subi (BitVec.ofNat 32 a) (BitVec.ofNat 32 b)).toInt = (a : ℤ) - b := by
  rw [show IntOp.subi (BitVec.ofNat 32 a) (BitVec.ofNat 32 b) = BitVec.ofNat 32 a - BitVec.ofNat 32 b from rfl, BitVec.toInt_sub, toInt_small a ha, toInt_small b hb,
    Int.bmod_eq_of_le] <;> omega

/-- A pair's number of rows away from the own block. -/
theorem pair_gap (b : Fin 8) (k : Fin 4) :
    (Scalar.muli (Scalar.subi (BitVec.ofNat 32 b.val) (Scalar.muli (2#32) (Scf.iv 0#32 1#32 k.val))) 256#32).toInt = 256 * ((b.val : ℤ) - 2 * k.val) := by
  revert b k; decide +kernel

theorem pair_even (k : Fin 4) : Scalar.addi (Scalar.muli (2#32) (Scf.iv 0#32 1#32 k.val)) 0#32 = BitVec.ofNat 32 (2 * k.val) := by
  revert k; decide +kernel

theorem pair_odd (k : Fin 4) : Scalar.addi (Scalar.muli (2#32) (Scf.iv 0#32 1#32 k.val)) 1#32 = BitVec.ofNat 32 (2 * k.val + 1) := by
  revert k; decide +kernel

/-! ## The rounds of the choice -/

/-- The number of the first greatest entry, as a round of the kernel finds it. -/
def pick (G : Fin 8 → EReal) : BitVec 32 :=
  Finset.fold IntOp.minsi (2147483647#32) (fun n => if G n = Finset.fold max ⊥ G Finset.univ then BitVec.ofNat 32 n.val else 8#32) Finset.univ

theorem fold_max_attained (G : Fin 8 → EReal) : ∃ i, G i = Finset.fold max ⊥ G Finset.univ ∧ ∀ j, G j ≤ G i := by
  obtain ⟨i, -, hi⟩ := Finset.exists_max_image Finset.univ G ⟨0, Finset.mem_univ _⟩
  refine ⟨i, le_antisymm ?_ ?_, fun j => hi j (Finset.mem_univ j)⟩
  · exact Finset.le_fold_max _ |>.mpr (Or.inr ⟨i, Finset.mem_univ i, le_rfl⟩)
  · exact Finset.fold_max_le _ |>.mpr ⟨bot_le, fun j _ => hi j (Finset.mem_univ j)⟩

theorem pick_first (G : Fin 8 → EReal) : ∃ i, pick G = BitVec.ofNat 32 i.val ∧ FirstMax G i := by
  obtain ⟨i1, e1, h1⟩ := fold_max_attained G
  obtain ⟨i, hi, hmin⟩ := Finset.exists_min_image (Finset.univ.filter fun n => G n = Finset.fold max ⊥ G Finset.univ) id ⟨i1, by simp [e1]⟩
  have hi' : G i = Finset.fold max ⊥ G Finset.univ := (Finset.mem_filter.mp hi).2
  refine ⟨i, ?_, fun j hj => ?_⟩
  · apply BitVec.eq_of_toInt_eq
    unfold pick
    have hom := Finset.fold_hom (op := IntOp.minsi (w := 32)) (op' := min) (m := BitVec.toInt) (b := 2147483647#32)
      (f := fun n : Fin 8 => if G n = Finset.fold max ⊥ G Finset.univ then BitVec.ofNat 32 n.val else 8#32) (s := Finset.univ) (fun x y => SortNet.toInt_minsi x y)
    rw [← hom, toInt_small i.val (by omega)]
    refine le_antisymm ?_ ?_
    · refine (Finset.fold_min_le _).mpr (Or.inr ⟨i, Finset.mem_univ i, ?_⟩)
      rw [if_pos hi', toInt_small i.val (by omega)]
    · refine (Finset.le_fold_min _).mpr ⟨?_, fun j _ => ?_⟩
      · have : (2147483647#32).toInt = 2147483647 := by decide
        omega
      · split
        · rename_i hj
          rw [toInt_small j.val (by omega)]
          have : i ≤ j := hmin j (by simp [hj])
          exact_mod_cast this
        · have : (8#32).toInt = 8 := by decide
          omega
  · have le : G j ≤ G i := by rw [hi', ← e1]; exact h1 j
    rcases le.lt_or_eq with h | h
    · exact Or.inl h
    · refine Or.inr ⟨h, ?_⟩
      have := hmin j (by simp [h, hi'])
      exact lt_of_le_of_ne this (Ne.symm hj)

/-- Crossing an entry out. -/
def strike (G : Fin 8 → EReal) (n : Fin 8) : EReal := Scalar.select (IntOp.cmpi .eq (BitVec.ofNat 32 n.val) (pick G)) ⊥ (G n)

theorem strike_eq (G : Fin 8 → EReal) (i : Fin 8) (h : pick G = BitVec.ofNat 32 i.val) : strike G = Function.update G i ⊥ := by
  funext n
  unfold strike
  rw [h, select_eq_ite (n = i) _ ((cmp_eq_small _ _ (by omega) (by omega)).trans Fin.ext_iff.symm), Function.update_apply]

end Cert.Moba
-- ==== Proof.Moba.Softmax.lean ====
module

public import Idealize.ShloMosaic.Lib.Pointwise
public import Idealize.ShloMosaic.PureOps.Ideal

@[expose] public section

noncomputable section

namespace Cert.Moba

open Idealize.ShloMosaic
open scoped Classical

/-! ## Sums of extended reals -/

theorem coe_sum {ι : Type} (s : Finset ι) (f : ι → ℝ) : ((∑ i ∈ s, f i : ℝ) : EReal) = ∑ i ∈ s, (f i : EReal) := by
  induction s using Finset.induction_on with
  | empty => simp
  | insert a s ha ih => rw [Finset.sum_insert ha, Finset.sum_insert ha, EReal.coe_add, ih]

/-- A nonnegative real factor goes into a sum of any extended reals. -/
theorem sum_mul_real {ι : Type} (s : Finset ι) (f : ι → EReal) (c : ℝ) (hc : 0 ≤ c) : (∑ i ∈ s, f i) * (c : EReal) = ∑ i ∈ s, f i * (c : EReal) := by
  induction s using Finset.induction_on with
  | empty => simp
  | insert a s ha ih =>
    rw [Finset.sum_insert ha, Finset.sum_insert ha, EReal.right_distrib_of_nonneg_of_ne_top (by exact_mod_cast hc) (EReal.coe_ne_top _), ih]

/-- A window of a sum over all rows. -/
theorem sum_window {A : Type} [AddCommMonoid A] {n w : ℕ} (o : ℕ) (ho : o + w ≤ n) (f : Fin n → A) :
    (∑ j : Fin w, f ⟨o + j.val, by omega⟩) = ∑ r : Fin n, if o ≤ r.val ∧ r.val < o + w then f r else 0 := by
  rw [← Finset.sum_filter]
  refine Finset.sum_bij (fun j _ => ⟨o + j.val, by omega⟩) ?_ ?_ ?_ ?_
  · intro j _
    simp
  · intro a _ b _ h
    have := congrArg Fin.val h
    exact Fin.ext (by simpa using this)
  · intro r hr
    have h := (Finset.mem_filter.mp hr).2
    exact ⟨⟨r.val - o, by omega⟩, Finset.mem_univ _, Fin.ext (by simp; omega)⟩
  · intro j _
    rfl

/-! ## The softmax over the seen rows -/

/-- The unnormalised weight of a row, relative to `M`. -/
def wt (seen : Fin 2048 → Prop) (s : Fin 2048 → ℝ) (M : ℝ) (r : Fin 2048) : ℝ := if seen r then Real.exp (s r - M) else 0

/-- Attention of one query over the seen rows, in one lane: the softmax weights times the lane's values. -/
def attn (seen : Fin 2048 → Prop) (s : Fin 2048 → ℝ) (v : Fin 2048 → EReal) : EReal :=
  ∑ r, ((wt seen s 0 r / ∑ r', wt seen s 0 r' : ℝ) : EReal) * v r

theorem wt_nonneg (seen : Fin 2048 → Prop) (s : Fin 2048 → ℝ) (M : ℝ) (r : Fin 2048) : 0 ≤ wt seen s M r := by
  unfold wt; split
  · exact (Real.exp_pos _).le
  · exact le_rfl

theorem wt_shift (seen : Fin 2048 → Prop) (s : Fin 2048 → ℝ) (M M' : ℝ) (r : Fin 2048) : wt seen s M r * Real.exp (M - M') = wt seen s M' r := by
  unfold wt; split
  · rw [← Real.exp_add]; congr 1; ring
  · rw [zero_mul]

theorem wt_ratio (seen : Fin 2048 → Prop) (s : Fin 2048 → ℝ) (M : ℝ) (r : Fin 2048) :
    wt seen s M r / ∑ r', wt seen s M r' = wt seen s 0 r / ∑ r', wt seen s 0 r' := by
  have h : ∀ r, wt seen s M r = wt seen s 0 r * Real.exp (0 - M) := fun r => (wt_shift seen s 0 M r).symm
  rw [h r, Finset.sum_congr rfl (fun r' _ => h r'), ← Finset.sum_mul]
  exact mul_div_mul_right _ _ (Real.exp_pos _).ne'

theorem wt_sum_pos (seen : Fin 2048 → Prop) (s : Fin 2048 → ℝ) (M : ℝ) (r : Fin 2048) (hr : seen r) : 0 < ∑ r', wt seen s M r' :=
  Finset.sum_pos' (fun r' _ => wt_nonneg seen s M r') ⟨r, Finset.mem_univ r, by unfold wt; rw [if_pos hr]; exact Real.exp_pos _⟩

/-- What a running softmax holds of one query: a finite shift, the sum of the weights, and in every lane the weighted values. -/
def Holds (seen : Fin 2048 → Prop) (s : Fin 2048 → ℝ) {D : Type} (v : D → Fin 2048 → EReal) (m l : EReal) (acc : D → EReal) : Prop :=
  ∃ M : ℝ, m = (M : EReal) ∧ l = ((∑ r, wt seen s M r : ℝ) : EReal) ∧ ∀ d, acc d = ∑ r, ((wt seen s M r : ℝ) : EReal) * v d r

/-- The masked score. -/
def masked (p : Fin 2048 → Prop) (s : Fin 2048 → ℝ) (r : Fin 2048) : EReal := if p r then (s r : EReal) else ⊥

theorem exp_masked (p : Fin 2048 → Prop) (s : Fin 2048 → ℝ) (M : ℝ) (r : Fin 2048) :
    Ideal.exp (masked p s r - (M : EReal)) = ((wt p s M r : ℝ) : EReal) := by
  unfold masked wt
  split
  · rw [← EReal.coe_sub, Ideal.exp_coe]
  · rw [EReal.bot_sub, Ideal.exp_bot]; rfl

/-- The first block. -/
theorem holds_first (own : Fin 2048 → Prop) (s : Fin 2048 → ℝ) {D : Type} (v : D → Fin 2048 → EReal) (o : ℕ) (ho : o + 256 ≤ 2048)
    (hown : ∀ r, own r → o ≤ r.val ∧ r.val < o + 256) (m l : EReal) (acc : D → EReal) (hm : ∃ M : ℝ, m = (M : EReal))
    (hl : l = ∑ j : Fin 256, Ideal.exp (masked own s ⟨o + j.val, by omega⟩ - m))
    (ha : ∀ d, acc d = ∑ j : Fin 256, v d ⟨o + j.val, by omega⟩ * Ideal.exp (masked own s ⟨o + j.val, by omega⟩ - m)) :
    Holds own s v m l acc := by
  obtain ⟨M, rfl⟩ := hm
  have out : ∀ r : Fin 2048, ¬(o ≤ r.val ∧ r.val < o + 256) → wt own s M r = 0 := fun r h => by
    unfold wt; rw [if_neg (fun h' => h (hown r h'))]
  refine ⟨M, rfl, ?_, fun d => ?_⟩
  · rw [hl]
    simp only [exp_masked]
    rw [sum_window o ho (fun r => ((wt own s M r : ℝ) : EReal)), coe_sum]
    refine Finset.sum_congr rfl fun r _ => ?_
    split
    · rfl
    · rename_i h; rw [out r h]; rfl
  · rw [ha d]
    simp only [exp_masked]
    rw [sum_window o ho (fun r => v d r * ((wt own s M r : ℝ) : EReal))]
    refine Finset.sum_congr rfl fun r _ => ?_
    split
    · rw [mul_comm]
    · rename_i h; rw [out r h]; simp

/-- One more pair of blocks. -/
theorem holds_step (seen seen' picked : Fin 2048 → Prop) (s : Fin 2048 → ℝ) {D : Type} (v : D → Fin 2048 → EReal) (o : ℕ) (ho : o + 512 ≤ 2048)
    (hseen' : ∀ r, seen' r ↔ seen r ∨ ((o ≤ r.val ∧ r.val < o + 512) ∧ picked r))
    (hdisj : ∀ r : Fin 2048, (o ≤ r.val ∧ r.val < o + 512) → picked r → ¬seen r)
    (m l m' l' : EReal) (acc acc' : D → EReal) (h : Holds seen s v m l acc) (hm : ∃ M : ℝ, m' = (M : EReal))
    (hl : l' = l * Ideal.exp (m - m') + ((∑ j : Fin 256, Ideal.exp (masked picked s ⟨o + j.val, by omega⟩ - m'))
      + ∑ j : Fin 256, Ideal.exp (masked picked s ⟨o + 256 + j.val, by omega⟩ - m')))
    (ha : ∀ d, acc' d = acc d * Ideal.exp (m - m') + ((∑ j : Fin 256, v d ⟨o + j.val, by omega⟩ * Ideal.exp (masked picked s ⟨o + j.val, by omega⟩ - m'))
      + ∑ j : Fin 256, v d ⟨o + 256 + j.val, by omega⟩ * Ideal.exp (masked picked s ⟨o + 256 + j.val, by omega⟩ - m'))) :
    Holds seen' s v m' l' acc' := by
  obtain ⟨M', rfl⟩ := hm
  obtain ⟨M, rfl, el, ea⟩ := h
  have eexp : Ideal.exp ((M : EReal) - (M' : EReal)) = ((Real.exp (M - M') : ℝ) : EReal) := by rw [← EReal.coe_sub, Ideal.exp_coe]
  have split_wt : ∀ r : Fin 2048, wt seen' s M' r = wt seen s M r * Real.exp (M - M') + if o ≤ r.val ∧ r.val < o + 512 then wt picked s M' r else 0 := fun r => by
    rw [wt_shift]
    unfold wt
    by_cases hw : o ≤ r.val ∧ r.val < o + 512
    · by_cases hp : picked r
      · rw [if_pos ((hseen' r).mpr (Or.inr ⟨hw, hp⟩)), if_neg (hdisj r hw hp), if_pos hw, if_pos hp, zero_add]
      · rw [if_pos hw, if_neg hp, add_zero]
        by_cases hs : seen r
        · rw [if_pos ((hseen' r).mpr (Or.inl hs)), if_pos hs]
        · rw [if_neg hs, if_neg fun h => ((hseen' r).mp h).elim hs fun h => hp h.2]
    · rw [if_neg hw, add_zero]
      by_cases hs : seen r
      · rw [if_pos ((hseen' r).mpr (Or.inl hs)), if_pos hs]
      · rw [if_neg hs, if_neg fun h => ((hseen' r).mp h).elim hs fun h => hw h.1]
  refine ⟨M', rfl, ?_, fun d => ?_⟩
  · rw [hl, el, eexp]
    simp only [exp_masked]
    rw [sum_window o (by omega) (fun r => ((wt picked s M' r : ℝ) : EReal)), sum_window (o + 256) (by omega) (fun r => ((wt picked s M' r : ℝ) : EReal)),
      ← Finset.sum_add_distrib, ← EReal.coe_mul, Finset.sum_mul, coe_sum, coe_sum, ← Finset.sum_add_distrib]
    refine Finset.sum_congr rfl fun r _ => ?_
    rw [split_wt r, EReal.coe_add]
    congr 1
    by_cases h1 : o ≤ r.val ∧ r.val < o + 256
    · rw [if_pos h1, if_neg (by omega), if_pos (by omega), add_zero]
    · by_cases h2 : o + 256 ≤ r.val ∧ r.val < o + 256 + 256
      · rw [if_neg h1, if_pos h2, if_pos (by omega), zero_add]
      · rw [if_neg h1, if_neg h2, if_neg (by omega), add_zero]; rfl
  · rw [ha d, ea d, eexp]
    simp only [exp_masked]
    rw [sum_window o (by omega) (fun r => v d r * ((wt picked s M' r : ℝ) : EReal)), sum_window (o + 256) (by omega) (fun r => v d r * ((wt picked s M' r : ℝ) : EReal)),
      ← Finset.sum_add_distrib, sum_mul_real _ _ _ (Real.exp_pos _).le, ← Finset.sum_add_distrib]
    refine Finset.sum_congr rfl fun r _ => ?_
    have e1 : ((wt seen s M r : ℝ) : EReal) * v d r * ((Real.exp (M - M') : ℝ) : EReal) = ((wt seen s M r * Real.exp (M - M') : ℝ) : EReal) * v d r := by
      rw [EReal.coe_mul, mul_assoc, mul_comm (v d r), ← mul_assoc]
    rw [e1, split_wt r, EReal.coe_add, EReal.right_distrib_of_nonneg (by exact_mod_cast mul_nonneg (wt_nonneg _ _ _ _) (Real.exp_pos _).le)
      (by split
          · exact_mod_cast wt_nonneg _ _ _ _
          · exact le_rfl)]
    congr 1
    by_cases h1 : o ≤ r.val ∧ r.val < o + 256
    · rw [if_pos h1, if_neg (by omega), if_pos (by omega), add_zero, mul_comm]
    · by_cases h2 : o + 256 ≤ r.val ∧ r.val < o + 256 + 256
      · rw [if_neg h1, if_pos h2, if_pos (by omega), zero_add, mul_comm]
      · rw [if_neg h1, if_neg h2, if_neg (by omega)]; simp

/-- The end: dividing by the sum of the weights gives the attention. -/
theorem holds_attn (seen : Fin 2048 → Prop) (s : Fin 2048 → ℝ) {D : Type} (v : D → Fin 2048 → EReal) (m l : EReal) (acc : D → EReal)
    (h : Holds seen s v m l acc) (r0 : Fin 2048) (hr : seen r0) (d : D) : acc d * Ideal.div 1 l = attn seen s (v d) := by
  obtain ⟨M, -, el, ea⟩ := h
  have hp := wt_sum_pos seen s M r0 hr
  rw [ea d, el, Ideal.div_coe hp.ne', one_mul, sum_mul_real _ _ _ (one_div_nonneg.mpr hp.le)]
  unfold attn
  refine Finset.sum_congr rfl fun r _ => ?_
  rw [← wt_ratio seen s M r, mul_assoc, mul_comm (v d r), ← mul_assoc, ← EReal.coe_mul, mul_one_div]

/-- The plain form: exponentials relative to a finite shift, divided by their sum, times the values. -/
theorem plain_attn (seen : Fin 2048 → Prop) (s : Fin 2048 → ℝ) (v : Fin 2048 → EReal) (M : ℝ) (r0 : Fin 2048) (hr : seen r0) :
    ∑ r, v r * Ideal.div (Ideal.exp (masked seen s r - (M : EReal))) (∑ r', Ideal.exp (masked seen s r' - (M : EReal))) = attn seen s v := by
  have hp := wt_sum_pos seen s M r0 hr
  simp only [exp_masked]
  rw [← coe_sum]
  unfold attn
  refine Finset.sum_congr rfl fun r _ => ?_
  rw [Ideal.div_coe hp.ne', ← EReal.coe_mul, mul_one_div, wt_ratio, mul_comm]

end Cert.Moba
-- ==== Proof.Moba.Reads.lean ====
module

public import proofs.«01_k».proof.Proof.Moba.Pieces
public import proofs.«01_k».proof.Proof.Moba.Words
public import proofs.«01_k».proof.Proof.Moba.Softmax
public import Idealize.ShloMosaic.Lib.Pointwise
public import Idealize.ShloMosaic.Lib.Pipeline.ValueKit.Tiles

@[expose] public section

set_option maxRecDepth 16384

noncomputable section

namespace Cert.Moba

open Cert.KernelIdeal Cert.KernelIdeal.Gen
open Idealize.ShloMosaic Idealize.ShloMosaic.TcCoe Idealize.ShloMosaic.Tactic
open scoped Classical

/-! ## The rounds, for any numbering of the blocks -/

def pickW (w : Fin 8 → BitVec 32) (G : Fin 8 → EReal) : BitVec 32 :=
  Finset.fold IntOp.minsi (2147483647#32) (fun n => if G n = Finset.fold max (Ideal.ofBits FTy.f32 4286578688#32) G Finset.univ then w n else 8#32) Finset.univ

def strikeW (w : Fin 8 → BitVec 32) (G : Fin 8 → EReal) (n : Fin 8) : EReal :=
  Scalar.select (IntOp.cmpi .eq (w n) (pickW w G)) (Ideal.ofBits FTy.f32 4286578688#32) (G n)

/-- What three rounds leave at block `a`: `u` where a round took it, else `c`. -/
def roundsW (w : Fin 8 → BitVec 32) (G : Fin 8 → EReal) (a : Fin 8) (u c : EReal) : EReal :=
  Scalar.select (IntOp.cmpi .eq (w a) (pickW w (strikeW w (strikeW w G)))) u
    (Scalar.select (IntOp.cmpi .eq (w a) (pickW w (strikeW w G))) u
      (Scalar.select (IntOp.cmpi .eq (w a) (pickW w G)) u c))

theorem pickW_eq : pickW (fun n => BitVec.ofNat 32 n.val) = pick := by
  funext G; unfold pickW pick; rw [lit_bot]

theorem strikeW_eq : strikeW (fun n => BitVec.ofNat 32 n.val) = strike := by
  funext G n; unfold strikeW strike; rw [lit_bot, pickW_eq]

/-- Block `n` is one of the three best. -/
def Best (G : Fin 8 → EReal) (n : Fin 8) : Prop :=
  BitVec.ofNat 32 n.val = pick G ∨ BitVec.ofNat 32 n.val = pick (strike G) ∨ BitVec.ofNat 32 n.val = pick (strike (strike G))

theorem roundsW_eq (G : Fin 8 → EReal) (a : Fin 8) (u c : EReal) :
    roundsW (fun n => BitVec.ofNat 32 n.val) G a u c = if Best G a then u else c := by
  unfold roundsW Best
  rw [strikeW_eq, pickW_eq]
  have e : ∀ (x y : BitVec 32) (u v : EReal), Scalar.select (IntOp.cmpi .eq x y) u v = if x = y then u else v := fun x y u v =>
    select_eq_ite (x = y) _ (by
      rw [show IntOp.cmpi .eq x y = BitVec.ofBool (x == y) from rfl]
      by_cases h : x = y
      · simp [h]
      · rw [beq_eq_false_iff_ne.mpr h]; simp [h]) u v
  simp only [e]
  by_cases h0 : BitVec.ofNat 32 a.val = pick G <;> by_cases h1 : BitVec.ofNat 32 a.val = pick (strike G) <;>
    by_cases h2 : BitVec.ofNat 32 a.val = pick (strike (strike G)) <;> simp [h0, h1, h2]

/-! ## What the body's expressions are at one place -/

variable (i : grid0.Coords)

theorem i2_lt : (i 2).val < 8 := (i 2).isLt
theorem i1_lt : (i 1).val < 4 := (i 1).isLt

variable (k : Fin (k0_t1_loop i).trips)

theorem k_lt : k.val < 4 := by
  have h1 := k.isLt; have h2 := trips1 i; have h3 := i2_lt i; omega

theorem two_k_lt : 2 * k.val < (i 2).val + 1 := by
  have h1 := k.isLt; have h2 := trips1 i; have h3 := i2_lt i; omega

/-! ## The loads -/

theorem x0_read0 (x0 : Vec Ideal S8 .f32) (h) : View.ld x0 (Rect.unit (k0_off1 i) S1.size (k0_off1_inb i)) (Shape.Idx.first h) = x0 (ix1 ⟨2 * (i 1).val, by have := i1_lt i; omega⟩) := by
  pointwise
  exact congrArg x0 (congrArg ix1 (Fin.ext (congrFun (k0_off1_eq i) 0)))

theorem x0_read1 (x0 : Vec Ideal S8 .f32) (h) : View.ld x0 (Rect.unit (k0_off2 i) S1.size (k0_off2_inb i)) (Shape.Idx.first h) = x0 (ix1 ⟨2 * (i 1).val + 1, by have := i1_lt i; omega⟩) := by
  pointwise
  exact congrArg x0 (congrArg ix1 (Fin.ext (congrFun (k0_off2_eq i) 0)))

theorem ix2_congr {n m : ℕ} {a a' : Fin n} {b b' : Fin m} (ha : a.val = a'.val) (hb : b.val = b'.val) : ix2 a b = ix2 a' b' := by
  rw [Fin.ext ha, Fin.ext hb]

theorem own_keys (x2 : Vec Ideal S2048x128 .f32) (a : Fin 256) (b : Fin 128) :
    View.ld x2 (Rect.unit (k0_off3 i) S256x128.size (k0_off3_inb i)) (ix2 a b) = x2 (ix2 ⟨256 * (i 2).val + a.val, by have := i2_lt i; omega⟩ b) := by
  pointwise
  exact congrArg x2 (ix2_congr (congrArg (· + a.val) (congrFun (k0_off3_eq i) 0)) ((congrArg (· + b.val) (congrFun (k0_off3_eq i) 1)).trans (Nat.zero_add _)))

theorem own_vals (vt : Vec Ideal S128x2048 .bf16) (a : Fin 128) (b : Fin 256) :
    View.ld vt (Rect.unit (k0_off4 i) S128x256.size (k0_off4_inb i)) (ix2 a b) = vt (ix2 a ⟨256 * (i 2).val + b.val, by have := i2_lt i; omega⟩) := by
  pointwise
  exact congrArg vt (ix2_congr ((congrArg (· + a.val) (congrFun (k0_off4_eq i) 0)).trans (Nat.zero_add _)) (congrArg (· + b.val) (congrFun (k0_off4_eq i) 1)))

theorem pair_keys (x2 : Vec Ideal S2048x128 .f32) (a : Fin 512) (b : Fin 128) :
    View.ld x2 (Rect.unit (k0_off5 i k) S512x128.size (k0_off5_inb i k)) (ix2 a b) = x2 (ix2 ⟨512 * k.val + a.val, by have := k_lt i k; omega⟩ b) := by
  pointwise
  exact congrArg x2 (ix2_congr (congrArg (· + a.val) (congrFun (k0_off5_eq i k) 0)) ((congrArg (· + b.val) (congrFun (k0_off5_eq i k) 1)).trans (Nat.zero_add _)))

theorem pair_vals (vt : Vec Ideal S128x2048 .bf16) (a : Fin 128) (b : Fin 512) :
    View.ld vt (Rect.unit (k0_off6 i k) S128x512.size (k0_off6_inb i k)) (ix2 a b) = vt (ix2 a ⟨512 * k.val + b.val, by have := k_lt i k; omega⟩) := by
  pointwise
  exact congrArg vt (ix2_congr ((congrArg (· + a.val) (congrFun (k0_off6_eq i k) 0)).trans (Nat.zero_add _)) (congrArg (· + b.val) (congrFun (k0_off6_eq i k) 1)))

/-! ## The mean keys and the transposed values -/

theorem km_at (x2 : Vec Ideal S2048x128 .f32) (n : Fin 8) (l : Fin 128) :
    KM x2 (ix2 n l) = Ideal.div (∑ a : Fin 256, x2 (ix2 ⟨256 * n.val + a.val, by omega⟩ l)) ((256 : ℝ) : EReal) := by
  unfold KM kmPieces
  canon_tiles x h using km_cover x2 _
  all_goals
    obtain ⟨x0, x1, rfl⟩ : ∃ (x0 : Fin 1) (x1 : Fin 128), x = ix2 x0 x1 := ⟨x 0, x 1, eq_ix2 x⟩
    unfold k0_pay31
    pointwise
    rw [lit_256]
    refine congrArg (Ideal.div · _) (Finset.sum_congr rfl fun a _ => congrArg x2 (ix2_congr ?_ h1.symm))
    change n.val = _ at h0
    dsimp only
    omega

theorem vt_at (x3 : Vec Ideal S2048x128 .f32) (d : Fin 128) (r : Fin 2048) : VT x3 (ix2 d r) = x3 (ix2 r d) := by
  unfold VT vtPieces
  canon_tiles x h using vt_cover x3 _
  all_goals
    obtain ⟨x0, x1, rfl⟩ : ∃ (x0 : Fin 128) (x1 : Fin 256), x = ix2 x0 x1 := ⟨x 0, x 1, eq_ix2 x⟩
    unfold k0_pay32
    pointwise
    refine congrArg x3 (ix2_congr ?_ h0.symm)
    exact h1.symm

/-! ## The scores -/

/-- A query of a pair of heads, with the lanes of the other head at zero: column `j` is query `j % 256` of head `j / 256`. -/
def qs (q : Fin 256 → Fin 128 → ℝ) (j : Fin 512) (l : Fin 128) : ℝ := if (j.val < 256 ↔ l.val < 64) then q ⟨j.val % 256, by omega⟩ l else 0

/-- The slope of a column's head. -/
def slopeOf (sl : Fin 8 → ℝ) (h : ℕ) (hh : h < 4) (j : Fin 512) : ℝ := if j.val < 256 then sl ⟨2 * h, by omega⟩ else sl ⟨2 * h + 1, by omega⟩

/-- The product of a column's query with a row's key, scaled. -/
def dotk (q : Fin 256 → Fin 128 → ℝ) (kk : Fin 2048 → Fin 128 → ℝ) (j : Fin 512) (r : Fin 2048) : ℝ := ∑ l, kk r l * (qs q j l * 0.125)

/-- The score of a row, for query block `o`: the product less the slope times the distance. -/
def score (q : Fin 256 → Fin 128 → ℝ) (kk : Fin 2048 → Fin 128 → ℝ) (S : ℝ) (o : ℕ) (j : Fin 512) (r : Fin 2048) : ℝ :=
  dotk q kk j r - S * ((256 * o + (j.val % 256 : ℕ) : ℝ) - r.val)

/-- The mean key of a block. -/
def kmean (kk : Fin 2048 → Fin 128 → ℝ) (n : Fin 8) (l : Fin 128) : ℝ := (∑ a : Fin 256, kk ⟨256 * n.val + a.val, by omega⟩ l) / 256

/-- The gate of a block: before the query's own, the mean key's product with the query; else nothing. -/
def gateOf (q : Fin 256 → Fin 128 → ℝ) (kk : Fin 2048 → Fin 128 → ℝ) (o : ℕ) (j : Fin 512) (n : Fin 8) : EReal :=
  if n.val < o then ((∑ l, kmean kk n l * qs q j l : ℝ) : EReal) else ⊥

section Column

variable (q : Fin 256 → Fin 128 → ℝ) (kk : Fin 2048 → Fin 128 → ℝ) (sl : Fin 8 → ℝ)
variable (x0 : Vec Ideal S8 .f32) (x1 : Vec Ideal S256x128 .f32) (x2 : Vec Ideal S2048x128 .f32)
variable (hx0 : ∀ h, x0 (ix1 h) = ((sl h : ℝ) : EReal)) (hx1 : ∀ a l, x1 (ix2 a l) = ((q a l : ℝ) : EReal)) (hx2 : ∀ r l, x2 (ix2 r l) = ((kk r l : ℝ) : EReal))

include hx1 in
theorem qs_at (j : Fin 512) (l : Fin 128) : k0_pay33 x1 (ix2 j l) = ((qs q j l : ℝ) : EReal) := by
  unfold k0_pay33
  pointwise
  have e := fun u v : EReal => select_eq_ite (l.val < 64) _ (cmp_lt_small l.val 64 (by omega) (by omega)) u v
  simp only [e, hx1]
  unfold qs
  by_cases h : j.val < 256
  · rw [dif_pos h]
    by_cases h' : l.val < 64
    · rw [if_pos h', if_pos (by tauto)]
      congr 2; apply Fin.ext; simp [Nat.mod_eq_of_lt h]
    · rw [if_neg h', if_neg (by tauto)]; rfl
  · rw [dif_neg h]
    by_cases h' : l.val < 64
    · rw [if_pos h', if_neg (by tauto)]; rfl
    · rw [if_neg h']
      refine Eq.trans ?_ (congrArg _ (if_pos (by tauto)).symm)
      exact congrArg (fun z => ((q z l : ℝ) : EReal)) (Fin.ext (show j.val - 256 = j.val % 256 by omega))

include hx1 in
theorem qs_scaled_at (j : Fin 512) (l : Fin 128) : k0_pay34 x1 (ix2 j l) = ((qs q j l * 0.125 : ℝ) : EReal) := by
  unfold k0_pay34
  pointwise
  rw [qs_at q x1 hx1, lit_eighth, EReal.coe_mul]

include hx2 in
theorem kmean_at (n : Fin 8) (l : Fin 128) : KM x2 (ix2 n l) = ((kmean kk n l : ℝ) : EReal) := by
  rw [km_at]
  simp only [hx2]
  rw [← coe_sum, Ideal.div_coe (by norm_num), ← EReal.coe_mul]
  unfold kmean
  rw [mul_one_div]

include hx1 hx2 in
theorem gate_at (n : Fin 8) (j : Fin 512) : k0_pay35 i x1 (KM x2) (ix2 n j) = gateOf q kk (i 2).val j n := by
  unfold k0_pay35
  pointwise
  rw [select_eq_ite (n.val < (i 2).val) _ (cmp_lt_small _ _ (by omega) (by have := i2_lt i; omega)), lit_bot]
  unfold gateOf
  congr 1
  simp only [qs_at q x1 hx1, kmean_at kk x2 hx2, ← EReal.coe_mul, ← EReal.coe_sub, ← coe_sum, ← EReal.coe_add, sub_self, mul_zero, zero_mul, Finset.sum_const_zero, add_zero]

include hx0 in
theorem slope_at (b : Fin 512) (h0 h1) : k0_pay40 (F := Ideal) k0_pay39 (View.ld x0 (Rect.unit (k0_off1 i) S1.size (k0_off1_inb i)) (Shape.Idx.first h0)) (View.ld x0 (Rect.unit (k0_off2 i) S1.size (k0_off2_inb i)) (Shape.Idx.first h1)) (ix2 0 b)
    = ((slopeOf sl (i 1).val (i1_lt i) b : ℝ) : EReal) := by
  rw [x0_read0, x0_read1, hx0, hx0]
  unfold k0_pay40 k0_pay39
  pointwise
  rw [select_eq_ite (b.val < 256) _ (cmp_lt_small _ _ (by omega) (by omega))]
  unfold slopeOf
  split <;> rfl

theorem gap_at (a : Fin 256) (b : Fin 512) : k0_pay41 (F := Ideal) (ix2 a b) = (((b.val % 256 : ℕ) - (a.val : ℝ) : ℝ) : EReal) := by
  unfold k0_pay41
  pointwise
  rw [rem_256]
  show (((IntOp.subi (BitVec.ofNat 32 (b.val % 256)) (BitVec.ofNat 32 a.val)).toInt : ℝ) : EReal) = _
  rw [toInt_diff _ _ (by omega) (by omega)]
  push_cast
  rfl

/-- The picked blocks of a column. -/
def Picked (q : Fin 256 → Fin 128 → ℝ) (kk : Fin 2048 → Fin 128 → ℝ) (o : ℕ) (j : Fin 512) (n : ℕ) : Prop :=
  ∃ h : n < 8, Best (gateOf q kk o j) ⟨n, h⟩ ∧ n < o

theorem rounds_at (v17 : IVec S8x512 32) (v35 : FVec Ideal S8x512 .f32) (v37 : IVec S8x512 1) (c : Ideal .f32) (v38 : FVec Ideal S8x512 .f32) (a : Fin 8) (b : Fin 512) :
    k0_pay38 (F := Ideal) v17 v35 v37 c v38 (ix2 a b)
      = roundsW (fun n => v17 (ix2 n b)) (fun n => v35 (ix2 n b)) a (Scalar.select (v37 (ix2 a b)) (v38 (ix2 a b)) c) 0 := by
  unfold k0_pay38 roundsW
  pointwise
  simp only [strikeW, pickW]
  congr 2

theorem num_at (n : Fin 8) (j : Fin 512) : iota .tc S8x512 32 [0] iota_S8x512_d0_w32 (ix2 n j) = BitVec.ofNat 32 n.val := by
  pointwise

include hx1 hx2 in
theorem picked_at (n : Fin 8) (j : Fin 512) :
    k0_pay38 (F := Ideal) (iota .tc S8x512 32 [0] iota_S8x512_d0_w32) (k0_pay35 i x1 (KM x2)) (k0_pay36 i) (FloatOps.ofBits .f32 0#32) k0_pay37 (ix2 n j)
      = if Picked q kk (i 2).val j n.val then 1 else 0 := by
  rw [rounds_at]
  simp only [gate_at i q kk x1 x2 hx1 hx2]
  rw [show (fun n : Fin 8 => iota .tc S8x512 32 [0] iota_S8x512_d0_w32 (ix2 n j)) = fun n => BitVec.ofNat 32 n.val from funext fun n => num_at n j, roundsW_eq]
  have e36 : k0_pay36 i (ix2 n j) = IntOp.cmpi .slt (BitVec.ofNat 32 n.val) (BitVec.ofNat 32 (i 2).val) := by unfold k0_pay36; pointwise
  have e37 : k0_pay37 (F := Ideal) (ix2 n j) = 1 := by unfold k0_pay37; pointwise
  rw [e36, e37, select_eq_ite (n.val < (i 2).val) _ (cmp_lt_small _ _ (by omega) (by have := i2_lt i; omega)), show (FloatOps.ofBits .f32 0#32 : Ideal .f32) = 0 from lit_zero]
  unfold Picked
  by_cases h1 : Best (gateOf q kk (i 2).val j) n <;> by_cases h2 : n.val < (i 2).val
  · rw [if_pos h1, if_pos h2, if_pos ⟨n.isLt, h1, h2⟩]
  · rw [if_pos h1, if_neg h2, if_neg fun ⟨_, _, h⟩ => h2 h]
  · rw [if_neg h1, if_neg fun ⟨_, h, _⟩ => h1 h]
  · rw [if_neg h1, if_neg fun ⟨_, h, _⟩ => h1 h]

/-- The two slopes as the body loads them. -/
abbrev ldS0 (x0 : Vec Ideal S8 .f32) : Elt Ideal .f32 := View.ld x0 (Rect.unit (k0_off1 i) S1.size (k0_off1_inb i)) (Shape.Idx.first (by rw [show (Rect.unit _ _ _).shape.numel = 1 from numel1_S1]; exact Nat.one_pos))
abbrev ldS1 (x0 : Vec Ideal S8 .f32) : Elt Ideal .f32 := View.ld x0 (Rect.unit (k0_off2 i) S1.size (k0_off2_inb i)) (Shape.Idx.first (by rw [show (Rect.unit _ _ _).shape.numel = 1 from numel1_S1]; exact Nat.one_pos))

include hx0 in
theorem slope_gap_at (a : Fin 256) (b : Fin 512) : k0_pay42 (F := Ideal) k0_pay39 (ldS0 i x0) (ldS1 i x0) (ix2 a b)
    = ((slopeOf sl (i 1).val (i1_lt i) b * ((b.val % 256 : ℕ) - (a.val : ℝ)) : ℝ) : EReal) := by
  unfold k0_pay42
  pointwise
  rw [slope_at i sl x0 hx0, gap_at, EReal.coe_mul]

/-- A row of the query's own block, not after the query. -/
def Own (o : ℕ) (j : Fin 512) (r : Fin 2048) : Prop := r.val / 256 = o ∧ r.val ≤ 256 * o + j.val % 256

/-- The score of a row at a point of the grid. -/
abbrev sc (j : Fin 512) (r : Fin 2048) : ℝ := score q kk (slopeOf sl (i 1).val (i1_lt i) j) (i 2).val j r

abbrev ownKeys : Vec Ideal S256x128 .f32 := View.ld x2 (Rect.unit (k0_off3 i) S256x128.size (k0_off3_inb i))

theorem ownKeys_at (a : Fin 256) (b : Fin 128) : ownKeys i x2 (ix2 a b) = x2 (ix2 ⟨256 * (i 2).val + a.val, by have := i2_lt i; omega⟩ b) := own_keys i x2 a b

include hx0 hx1 hx2 in
theorem own_score_at (a : Fin 256) (j : Fin 512) : k0_pay43 (F := Ideal) (k0_pay34 x1) k0_pay39 (ldS0 i x0) (ldS1 i x0) (ownKeys i x2) (ix2 a j)
    = masked (Own (i 2).val j) (sc i q kk sl j) ⟨256 * (i 2).val + a.val, by have := i2_lt i; omega⟩ := by
  unfold k0_pay43
  pointwise
  rw [slope_gap_at i sl x0 hx0, gap_at, lit_mask]
  have hkb : ∀ (a : Fin 256) l, ownKeys i x2 (ix2 a l) = ((kk ⟨256 * (i 2).val + a.val, by have := i2_lt i; omega⟩ l : ℝ) : EReal) := fun a l => (ownKeys_at i x2 a l).trans (hx2 _ _)
  generalize ownKeys i x2 = kb at hkb ⊢
  simp only [hkb, qs_scaled_at q x1 hx1, hx2, ← EReal.coe_mul, ← coe_sum, ← EReal.coe_sub]
  unfold masked
  have e : (0 : EReal) ≤ (((j.val % 256 : ℕ) - (a.val : ℝ) : ℝ) : EReal) ↔ Own (i 2).val j ⟨256 * (i 2).val + a.val, by have := i2_lt i; omega⟩ := by
    rw [EReal.coe_nonneg, sub_nonneg, Nat.cast_le]
    unfold Own
    dsimp only
    omega
  by_cases h : Own (i 2).val j ⟨256 * (i 2).val + a.val, by have := i2_lt i; omega⟩
  · rw [if_pos (e.mpr h), if_pos h]
    congr 1
    unfold sc score dotk
    push_cast
    ring
  · rw [if_neg (fun h' => h (e.mp h')), if_neg h]

abbrev pairKeys : Vec Ideal S512x128 .f32 := View.ld x2 (Rect.unit (k0_off5 i k) S512x128.size (k0_off5_inb i k))

/-- The choice as the body holds it. -/
abbrev chosen : FVec Ideal S8x512 .f32 := k0_pay38 (F := Ideal) (iota .tc S8x512 32 [0] iota_S8x512_d0_w32) (k0_pay35 i x1 (KM x2)) (k0_pay36 i) (FloatOps.ofBits .f32 0#32) k0_pay37

include hx1 in
theorem dot_at (kb : Vec Ideal S512x128 .f32) (o : ℕ) (ho : o + 512 ≤ 2048) (hkb : ∀ (a : Fin 512) l, kb (ix2 a l) = ((kk ⟨o + a.val, by omega⟩ l : ℝ) : EReal)) (a : Fin 512) (j : Fin 512) :
    k0_pay18 (F := Ideal) (k0_pay34 x1) kb (ix2 a j) = ((dotk q kk j ⟨o + a.val, by omega⟩ : ℝ) : EReal) := by
  unfold k0_pay18
  pointwise
  simp only [hkb, qs_scaled_at q x1 hx1, ← EReal.coe_mul, ← coe_sum]
  rfl

theorem gap_pair_at (s : FVec Ideal S1x512 .f32) (j : Fin 512) (S : ℝ) (hs : s (ix2 0 j) = ((S : ℝ) : EReal)) :
    k0_pay19 (F := Ideal) i (BitVec.ofNat 32 (i 2)) s 0#32 1#32 k (ix2 0 j) = ((S * (256 * ((i 2).val - 2 * k.val : ℝ)) : ℝ) : EReal) := by
  unfold k0_pay19
  pointwise
  rw [hs]
  show _ * (((Scalar.muli (Scalar.subi (BitVec.ofNat 32 (i 2).val) (Scalar.muli 2#32 (Scf.iv 0#32 1#32 k.val))) 256#32).toInt : ℝ) : EReal) = _
  have e := pair_gap ⟨_, i2_lt i⟩ ⟨_, k_lt i k⟩
  dsimp only at e
  rw [e, EReal.coe_mul]
  push_cast
  rfl

theorem sum_pick (v17 : Fin 8 → BitVec 32) (hv : ∀ n, v17 n = BitVec.ofNat 32 n.val) (v : Fin 8 → EReal) (w : BitVec 32) (n : Fin 8) (hw : w = BitVec.ofNat 32 n.val) :
    (∑ x, Scalar.select (IntOp.cmpi .eq (v17 x) w) (v x) 0) = v n := by
  have e : ∀ x, Scalar.select (IntOp.cmpi .eq (v17 x) w) (v x) 0 = if x = n then v x else 0 := fun x => by
    rw [hv, hw]
    exact select_eq_ite (x = n) _ ((cmp_eq_small _ _ (by omega) (by omega)).trans Fin.ext_iff.symm) _ _
  simp only [e]
  rw [Finset.sum_ite_eq' Finset.univ n v, if_pos (Finset.mem_univ n)]

theorem one_zero_pos (p : Prop) : (0 : EReal) < (if p then (1 : EReal) else 0) ↔ p := by
  by_cases h : p
  · simp [h]
  · simp [h]

theorem pairKeys_at (a : Fin 512) (b : Fin 128) : pairKeys i k x2 (ix2 a b) = x2 (ix2 ⟨512 * k.val + a.val, by have := k_lt i k; omega⟩ b) := pair_keys i k x2 a b

abbrev slopes2 : FVec Ideal S1x512 .f32 := k0_pay40 (F := Ideal) k0_pay39 (ldS0 i x0) (ldS1 i x0)
abbrev slopeGaps : FVec Ideal S256x512 .f32 := k0_pay42 (F := Ideal) k0_pay39 (ldS0 i x0) (ldS1 i x0)

include hx0 in
theorem slopes2_at (j : Fin 512) : slopes2 i x0 (ix2 0 j) = ((slopeOf sl (i 1).val (i1_lt i) j : ℝ) : EReal) := slope_at i sl x0 hx0 j _ _

include hx0 in
theorem slopeGaps_at (a : Fin 256) (j : Fin 512) : slopeGaps i x0 (ix2 a j) = ((slopeOf sl (i 1).val (i1_lt i) j * ((j.val % 256 : ℕ) - (a.val : ℝ)) : ℝ) : EReal) := slope_gap_at i sl x0 hx0 a j

include hx1 hx2 in
theorem chosen_at (n : Fin 8) (j : Fin 512) : chosen i x1 x2 (ix2 n j) = if Picked q kk (i 2).val j n.val then 1 else 0 := picked_at i q kk x1 x2 hx1 hx2 n j

/-- A row of a picked block. -/
def PickedRow (o : ℕ) (j : Fin 512) (r : Fin 2048) : Prop := Picked q kk o j (r.val / 256)

include hx0 hx1 hx2 in
theorem even_score_at (a : Fin 256) (j : Fin 512) :
    k0_pay20 (F := Ideal) i (BitVec.ofNat 32 (i 2)) (k0_pay34 x1) (iota .tc S8x512 32 [0] iota_S8x512_d0_w32) (chosen i x1 x2) (slopes2 i x0) (slopeGaps i x0) 0#32 1#32 k (pairKeys i k x2) (ix2 a j)
      = masked (PickedRow q kk (i 2).val j) (sc i q kk sl j) ⟨512 * k.val + a.val, by have := k_lt i k; omega⟩ := by
  have hk := k_lt i k
  unfold k0_pay20
  pointwise
  rw [sum_pick (fun n => BitVec.ofNat 32 n.val) (fun n => rfl) (fun x => chosen i x1 x2 (ix2 x j)) _ ⟨2 * k.val, by omega⟩ (pair_even ⟨_, hk⟩), lit_mask,
    dot_at q kk x1 hx1 (pairKeys i k x2) (512 * k.val) (by omega) (fun a l => (pairKeys_at i k x2 a l).trans (hx2 _ _)), slopeGaps_at i sl x0 hx0,
    gap_pair_at i k (slopes2 i x0) j _ (slopes2_at i sl x0 hx0 j), mul_zero, sub_zero, chosen_at i q kk x1 x2 hx1 hx2]
  simp only [one_zero_pos]
  unfold masked PickedRow
  have e : (512 * k.val + a.val) / 256 = 2 * k.val := by omega
  dsimp only
  rw [e]
  by_cases h : Picked q kk (i 2).val j (2 * k.val)
  · rw [if_pos h, if_pos h, ← EReal.coe_sub, ← EReal.coe_sub]
    congr 1
    unfold sc score
    push_cast
    ring
  · rw [if_neg h, if_neg h]

abbrev oddFlag : FVec Ideal S1x512 .f32 := k0_pay21 (F := Ideal) i (iota .tc S8x512 32 [0] iota_S8x512_d0_w32) (chosen i x1 x2) 0#32 1#32 k
abbrev oddDots : FVec Ideal S256x512 .f32 := k0_pay22 (F := Ideal) (k0_pay34 x1) (slopeGaps i x0) (pairKeys i k x2)
abbrev oddGap : FVec Ideal S1x512 .f32 := k0_pay23 (F := Ideal) i (BitVec.ofNat 32 (i 2)) (slopes2 i x0) 0#32 1#32 k

include hx0 hx1 hx2 in
theorem odd_score_at (a : Fin 256) (j : Fin 512) :
    k0_pay48 (F := Ideal) (oddFlag i k x1 x2) (oddDots i k x0 x1 x2) (oddGap i k x0) (ix2 a j)
      = masked (PickedRow q kk (i 2).val j) (sc i q kk sl j) ⟨512 * k.val + 256 + a.val, by have := k_lt i k; omega⟩ := by
  have hk := k_lt i k
  unfold k0_pay48
  pointwise
  rw [lit_mask]
  have e21 : oddFlag i k x1 x2 (ix2 0 j) = if Picked q kk (i 2).val j (2 * k.val + 1) then 1 else 0 := by
    unfold oddFlag k0_pay21
    pointwise
    rw [sum_pick (fun n => BitVec.ofNat 32 n.val) (fun n => rfl) (fun x => chosen i x1 x2 (ix2 x j)) _ ⟨2 * k.val + 1, by omega⟩ (pair_odd ⟨_, hk⟩), chosen_at i q kk x1 x2 hx1 hx2]
  have e22 : oddDots i k x0 x1 x2 (ix2 a j) = ((dotk q kk j ⟨512 * k.val + 256 + a.val, by omega⟩ - slopeOf sl (i 1).val (i1_lt i) j * ((j.val % 256 : ℕ) - (a.val : ℝ)) : ℝ) : EReal) := by
    unfold oddDots k0_pay22
    pointwise
    rw [dot_at q kk x1 hx1 (pairKeys i k x2) (512 * k.val) (by omega) (fun a l => (pairKeys_at i k x2 a l).trans (hx2 _ _)), slopeGaps_at i sl x0 hx0, ← EReal.coe_sub]
    congr 3
    apply Fin.ext; dsimp only; omega
  have e23 : oddGap i k x0 (ix2 0 j) = ((slopeOf sl (i 1).val (i1_lt i) j * (256 * ((i 2).val - 2 * k.val : ℝ)) - slopeOf sl (i 1).val (i1_lt i) j * 256 : ℝ) : EReal) := by
    unfold oddGap k0_pay23
    pointwise
    rw [gap_pair_at i k (slopes2 i x0) j _ (slopes2_at i sl x0 hx0 j), slopes2_at i sl x0 hx0, lit_256, ← EReal.coe_mul, ← EReal.coe_sub]
  rw [e21, e22, e23]
  simp only [one_zero_pos]
  unfold masked PickedRow
  have e : (512 * k.val + 256 + a.val) / 256 = 2 * k.val + 1 := by omega
  dsimp only
  rw [e]
  by_cases h : Picked q kk (i 2).val j (2 * k.val + 1)
  · rw [if_pos h, if_pos h, ← EReal.coe_sub]
    congr 1
    unfold sc score
    push_cast
    ring
  · rw [if_neg h, if_neg h]

end Column

end Cert.Moba
-- ==== Proof.Moba.Column.lean ====
module

public import proofs.«01_k».proof.Proof.Moba.Reads

@[expose] public section

set_option maxRecDepth 16384

noncomputable section

namespace Cert.Moba

open Cert.KernelIdeal Cert.KernelIdeal.Gen
open Idealize.ShloMosaic Idealize.ShloMosaic.TcCoe Idealize.ShloMosaic.Tactic
open scoped Classical

/-! ## Maxima of masked scores -/

theorem fold_max_mem {n : ℕ} (f : Fin (n + 1) → EReal) : ∃ x, Finset.fold max ⊥ f Finset.univ = f x ∧ ∀ y, f y ≤ f x := by
  obtain ⟨x, -, hx⟩ := Finset.exists_max_image Finset.univ f ⟨0, Finset.mem_univ _⟩
  refine ⟨x, le_antisymm ?_ ?_, fun y => hx y (Finset.mem_univ y)⟩
  · exact Finset.fold_max_le _ |>.mpr ⟨bot_le, fun j _ => hx j (Finset.mem_univ j)⟩
  · exact Finset.le_fold_max _ |>.mpr (Or.inr ⟨x, Finset.mem_univ x, le_rfl⟩)

/-- The greatest of masked scores is a masked score. -/
theorem fold_masked {n : ℕ} (p : Fin 2048 → Prop) (s : Fin 2048 → ℝ) (g : Fin (n + 1) → Fin 2048) :
    Finset.fold max ⊥ (fun x => masked p s (g x)) Finset.univ = ⊥ ∨ ∃ M : ℝ, Finset.fold max ⊥ (fun x => masked p s (g x)) Finset.univ = (M : EReal) := by
  obtain ⟨x, e, -⟩ := fold_max_mem fun x => masked p s (g x)
  rw [e]
  unfold masked
  by_cases h : p (g x)
  · right; exact ⟨_, if_pos h⟩
  · left; exact if_neg h

theorem fold_masked_real {n : ℕ} (p : Fin 2048 → Prop) (s : Fin 2048 → ℝ) (g : Fin (n + 1) → Fin 2048) (x : Fin (n + 1)) (hx : p (g x)) :
    ∃ M : ℝ, Finset.fold max ⊥ (fun x => masked p s (g x)) Finset.univ = (M : EReal) := by
  rcases fold_masked p s g with h | h
  · exfalso
    obtain ⟨y, e, hy⟩ := fold_max_mem fun x => masked p s (g x)
    have := hy x
    rw [← e, h, le_bot_iff] at this
    rw [masked, if_pos hx] at this
    exact EReal.coe_ne_bot _ this
  · exact h

theorem max_real (M : ℝ) (x : EReal) (hx : x = ⊥ ∨ ∃ R : ℝ, x = (R : EReal)) : ∃ R : ℝ, max (M : EReal) x = (R : EReal) := by
  rcases hx with rfl | ⟨R, rfl⟩
  · exact ⟨M, max_eq_left bot_le⟩
  · rcases max_choice (M : EReal) (R : EReal) with h | h
    · exact ⟨M, h⟩
    · exact ⟨R, h⟩

theorem max_masked (x y : EReal) (hx : x = ⊥ ∨ ∃ R : ℝ, x = (R : EReal)) (hy : y = ⊥ ∨ ∃ R : ℝ, y = (R : EReal)) : max x y = ⊥ ∨ ∃ R : ℝ, max x y = (R : EReal) := by
  rcases max_choice x y with h | h
  · rwa [h]
  · rwa [h]

/-! ## One column of the body -/

variable (i : grid0.Coords)
variable (q : Fin 256 → Fin 128 → ℝ) (kk : Fin 2048 → Fin 128 → ℝ) (sl : Fin 8 → ℝ)
variable (x0 : Vec Ideal S8 .f32) (x1 : Vec Ideal S256x128 .f32) (x2 x3 : Vec Ideal S2048x128 .f32)
variable (hx0 : ∀ h, x0 (ix1 h) = ((sl h : ℝ) : EReal)) (hx1 : ∀ a l, x1 (ix2 a l) = ((q a l : ℝ) : EReal)) (hx2 : ∀ r l, x2 (ix2 r l) = ((kk r l : ℝ) : EReal))

/-- The rows seen after `P` pairs. -/
def SeenBy (o : ℕ) (P : ℕ) (j : Fin 512) (r : Fin 2048) : Prop := Own o j r ∨ (PickedRow q kk o j r ∧ r.val / 256 < 2 * P)

/-- The rows seen in the end. -/
def Seen (o : ℕ) (j : Fin 512) (r : Fin 2048) : Prop := Own o j r ∨ PickedRow q kk o j r

/-- What the running softmax holds of column `j` after `P` pairs. -/
def Inv (j : Fin 512) (P : ℕ) (s : (FVec Ideal S1x512 .f32 × FVec Ideal S1x512 .f32) × FVec Ideal S128x512 .f32) : Prop :=
  Holds (SeenBy q kk (i 2).val P j) (sc i q kk sl j) (fun (d : Fin 128) r => x3 (ix2 r d)) (s.1.1 (ix2 0 j)) (s.1.2 (ix2 0 j)) (fun d => s.2 (ix2 d j))

/-- The state the loop starts from. -/
def start0 : (FVec Ideal S1x512 .f32 × FVec Ideal S1x512 .f32) × FVec Ideal S128x512 .f32 :=
  let p0 := k0_pay45 (F := Ideal) (k0_pay34 x1) k0_pay39 (ldS0 i x0) (ldS1 i x0) (ownKeys i x2)
  ((k0_pay44 (k0_pay34 x1) k0_pay39 (ldS0 i x0) (ldS1 i x0) (ownKeys i x2), k0_pay46 p0), k0_pay47 p0 (View.ld (VT x3) (Rect.unit (k0_off4 i) S128x256.size (k0_off4_inb i))))

/-- The state after `P` pairs. -/
def after (P : ℕ) : (FVec Ideal S1x512 .f32 × FVec Ideal S1x512 .f32) × FVec Ideal S128x512 .f32 :=
  pairs i (k0_pay34 x1) (iota .tc S8x512 32 [0] iota_S8x512_d0_w32) (chosen i x1 x2) (slopes2 i x0) (slopeGaps i x0) x2 (VT x3) (start0 i x0 x1 x2 x3) P

include hx0 hx1 hx2 in
theorem inv_start (j : Fin 512) : Inv i q kk sl x3 j 0 (start0 i x0 x1 x2 x3) := by
  have ho := i2_lt i
  have es : ∀ a : Fin 256, k0_pay43 (F := Ideal) (k0_pay34 x1) k0_pay39 (ldS0 i x0) (ldS1 i x0) (ownKeys i x2) (ix2 a j) = masked (Own (i 2).val j) (sc i q kk sl j) ⟨256 * (i 2).val + a.val, by omega⟩ :=
    fun a => own_score_at i q kk sl x0 x1 x2 hx0 hx1 hx2 a j
  have em : k0_pay44 (F := Ideal) (k0_pay34 x1) k0_pay39 (ldS0 i x0) (ldS1 i x0) (ownKeys i x2) (ix2 0 j)
      = Finset.fold max ⊥ (fun a : Fin 256 => masked (Own (i 2).val j) (sc i q kk sl j) ⟨256 * (i 2).val + a.val, by omega⟩) Finset.univ := by
    unfold k0_pay44
    pointwise
    rw [lit_bot]
    simp only [es]
  have ep : ∀ a : Fin 256, k0_pay45 (F := Ideal) (k0_pay34 x1) k0_pay39 (ldS0 i x0) (ldS1 i x0) (ownKeys i x2) (ix2 a j)
      = Ideal.exp (masked (Own (i 2).val j) (sc i q kk sl j) ⟨256 * (i 2).val + a.val, by omega⟩ - k0_pay44 (F := Ideal) (k0_pay34 x1) k0_pay39 (ldS0 i x0) (ldS1 i x0) (ownKeys i x2) (ix2 0 j)) := fun a => by
    unfold k0_pay45
    pointwise
    rw [es]
  have hV : ∀ (d : Fin 128) (a : Fin 256), View.ld (VT x3) (Rect.unit (k0_off4 i) S128x256.size (k0_off4_inb i)) (ix2 d a) = x3 (ix2 ⟨256 * (i 2).val + a.val, by omega⟩ d) := fun d a =>
    (own_vals i (VT x3) d a).trans (vt_at x3 d _)
  have e : SeenBy q kk (i 2).val 0 j = Own (i 2).val j := by
    funext r; unfold SeenBy; simp
  unfold Inv start0
  dsimp only
  rw [e]
  clear es
  generalize View.ld (VT x3) (Rect.unit (k0_off4 i) S128x256.size (k0_off4_inb i)) = W at hV ⊢
  generalize k0_pay45 (F := Ideal) (k0_pay34 x1) k0_pay39 (ldS0 i x0) (ldS1 i x0) (ownKeys i x2) = p at ep ⊢
  generalize k0_pay44 (F := Ideal) (k0_pay34 x1) k0_pay39 (ldS0 i x0) (ldS1 i x0) (ownKeys i x2) (ix2 0 j) = m' at em ep ⊢
  refine holds_first (Own (i 2).val j) (sc i q kk sl j) (fun (d : Fin 128) r => x3 (ix2 r d)) (256 * (i 2).val) (by omega)
    (fun r hr => by unfold Own at hr; omega) m' _ _ ?_ ?_ ?_
  · rw [em]
    exact fold_masked_real (n := 255) (Own (i 2).val j) (sc i q kk sl j) (fun a => ⟨256 * (i 2).val + a.val, by omega⟩) ⟨j.val % 256, by omega⟩ (by unfold Own; dsimp only; omega)
  · unfold k0_pay46
    pointwise
    exact Finset.sum_congr rfl fun a _ => ep a
  · intro d
    unfold k0_pay47
    pointwise
    refine Finset.sum_congr rfl fun a _ => ?_
    rw [ep a, hV]

include hx0 hx1 hx2 in
theorem inv_step (j : Fin 512) (k : Fin (k0_t1_loop i).trips) (s : (FVec Ideal S1x512 .f32 × FVec Ideal S1x512 .f32) × FVec Ideal S128x512 .f32) (hs : Inv i q kk sl x3 j k.val s) :
    Inv i q kk sl x3 j (k.val + 1) (pairStep i (k0_pay34 x1) (iota .tc S8x512 32 [0] iota_S8x512_d0_w32) (chosen i x1 x2) (slopes2 i x0) (slopeGaps i x0) x2 (VT x3) k s) := by
  have hk := k_lt i k
  have ho := i2_lt i
  have hA := fun a : Fin 256 => even_score_at i k q kk sl x0 x1 x2 hx0 hx1 hx2 a j
  have hB := fun a : Fin 256 => odd_score_at i k q kk sl x0 x1 x2 hx0 hx1 hx2 a j
  have hV : ∀ (d : Fin 128) (r : Fin 512), View.ld (VT x3) (Rect.unit (k0_off6 i k) S128x512.size (k0_off6_inb i k)) (ix2 d r) = x3 (ix2 ⟨512 * k.val + r.val, by omega⟩ d) := fun d r =>
    (pair_vals i k (VT x3) d r).trans (vt_at x3 d _)
  show Holds _ _ _ (k0_pay49 (F := Ideal) s.1.1 (k0_pay20 (F := Ideal) i (BitVec.ofNat 32 (i 2)) (k0_pay34 x1) (iota .tc S8x512 32 [0] iota_S8x512_d0_w32) (chosen i x1 x2) (slopes2 i x0) (slopeGaps i x0) 0#32 1#32 k (pairKeys i k x2)) (oddFlag i k x1 x2) (oddDots i k x0 x1 x2) (oddGap i k x0) (ix2 0 j))
    (k0_pay54 (F := Ideal) s.1.1 s.1.2 (k0_pay20 (F := Ideal) i (BitVec.ofNat 32 (i 2)) (k0_pay34 x1) (iota .tc S8x512 32 [0] iota_S8x512_d0_w32) (chosen i x1 x2) (slopes2 i x0) (slopeGaps i x0) 0#32 1#32 k (pairKeys i k x2)) (oddFlag i k x1 x2) (oddDots i k x0 x1 x2) (oddGap i k x0) (ix2 0 j))
    (fun d => k0_pay53 (F := Ideal) s.1.1 (k0_pay20 (F := Ideal) i (BitVec.ofNat 32 (i 2)) (k0_pay34 x1) (iota .tc S8x512 32 [0] iota_S8x512_d0_w32) (chosen i x1 x2) (slopes2 i x0) (slopeGaps i x0) 0#32 1#32 k (pairKeys i k x2)) (oddFlag i k x1 x2) (oddDots i k x0 x1 x2) (oddGap i k x0) (View.ld (VT x3) (Rect.unit (k0_off6 i k) S128x512.size (k0_off6_inb i k))) s.2 (ix2 d j))
  generalize k0_pay20 (F := Ideal) i (BitVec.ofNat 32 (i 2)) (k0_pay34 x1) (iota .tc S8x512 32 [0] iota_S8x512_d0_w32) (chosen i x1 x2) (slopes2 i x0) (slopeGaps i x0) 0#32 1#32 k (pairKeys i k x2) = A at hA ⊢
  generalize oddFlag i k x1 x2 = B at hB ⊢
  generalize oddDots i k x0 x1 x2 = C at hB ⊢
  generalize oddGap i k x0 = E at hB ⊢
  generalize View.ld (VT x3) (Rect.unit (k0_off6 i k) S128x512.size (k0_off6_inb i k)) = W at hV ⊢
  have em : k0_pay49 (F := Ideal) s.1.1 A B C E (ix2 0 j) = max (s.1.1 (ix2 0 j))
      (max (Finset.fold max ⊥ (fun a : Fin 256 => masked (PickedRow q kk (i 2).val j) (sc i q kk sl j) ⟨512 * k.val + a.val, by omega⟩) Finset.univ)
        (Finset.fold max ⊥ (fun a : Fin 256 => masked (PickedRow q kk (i 2).val j) (sc i q kk sl j) ⟨512 * k.val + 256 + a.val, by omega⟩) Finset.univ)) := by
    unfold k0_pay49
    pointwise
    rw [lit_bot]
    simp only [hA, hB]
  have e50 : k0_pay50 (F := Ideal) s.1.1 A B C E (ix2 0 j) = Ideal.exp (s.1.1 (ix2 0 j) - k0_pay49 (F := Ideal) s.1.1 A B C E (ix2 0 j)) := by
    unfold k0_pay50
    pointwise
  have e51 : ∀ a : Fin 256, k0_pay51 (F := Ideal) s.1.1 A B C E (ix2 a j) = Ideal.exp (masked (PickedRow q kk (i 2).val j) (sc i q kk sl j) ⟨512 * k.val + a.val, by omega⟩ - k0_pay49 (F := Ideal) s.1.1 A B C E (ix2 0 j)) := fun a => by
    unfold k0_pay51
    pointwise
    rw [hA]
  have e52 : ∀ a : Fin 256, k0_pay52 (F := Ideal) s.1.1 A B C E (ix2 a j) = Ideal.exp (masked (PickedRow q kk (i 2).val j) (sc i q kk sl j) ⟨512 * k.val + 256 + a.val, by omega⟩ - k0_pay49 (F := Ideal) s.1.1 A B C E (ix2 0 j)) := fun a => by
    unfold k0_pay52
    pointwise
    rw [hB]
  refine holds_step (SeenBy q kk (i 2).val k.val j) _ (PickedRow q kk (i 2).val j) (sc i q kk sl j) (fun (d : Fin 128) r => x3 (ix2 r d)) (512 * k.val) (by omega) ?_ ?_
    (s.1.1 (ix2 0 j)) (s.1.2 (ix2 0 j)) _ _ (fun d => s.2 (ix2 d j)) _ hs ?_ ?_ ?_
  · intro r
    unfold SeenBy
    by_cases hp : PickedRow q kk (i 2).val j r <;> by_cases hw : Own (i 2).val j r <;> simp [hp, hw]
    omega
  · rintro r hw hp (h | ⟨-, h⟩)
    · obtain ⟨-, -, h'⟩ := hp
      unfold Own at h
      omega
    · omega
  · obtain ⟨M, hM, -⟩ := hs
    rw [em, hM]
    exact max_real M _ (max_masked _ _ (fold_masked (n := 255) _ _ fun a => ⟨512 * k.val + a.val, by omega⟩) (fold_masked (n := 255) _ _ fun a => ⟨512 * k.val + 256 + a.val, by omega⟩))
  · generalize k0_pay49 (F := Ideal) s.1.1 A B C E (ix2 0 j) = m' at e50 e51 e52 ⊢
    unfold k0_pay54
    pointwise
    rw [e50]
    simp only [e51, e52]
  · intro d
    dsimp only
    generalize k0_pay49 (F := Ideal) s.1.1 A B C E (ix2 0 j) = m' at e50 e51 e52 ⊢
    unfold k0_pay53
    pointwise
    rw [e50]
    simp only [e51, e52, hV]
    refine congrArg (_ + ·) (congrArg (_ + ·) (Finset.sum_congr rfl fun a _ => ?_))
    refine congrArg (· * _) (congrArg x3 (ix2_congr ?_ rfl))
    dsimp only; omega

include hx0 hx1 hx2 in
theorem inv_all (j : Fin 512) (P : ℕ) (hP : P ≤ (k0_t1_loop i).trips) : Inv i q kk sl x3 j P (after i x0 x1 x2 x3 P) := by
  induction P with
  | zero => exact inv_start i q kk sl x0 x1 x2 x3 hx0 hx1 hx2 j
  | succ P ih =>
    have h := inv_step i q kk sl x0 x1 x2 x3 hx0 hx1 hx2 j ⟨P, hP⟩ _ (ih (Nat.le_of_succ_le hP))
    unfold after at h ⊢
    rw [pairs, dif_pos (show P < (k0_t1_loop i).trips from hP)]
    exact h

include hx0 hx1 hx2 in
/-- A column of the body ends as the attention of its query. -/
theorem column (j : Fin 512) (d : Fin 128) :
    k0_pay62 (F := Ideal) (after i x0 x1 x2 x3 (k0_t1_loop i).trips).1.2 (after i x0 x1 x2 x3 (k0_t1_loop i).trips).2 (ix2 d j)
      = attn (Seen q kk (i 2).val j) (sc i q kk sl j) (fun r => x3 (ix2 r d)) := by
  have h := inv_all i q kk sl x0 x1 x2 x3 hx0 hx1 hx2 j _ le_rfl
  have ho := i2_lt i
  have e : SeenBy q kk (i 2).val (k0_t1_loop i).trips j = Seen q kk (i 2).val j := by
    funext r
    unfold SeenBy Seen
    have ht := trips1 i
    refine propext (or_congr_right ⟨fun h => h.1, fun h => ⟨h, ?_⟩⟩)
    obtain ⟨-, -, h'⟩ := h
    omega
  unfold Inv at h
  rw [e] at h
  unfold k0_pay62
  pointwise
  exact holds_attn _ _ (fun (d : Fin 128) r => x3 (ix2 r d)) _ _ _ h ⟨256 * (i 2).val + j.val % 256, by omega⟩ (Or.inl (by unfold Own; dsimp only; omega)) d

/-- The column of an entry of the output block. -/
abbrev col (a : Fin 256) (b : Fin 128) : Fin 512 := ⟨if b.val < 64 then a.val else 256 + a.val, by split <;> omega⟩

include hx0 hx1 hx2 in
/-- The output block of a point. -/
theorem block (a : Fin 256) (b : Fin 128) :
    outBlk i x0 x1 x2 (KM x2) (VT x3) (ix2 a b) = attn (Seen q kk (i 2).val (col a b)) (sc i q kk sl (col a b)) (fun r => x3 (ix2 r b)) := by
  show k0_pay1 (F := Ideal) (k0_pay62 (F := Ideal) (after i x0 x1 x2 x3 (k0_t1_loop i).trips).1.2 (after i x0 x1 x2 x3 (k0_t1_loop i).trips).2) (k0_pay63 (F := Ideal) (after i x0 x1 x2 x3 (k0_t1_loop i).trips).1.2 (after i x0 x1 x2 x3 (k0_t1_loop i).trips).2) (ix2 a b) = _
  have h := column i q kk sl x0 x1 x2 x3 hx0 hx1 hx2
  generalize after i x0 x1 x2 x3 (k0_t1_loop i).trips = s at h ⊢
  rw [← h (col a b) b]
  unfold k0_pay1
  pointwise
  by_cases hb : b.val < 64
  · rw [dif_pos hb]
    unfold k0_pay63
    pointwise
    exact congrArg _ (ix2_congr rfl (show a.val = if b.val < 64 then a.val else 256 + a.val by rw [if_pos hb]))
  · rw [dif_neg hb]
    exact congrArg _ (ix2_congr (by show 64 + (b.val - 64) = b.val; omega) (show 256 + a.val = if b.val < 64 then a.val else 256 + a.val by rw [if_neg hb]))

end Cert.Moba
-- ==== Proof.Moba.TopK.lean ====
module

public import proofs.«01_k».proof.Proof.Gen.ReferenceIdeal.Read
public import proofs.«01_k».proof.Proof.Moba.Reads

@[expose] public section

noncomputable section

namespace Cert.Moba

open Idealize.ShloMosaic Idealize.ShloMosaic.Host

/-! ## The sorted choice -/

/-- "Sorts strictly first", as the sort asks it. -/
def gtOf (G : Fin 8 → EReal) (a b : Fin 8) : Bool := FloatOps.cmpfTotal (F := Ideal) (φ := .f32) .gt (G a) (G b) == 1#1

theorem gtOf_iff (G : Fin 8 → EReal) (a b : Fin 8) : gtOf G a b = true ↔ G b < G a := by
  unfold gtOf
  rw [show FloatOps.cmpfTotal (F := Ideal) (φ := .f32) .gt (G a) (G b) = BitVec.ofBool (decide (G b < G a)) from rfl]
  by_cases h : G b < G a <;> simp [h]

theorem Before.trans {G : Fin 8 → EReal} {a b c : Fin 8} (h : Before G a b) (h' : Before G b c) : Before G a c := by
  rcases h with h | ⟨h, l⟩ <;> rcases h' with h' | ⟨h', l'⟩
  · exact Or.inl (h'.trans h)
  · exact Or.inl (h' ▸ h)
  · exact Or.inl (h ▸ h')
  · exact Or.inr ⟨h'.trans h, l.trans l'⟩

/-- Putting an entry that comes first among equals into an ordered list keeps it ordered. -/
theorem put_ordered (G : Fin 8 → EReal) (x : Fin 8) (l : List (Fin 8)) (hx : ∀ y ∈ l, x < y) (h : l.Pairwise (Before G)) :
    (insertBefore (gtOf G) x l).Pairwise (Before G) ∧ ∀ y ∈ insertBefore (gtOf G) x l, y = x ∨ y ∈ l := by
  induction l with
  | nil => rw [insertBefore]; simp
  | cons y l ih =>
    have hc := List.pairwise_cons.mp h
    obtain ⟨p, q⟩ := ih (fun z hz => hx z (List.mem_cons_of_mem _ hz)) hc.2
    rw [insertBefore]
    split_ifs with g
    · have g' := (gtOf_iff G y x).mp g
      refine ⟨List.pairwise_cons.mpr ⟨fun z hz => ?_, p⟩, fun z hz => ?_⟩
      · rcases q z hz with rfl | hz
        · exact Or.inl g'
        · exact hc.1 z hz
      · rcases List.mem_cons.mp hz with rfl | hz
        · exact Or.inr List.mem_cons_self
        · rcases q z hz with e | hz
          · exact Or.inl e
          · exact Or.inr (List.mem_cons_of_mem _ hz)
    · have g' : Before G x y := by
        have n : ¬G x < G y := fun h' => g ((gtOf_iff G y x).mpr h')
        rcases lt_or_eq_of_le (not_lt.mp n) with h' | h'
        · exact Or.inl h'
        · exact Or.inr ⟨h', hx y List.mem_cons_self⟩
      refine ⟨List.pairwise_cons.mpr ⟨fun z hz => ?_, h⟩, fun z hz => ?_⟩
      · rcases List.mem_cons.mp hz with rfl | hz
        · exact g'
        · exact g'.trans (hc.1 z hz)
      · rcases List.mem_cons.mp hz with e | hz
        · exact Or.inl e
        · exact Or.inr hz

theorem sort_ordered (G : Fin 8 → EReal) (l : List (Fin 8)) (h : l.Pairwise (· < ·)) : (stableSort (gtOf G) l).Pairwise (Before G) := by
  induction l with
  | nil => rw [stableSort]; exact List.Pairwise.nil
  | cons x l ih =>
    have hc := List.pairwise_cons.mp h
    rw [stableSort]
    exact (put_ordered G x _ (fun y hy => hc.1 y ((perm_stableSort _ l).mem_iff.mp hy)) (ih hc.2)).1

/-- The sort's order of the entries: greater first, equal ones by position. -/
theorem sorted_before (G : Fin 8 → EReal) (a b : Fin 8) (h : a < b) : Before G (sortedFrom (gtOf G) a) (sortedFrom (gtOf G) b) := by
  have := sort_ordered G (List.finRange 8) (List.pairwise_lt_finRange 8)
  exact List.pairwise_iff_get.mp this _ _ h

theorem sorted_bijective (G : Fin 8 → EReal) : Function.Bijective (sortedFrom (gtOf G)) :=
  ⟨sortedFrom_injective _, sortedFrom_surjective _⟩

theorem word_eq (n i : Fin 8) : BitVec.ofNat 32 n.val = BitVec.ofNat 32 i.val ↔ n = i := by revert n i; decide

/-- Two ways to say "among the three best": by the rounds and by the sort. -/
theorem best_iff (G : Fin 8 → EReal) (n : Fin 8) (hn : G n ≠ ⊥) :
    Best G n ↔ (n = sortedFrom (gtOf G) 0 ∨ n = sortedFrom (gtOf G) 1 ∨ n = sortedFrom (gtOf G) 2) := by
  obtain ⟨i0, e0, f0⟩ := pick_first G
  obtain ⟨i1, e1, f1⟩ := pick_first (strike G)
  obtain ⟨i2, e2, f2⟩ := pick_first (strike (strike G))
  have s0 := strike_eq G i0 e0
  have s1 := strike_eq (strike G) i1 e1
  have word : ∀ i : Fin 8, BitVec.ofNat 32 n.val = BitVec.ofNat 32 i.val ↔ n = i := word_eq n
  unfold Best
  rw [e0, e1, e2, word, word, word]
  rw [s1, s0] at f2
  rw [s0] at f1
  exact three_rounds G _ (sorted_bijective G) (sorted_before G) i0 i1 i2 f0 f1 f2 n hn

open Cert.ReferenceIdeal in
/-- The positions a sorted choice returns. -/
theorem topK_at (x : S16x8x2048x8.Idx → EReal) (h : S16x8x2048x8.Slices (fun _ => 0) S16x8x2048x3) (i : S16x8x2048x3.Idx) (c : Fin 8) (hc : (i 3).val = c.val) :
    (Host.topK S16x8x2048x3 3 (FloatOps.cmpfTotal (F := Ideal) (φ := .f32) .gt) x h).2 i
      = BitVec.ofNat 32 (sortedFrom (gtOf fun n => x (ix4 (i 0) (i 1) (i 2) n)) c).val := by
  unfold Host.topK
  dsimp only
  rw [extractStridedSlice_apply (fun _ => 0) _ h i (ix4 (i 0) (i 1) (i 2) c) (fun a => by
    match a with
    | ⟨0, _⟩ => show (i 0).val = 0 + (i 0).val; omega
    | ⟨1, _⟩ => show (i 1).val = 0 + (i 1).val; omega
    | ⟨2, _⟩ => show (i 2).val = 0 + (i 2).val; omega
    | ⟨3, _⟩ => show c.val = 0 + (i 3).val; omega)]
  unfold Host.sort2
  rw [dif_pos (show 3 < S16x8x2048x8.rank by decide)]
  dsimp only
  rw [dif_pos (show 3 < S16x8x2048x8.rank by decide)]
  have e : ∀ k : Fin 8, Shape.Idx.along (s := S16x8x2048x8) (ix4 (i 0) (i 1) (i 2) c) (3 : Fin 4) k = ix4 (i 0) (i 1) (i 2) k := fun k => funext fun a => by
    match a with
    | ⟨0, _⟩ => rfl
    | ⟨1, _⟩ => rfl
    | ⟨2, _⟩ => rfl
    | ⟨3, _⟩ => rfl
  show BitVec.ofNat 32 _ = _
  congr 1
  unfold gtOf
  exact congrArg (fun f : Fin 8 → Fin 8 → Bool => (sortedFrom f c).val) (funext fun k => funext fun k' => congrArg₂ (fun u v : S16x8x2048x8.Idx => FloatOps.cmpfTotal (F := Ideal) (φ := .f32) .gt (x u) (x v) == 1#1) (e k) (e k'))

end Cert.Moba
-- ==== Proof.Moba.RefValue.lean ====
module

public import proofs.«01_k».proof.Proof.Gen.ReferenceIdeal.Read
public import proofs.«01_k».proof.Proof.Gen.Pre_finite
public import proofs.«01_k».proof.Proof.Moba.Column
public import proofs.«01_k».proof.Proof.Moba.TopK

@[expose] public section

noncomputable section

namespace Cert.Moba

open Cert.ReferenceIdeal Cert.ReferenceIdeal.Gen Cert.ReferenceIdeal.Read Idealize.ShloMosaic

/-! # The reference's value, one query at a time -/

/-- The array's numbers. -/
def Reals (X : S32768x512.Idx → EReal) (Q : ℕ → ℕ → ℝ) : Prop := ∀ i, X i = ((Q (i 0).val (i 1).val : ℝ) : EReal)

theorem v0_at (X : S32768x512.Idx → EReal) (Q : ℕ → ℕ → ℝ) (h : Reals X Q) (i : S16x2048x8x64.Idx) :
    val_main_v0 (F := Ideal) X i = ((Q (2048 * (i 0).val + (i 1).val) (64 * (i 2).val + (i 3).val) : ℝ) : EReal) := by
  have h0 : (i 0).val < 16 := (i 0).isLt
  have h1 : (i 1).val < 2048 := (i 1).isLt
  have h2 : (i 2).val < 8 := (i 2).isLt
  have h3 : (i 3).val < 64 := (i 3).isLt
  rw [val_main_v0_apply, h]
  have e0 : (idx_main_v0 i 0).val = 2048 * (i 0).val + (i 1).val := by
    show ((((i 0).val * 2048 + (i 1).val) * 8 + (i 2).val) * 64 + (i 3).val) / 512 = _; omega
  have e1 : (idx_main_v0 i 1).val = 64 * (i 2).val + (i 3).val := by
    show ((((i 0).val * 2048 + (i 1).val) * 8 + (i 2).val) * 64 + (i 3).val) % 512 = _; omega
  rw [e0, e1]

theorem v1_at (X : S32768x512.Idx → EReal) (Q : ℕ → ℕ → ℝ) (h : Reals X Q) (i : S16x2048x8x64.Idx) :
    val_main_v1 (F := Ideal) X i = ((Q (2048 * (i 0).val + (i 1).val) (64 * (i 2).val + (i 3).val) : ℝ) : EReal) :=
  v0_at X Q h i

theorem v12_at (X : S32768x512.Idx → EReal) (Q : ℕ → ℕ → ℝ) (h : Reals X Q) (i : S16x8x256x8x64.Idx) :
    val_main_v12 (F := Ideal) X i = ((Q (2048 * (i 0).val + (256 * (i 1).val + (i 2).val)) (64 * (i 3).val + (i 4).val) : ℝ) : EReal) := by
  have h0 : (i 0).val < 16 := (i 0).isLt
  have h1 : (i 1).val < 8 := (i 1).isLt
  have h2 : (i 2).val < 256 := (i 2).isLt
  have h3 : (i 3).val < 8 := (i 3).isLt
  have h4 : (i 4).val < 64 := (i 4).isLt
  rw [val_main_v12_apply, h]
  have e0 : (idx_main_v12 i 0).val = 2048 * (i 0).val + (256 * (i 1).val + (i 2).val) := by
    show (((((i 0).val * 8 + (i 1).val) * 256 + (i 2).val) * 8 + (i 3).val) * 64 + (i 4).val) / 512 = _; omega
  have e1 : (idx_main_v12 i 1).val = 64 * (i 3).val + (i 4).val := by
    show (((((i 0).val * 8 + (i 1).val) * 256 + (i 2).val) * 8 + (i 3).val) * 64 + (i 4).val) % 512 = _; omega
  rw [e0, e1]

/-- A block's mean key. -/
def meanR (K : ℕ → ℕ → ℝ) (b n L : ℕ) : ℝ := (∑ a : Fin 256, K (2048 * b + (256 * n + a.val)) L) / 256

theorem v15_at (X : S32768x512.Idx → EReal) (K : ℕ → ℕ → ℝ) (h : Reals X K) (i : S16x8x8x64.Idx) :
    val_main_v15 (F := Ideal) X i = ((meanR K (i 0).val (i 1).val (64 * (i 2).val + (i 3).val) : ℝ) : EReal) := by
  rw [val_main_v15_apply, val_main_v13_apply, val_main_v14_apply]
  simp only [v12_at X K h]
  show Ideal.div (Ideal.ofBits .f32 0#32 + _) (Ideal.ofBits .f32 1132462080#32) = _
  rw [lit_zero, lit_256, zero_add, Ideal.div_coe (by norm_num)]
  unfold meanR
  rw [← coe_sum, ← EReal.coe_mul, div_eq_mul_one_div (∑ a : Fin 256, _)]

/-- How well the block's mean key answers the query. -/
def gateR (Q K : ℕ → ℕ → ℝ) (b h p n : ℕ) : ℝ := ∑ x : Fin 64, Q (2048 * b + p) (64 * h + x.val) * meanR K b n (64 * h + x.val)

theorem v16_at (X0 X1 : S32768x512.Idx → EReal) (Q K : ℕ → ℕ → ℝ) (h0 : Reals X0 Q) (h1 : Reals X1 K) (i : S16x8x2048x8.Idx) :
    val_main_v16 (F := Ideal) X0 X1 i = ((gateR Q K (i 0).val (i 1).val (i 2).val (i 3).val : ℝ) : EReal) := by
  rw [val_main_v16_apply]
  simp only [v0_at X0 Q h0, v15_at X1 K h1, ← EReal.coe_mul]
  rw [← coe_sum]
  rfl

theorem div_256 (p : Fin 2048) : IntOp.divsi .host (BitVec.ofNat 32 p.val) 256#32 = BitVec.ofNat 32 (p.val / 256) := by
  revert p; decide +kernel

theorem v19_at (i : S2048.Idx) : val_main_v19 (F := Ideal) i = BitVec.ofNat 32 ((i 0).val / 256) := by
  rw [val_main_v19_apply, val_main_v17_apply, val_main_v18_apply, val_main_c_apply]
  exact div_256 (i 0)

theorem v25_at (i : S2048x8.Idx) : val_main_v25 (F := Ideal) i = 1#1 ↔ (i 1).val < (i 0).val / 256 := by
  have h0 : (i 0).val < 2048 := (i 0).isLt
  have h1 : (i 1).val < 8 := (i 1).isLt
  rw [val_main_v25_apply, val_main_v23_apply, val_main_v21_apply, val_main_v20_apply, val_main_v24_apply, val_main_v22_apply, v19_at]
  exact cmp_lt_small (i 1).val ((i 0).val / 256) (by omega) (by omega)

theorem v26_at (X0 X1 : S32768x512.Idx → EReal) (Q K : ℕ → ℕ → ℝ) (h0 : Reals X0 Q) (h1 : Reals X1 K) (i : S16x8x2048x8.Idx) :
    val_main_v26 (F := Ideal) X0 X1 i
      = if (i 3).val < (i 2).val / 256 then ((gateR Q K (i 0).val (i 1).val (i 2).val (i 3).val : ℝ) : EReal) else ⊥ := by
  rw [val_main_v26_apply, v16_at X0 X1 Q K h0 h1, val_main_call0_v1_apply, select_eq_ite _ _ (v25_at _)]
  rw [show val_main_call0_v2 (F := Ideal) i = (⊥ : EReal) from lit_bot]

/-- The gate of a query over the blocks: only blocks before its own. -/
def gateE (Q K : ℕ → ℕ → ℝ) (b h p : ℕ) (n : Fin 8) : EReal := if n.val < p / 256 then ((gateR Q K b h p n.val : ℝ) : EReal) else ⊥

theorem indices_at (X0 X1 : S32768x512.Idx → EReal) (Q K : ℕ → ℕ → ℝ) (h0 : Reals X0 Q) (h1 : Reals X1 K) (i : S16x8x2048x3.Idx) (c : Fin 8)
    (hc : (i 3).val = c.val) :
    val_main_indices (F := Ideal) X0 X1 i = BitVec.ofNat 32 (sortedFrom (gtOf (gateE Q K (i 0).val (i 1).val (i 2).val)) c).val := by
  unfold val_main_indices
  rw [topK_at _ _ i c hc]
  rw [show (fun n => val_main_v26 (F := Ideal) X0 X1 (ix4 (i 0) (i 1) (i 2) n)) = gateE Q K (i 0).val (i 1).val (i 2).val from
    funext fun n => v26_at X0 X1 Q K h0 h1 _]

theorem v46_at (X0 X1 : S32768x512.Idx → EReal) (Q K : ℕ → ℕ → ℝ) (h0 : Reals X0 Q) (h1 : Reals X1 K) (i : S16x8x2048x8.Idx) :
    val_main_v46 (F := Ideal) X0 X1 i = 1#1 ↔ Best (gateE Q K (i 0).val (i 1).val (i 2).val) (i 3) ∧ (i 3).val < (i 2).val / 256 := by
  rw [val_main_v46_apply, val_main_v43_apply, val_main_v38_apply, val_main_v33_apply, val_main_v37_apply, val_main_v42_apply,
    val_main_v31_apply, val_main_v27_apply, val_main_v35_apply, val_main_v28_apply, val_main_v40_apply, val_main_v29_apply,
    val_main_v32_apply, val_main_v30_apply, val_main_v36_apply, val_main_v34_apply, val_main_v41_apply, val_main_v39_apply,
    val_main_v45_apply, val_main_v44_apply,
    indices_at X0 X1 Q K h0 h1 _ 0 rfl, indices_at X0 X1 Q K h0 h1 _ 1 rfl, indices_at X0 X1 Q K h0 h1 _ 2 rfl]
  simp only [val_main_v20_apply]
  have band : ∀ x y : BitVec 1, IntOp.andi x y = 1#1 ↔ x = 1#1 ∧ y = 1#1 := by decide
  have bor : ∀ x y : BitVec 1, IntOp.ori x y = 1#1 ↔ x = 1#1 ∨ y = 1#1 := by decide
  rw [band, v25_at, bor, bor, cmp_eq_small _ _ (by omega) (by exact lt_trans (i 3).isLt (by decide)),
    cmp_eq_small _ _ (by omega) (by exact lt_trans (i 3).isLt (by decide)), cmp_eq_small _ _ (by omega) (by exact lt_trans (i 3).isLt (by decide))]
  refine and_congr_left fun hn => ?_
  have hn' : gateE Q K (i 0).val (i 1).val (i 2).val (i 3) ≠ ⊥ := by
    unfold gateE
    rw [if_pos (show (i 3).val < (i 2).val / 256 from hn)]
    exact EReal.coe_ne_bot _
  refine Iff.trans ?_ (best_iff _ _ hn').symm
  have flip : ∀ a b : Fin 8, a.val = b.val ↔ b = a := fun a b => ⟨fun h => Fin.ext h.symm, fun h => h ▸ rfl⟩
  rw [or_assoc]
  exact or_congr (flip _ _) (or_congr (flip _ _) (flip _ _))

theorem v51_at (i : S2048x2048.Idx) : val_main_v51 (F := Ideal) i = IntOp.subi (BitVec.ofNat 32 (i 0).val) (BitVec.ofNat 32 (i 1).val) := by
  rw [val_main_v51_apply, val_main_v49_apply, val_main_v47_apply, val_main_v50_apply, val_main_v48_apply, val_main_v17_apply, val_main_v17_apply]

theorem v71_at (i : S2048x2048.Idx) : val_main_v71 (F := Ideal) i = 1#1 ↔ (i 0).val / 256 = (i 1).val / 256 ∧ (i 1).val ≤ (i 0).val := by
  have h0 : (i 0).val < 2048 := (i 0).isLt
  have h1 : (i 1).val < 2048 := (i 1).isLt
  have band : ∀ x y : BitVec 1, IntOp.andi x y = 1#1 ↔ x = 1#1 ∧ y = 1#1 := by decide
  rw [val_main_v71_apply, band, val_main_v68_apply, val_main_v66_apply, val_main_v64_apply, val_main_v67_apply, val_main_v65_apply, v19_at, v19_at,
    val_main_v70_apply, v51_at, val_main_v69_apply, val_main_c_7_apply]
  refine and_congr (cmp_eq_small ((i 0).val / 256) ((i 1).val / 256) (by omega) (by omega)) ?_
  have e := toInt_diff (i 0).val (i 1).val h0 h1
  generalize IntOp.subi (BitVec.ofNat 32 (i 0).val) (BitVec.ofNat 32 (i 1).val) = w at e
  rw [show IntOp.cmpi .sge w 0#32 = BitVec.ofBool ((0#32).sle w) from rfl, BitVec.sle_eq_decide, e]
  by_cases h : (i 1).val ≤ (i 0).val
  · simp [h]
  · simp [h]

/-- The rows a query sees. -/
def seenR (Q K : ℕ → ℕ → ℝ) (b h p r : ℕ) : Prop :=
  (p / 256 = r / 256 ∧ r ≤ p) ∨ ((∃ hn : r / 256 < 8, Best (gateE Q K b h p) ⟨r / 256, hn⟩) ∧ r / 256 < p / 256)

theorem v76_at (X0 X1 : S32768x512.Idx → EReal) (Q K : ℕ → ℕ → ℝ) (h0 : Reals X0 Q) (h1 : Reals X1 K) (i : S16x8x2048x2048.Idx) :
    val_main_v76 (F := Ideal) X0 X1 i = 1#1 ↔ seenR Q K (i 0).val (i 1).val (i 2).val (i 3).val := by
  have b0 : (i 0).val < 16 := (i 0).isLt
  have b1 : (i 1).val < 8 := (i 1).isLt
  have b2 : (i 2).val < 2048 := (i 2).isLt
  have b3 : (i 3).val < 2048 := (i 3).isLt
  have bor : ∀ x y : BitVec 1, IntOp.ori x y = 1#1 ↔ x = 1#1 ∨ y = 1#1 := by decide
  rw [val_main_v76_apply, bor, val_main_v75_apply, val_main_v74_apply, v71_at, val_main_v73_apply, val_main_v72_apply, v46_at X0 X1 Q K h0 h1]
  unfold seenR
  refine or_congr Iff.rfl ?_
  have e : idx_main_v72 (idx_main_v73 i) = ix4 (i 0) (i 1) (i 2) (⟨(i 3).val / 256, by omega⟩ : Fin 8) := funext fun a => Fin.ext (by
    match a with
    | ⟨0, _⟩ => show ((((i 0).val * 8 + (i 1).val) * 2048 + (i 2).val) * 2048 + (i 3).val) / 33554432 = (i 0).val; omega
    | ⟨1, _⟩ => show ((((i 0).val * 8 + (i 1).val) * 2048 + (i 2).val) * 2048 + (i 3).val) / 4194304 % 8 = (i 1).val; omega
    | ⟨2, _⟩ => show ((((i 0).val * 8 + (i 1).val) * 2048 + (i 2).val) * 2048 + (i 3).val) / 2048 % 2048 = (i 2).val; omega
    | ⟨3, _⟩ => show ((((i 0).val * 8 + (i 1).val) * 2048 + (i 2).val) * 2048 + (i 3).val) / 256 % 8 = (i 3).val / 256; omega)
  rw [e]
  exact and_congr_left fun _ => ⟨fun h => ⟨by omega, h⟩, fun h => h.2⟩

/-! ## Slopes and scores -/

theorem v11_real (i : S8.Idx) : ∃ s : ℝ, val_main_v11 (F := Ideal) i = (s : EReal) := by
  have hv3 : val_main_v3 (F := Ideal) i = (((i 0).val : ℝ) : EReal) := by
    show (((BitVec.ofNat 32 (i 0).val).toInt : ℝ) : EReal) = _
    rw [toInt_small _ (lt_trans (i 0).isLt (by decide))]
    norm_num
  have lit1 : Ideal.ofBits .f32 0x3F800000#32 = ((1 : ℝ) : EReal) := by simp [Ideal.ofBits, Ideal.ieee, -EReal.coe_mul]; norm_num
  have litm8 : Ideal.ofBits .f32 0xC1000000#32 = ((-8 : ℝ) : EReal) := by simp [Ideal.ofBits, Ideal.ieee, -EReal.coe_mul]; norm_num
  have lit8 : Ideal.ofBits .f32 0x41000000#32 = ((8 : ℝ) : EReal) := by simp [Ideal.ofBits, Ideal.ieee, -EReal.coe_mul]; norm_num
  have lit2 : Ideal.ofBits .f32 0x40000000#32 = ((2 : ℝ) : EReal) := by simp [Ideal.ofBits, Ideal.ieee, -EReal.coe_mul]; norm_num
  rw [val_main_v11_apply, val_main_v10_apply, val_main_cst_2_apply, val_main_v9_apply, val_main_v7_apply, val_main_v6_apply, val_main_cst_0_apply,
    val_main_v5_apply, val_main_v4_apply, val_main_cst_apply, hv3, val_main_v8_apply, val_main_cst_1_apply]
  show ∃ s : ℝ, Ideal.pow (Ideal.ofBits .f32 0x40000000#32) (Ideal.div (Ideal.ofBits .f32 0xC1000000#32 * (Ideal.ofBits .f32 0x3F800000#32 + _)) (Ideal.ofBits .f32 0x41000000#32)) = _
  rw [lit1, litm8, lit8, lit2, Ideal.div_coe (by norm_num), ← EReal.coe_add, ← EReal.coe_mul, ← EReal.coe_mul]
  exact ⟨_, rfl⟩

/-- A head's slope. -/
def slR (h : Fin 8) : ℝ := (v11_real (ix1 h)).choose

theorem v11_at (i : S8.Idx) : val_main_v11 (F := Ideal) i = ((slR (i 0) : ℝ) : EReal) := by
  have e : i = ix1 (i 0) := funext fun a => by match a with | ⟨0, _⟩ => rfl
  exact (congrArg (val_main_v11 (F := Ideal)) e).trans (v11_real (ix1 (i 0))).choose_spec

/-- The score of a row for a query. -/
def scoreR (Q K : ℕ → ℕ → ℝ) (b : ℕ) (h : Fin 8) (p r : ℕ) : ℝ :=
  (∑ x : Fin 64, Q (2048 * b + p) (64 * h.val + x.val) * K (2048 * b + r) (64 * h.val + x.val)) * 0.125 - slR h * ((p : ℝ) - r)

theorem v63_at (X0 X1 : S32768x512.Idx → EReal) (Q K : ℕ → ℕ → ℝ) (h0 : Reals X0 Q) (h1 : Reals X1 K) (i : S16x8x2048x2048.Idx) :
    val_main_v63 (F := Ideal) X0 X1 i = ((scoreR Q K (i 0).val (i 1) (i 2).val (i 3).val : ℝ) : EReal) := by
  rw [val_main_v63_apply, val_main_v54_apply, val_main_v52_apply, val_main_v53_apply, val_main_cst_6_apply, val_main_v62_apply, val_main_v61_apply,
    val_main_v60_apply, val_main_v58_apply, val_main_v55_apply, v11_at, val_main_v59_apply, val_main_v57_apply, val_main_v56_apply, v51_at]
  simp only [v0_at X0 Q h0, v1_at X1 K h1, ← EReal.coe_mul]
  show (∑ _, _) * Ideal.ofBits .f32 1040187392#32 - _ * (((IntOp.subi (BitVec.ofNat 32 (i 2).val) (BitVec.ofNat 32 (i 3).val)).toInt : ℝ) : EReal) = _
  rw [toInt_diff _ _ (i 2).isLt (i 3).isLt, lit_eighth, ← coe_sum, ← EReal.coe_mul, ← EReal.coe_mul, ← EReal.coe_sub]
  unfold scoreR
  push_cast
  rfl

/-! ## The row of weights -/

theorem v77_at (X0 X1 : S32768x512.Idx → EReal) (Q K : ℕ → ℕ → ℝ) (h0 : Reals X0 Q) (h1 : Reals X1 K) (b : Fin 16) (h : Fin 8) (p r : Fin 2048) :
    val_main_v77 (F := Ideal) X0 X1 (ix4 b h p r)
      = masked (fun r => seenR Q K b.val h.val p.val r.val) (fun r => scoreR Q K b.val h p.val r.val) r := by
  rw [val_main_v77_apply, v63_at X0 X1 Q K h0 h1]
  unfold masked
  classical
  rw [select_eq_ite _ _ (v76_at X0 X1 Q K h0 h1 (ix4 b h p r)), show val_main_call1_v1 (F := Ideal) (ix4 b h p r) = (⊥ : EReal) from lit_bot]
  rfl

theorem v78_at (X0 X1 : S32768x512.Idx → EReal) (Q K : ℕ → ℕ → ℝ) (h0 : Reals X0 Q) (h1 : Reals X1 K) (b : Fin 16) (h : Fin 8) (p : Fin 2048) :
    ∃ M : ℝ, val_main_v78 (F := Ideal) X0 X1 (ix3 b h p) = (M : EReal) := by
  have e := fold_masked_real (n := 2047) (fun r => seenR Q K b.val h.val p.val r.val) (fun r => scoreR Q K b.val h p.val r.val) id p
    (Or.inl ⟨rfl, le_rfl⟩)
  obtain ⟨M, hM⟩ := e
  refine ⟨M, Eq.trans ?_ hM⟩
  rw [show (fun x : Fin 2048 => masked (fun r => seenR Q K b.val h.val p.val r.val) (fun r => scoreR Q K b.val h p.val r.val) (id x))
    = fun r => val_main_v77 (F := Ideal) X0 X1 (ix4 b h p r) from funext fun r => (v77_at X0 X1 Q K h0 h1 b h p r).symm]
  unfold val_main_v78
  generalize val_main_v77 (F := Ideal) X0 X1 = y
  rw [← lit_bot]
  pointwise
  rfl

theorem v87_at (X0 X1 X2 : S32768x512.Idx → EReal) (Q K : ℕ → ℕ → ℝ) (h0 : Reals X0 Q) (h1 : Reals X1 K) (b : Fin 16) (h : Fin 8) (d : Fin 64) (p : Fin 2048) :
    val_main_v87 (F := Ideal) X0 X1 X2 (ix4 b h d p)
      = attn (fun r => seenR Q K b.val h.val p.val r.val) (fun r => scoreR Q K b.val h p.val r.val)
          (fun r => val_main_v2 (F := Ideal) X2 (ix4 b r h d)) := by
  obtain ⟨M, hM⟩ := v78_at X0 X1 Q K h0 h1 b h p
  have e82 : ∀ r : Fin 2048, val_main_v82 (F := Ideal) X0 X1 (ix4 b h p r)
      = Ideal.exp (masked (fun r => seenR Q K b.val h.val p.val r.val) (fun r => scoreR Q K b.val h p.val r.val) r - (M : EReal)) := fun r => by
    rw [val_main_v82_apply, val_main_v81_apply, v77_at X0 X1 Q K h0 h1, val_main_v80_apply, val_main_v79_apply]
    rw [show idx_main_v79 (idx_main_v80 (ix4 b h p r)) = ix3 b h p from funext fun a => by
      match a with
      | ⟨0, _⟩ => rfl
      | ⟨1, _⟩ => rfl
      | ⟨2, _⟩ => rfl, hM]
    rfl
  have e83 : val_main_v83 (F := Ideal) X0 X1 (ix3 b h p) = ∑ r, Ideal.exp (masked (fun r => seenR Q K b.val h.val p.val r.val) (fun r => scoreR Q K b.val h p.val r.val) r - (M : EReal)) := by
    rw [val_main_v83_apply, show val_main_cst_10 (F := Ideal) (Shape.Idx.first h_S_) = (0 : EReal) from lit_zero, zero_add]
    refine Finset.sum_congr rfl fun r _ => ?_
    rw [← e82 r]
    exact congrArg _ (funext fun a => by
      match a with
      | ⟨0, _⟩ => rfl
      | ⟨1, _⟩ => rfl
      | ⟨2, _⟩ => rfl
      | ⟨3, _⟩ => rfl)
  rw [val_main_v87_apply, ← plain_attn _ _ _ M p (Or.inl ⟨rfl, le_rfl⟩)]
  refine Finset.sum_congr rfl fun r _ => ?_
  rw [show lidx_main_v87 (ix4 b h d p) r = ix4 b r h d from funext fun a => by
      match a with
      | ⟨0, _⟩ => rfl
      | ⟨1, _⟩ => rfl
      | ⟨2, _⟩ => rfl
      | ⟨3, _⟩ => rfl,
    show ridx_main_v87 (ix4 b h d p) r = ix4 b h p r from funext fun a => by
      match a with
      | ⟨0, _⟩ => rfl
      | ⟨1, _⟩ => rfl
      | ⟨2, _⟩ => rfl
      | ⟨3, _⟩ => rfl]
  rw [val_main_v86_apply, e82 r, val_main_v85_apply, val_main_v84_apply,
    show idx_main_v84 (idx_main_v85 (ix4 b h p r)) = ix3 b h p from funext fun a => by
      match a with
      | ⟨0, _⟩ => rfl
      | ⟨1, _⟩ => rfl
      | ⟨2, _⟩ => rfl, e83]
  rfl

/-- The reference's result at a query's row and one of its head's lanes. -/
theorem ref_at (X0 X1 X2 : S32768x512.Idx → EReal) (Q K : ℕ → ℕ → ℝ) (h0 : Reals X0 Q) (h1 : Reals X1 K) (b : Fin 16) (h : Fin 8) (d : Fin 64) (p : Fin 2048)
    (i : S32768x512.Idx) (hi0 : (i 0).val = 2048 * b.val + p.val) (hi1 : (i 1).val = 64 * h.val + d.val) :
    val_main_v89 (F := Ideal) X0 X1 X2 i
      = attn (fun r => seenR Q K b.val h.val p.val r.val) (fun r => scoreR Q K b.val h p.val r.val)
          (fun r => X2 (ix2 ⟨2048 * b.val + r.val, by omega⟩ (i 1))) := by
  have hd := d.isLt
  have hp := p.isLt
  have hh := h.isLt
  have hb := b.isLt
  rw [val_main_v89_apply, val_main_v88_apply]
  rw [show idx_main_v88 (idx_main_v89 i) = ix4 b h d p from funext fun a => Fin.ext (by
    match a with
    | ⟨0, _⟩ => show ((i 0).val * 512 + (i 1).val) / 1048576 = b.val; omega
    | ⟨1, _⟩ => show ((i 0).val * 512 + (i 1).val) / 64 % 8 = h.val; omega
    | ⟨2, _⟩ => show ((i 0).val * 512 + (i 1).val) % 64 = d.val; omega
    | ⟨3, _⟩ => show ((i 0).val * 512 + (i 1).val) / 512 % 2048 = p.val; omega), v87_at X0 X1 X2 Q K h0 h1]
  refine congrArg _ (funext fun r => ?_)
  rw [val_main_v2_apply]
  refine congrArg X2 (funext fun a => Fin.ext ?_)
  have hr := r.isLt
  match a with
  | ⟨0, _⟩ => show (((b.val * 2048 + r.val) * 8 + h.val) * 64 + d.val) / 512 = 2048 * b.val + r.val; omega
  | ⟨1, _⟩ => show (((b.val * 2048 + r.val) * 8 + h.val) * 64 + d.val) % 512 = (i 1).val; omega

end Cert.Moba
-- ==== Proof.Moba.Value.lean ====
module

public import proofs.«01_k».proof.Defs
public import proofs.«01_k».proof.Proof.Moba.Frame
public import proofs.«01_k».proof.Proof.Moba.RefValue
public import Idealize.ShloMosaic.Lib.ReduceAll
public import Idealize.ShloMosaic.Lib.Pipeline.ValueKit

@[expose] public section

noncomputable section

namespace Cert.Moba

open Cert.KernelIdeal Cert.KernelIdeal.Gen
open Idealize.ShloMosaic Idealize.ShloMosaic.TcCoe Idealize.SL.Sem

/-! # The call's result is the reference's -/

/-! ## A column's lanes are its head's -/

/-- Where a lane's head starts. -/
def off (b : Fin 128) : ℕ := if b.val < 64 then 0 else 64

theorem off_lt (b : Fin 128) (x : Fin 64) : off b + x.val < 128 := by unfold off; split <;> omega

/-- A sum over the lanes of a column's query runs over its head's lanes. -/
theorem lane_sum (f : Fin 128 → ℝ → ℝ) (hf : ∀ l, f l 0 = 0) (q : Fin 256 → Fin 128 → ℝ) (a : Fin 256) (b : Fin 128) :
    ∑ l, f l (qs q (col a b) l) = ∑ x : Fin 64, f ⟨off b + x.val, off_lt b x⟩ (q a ⟨off b + x.val, off_lt b x⟩) := by
  have hm : (⟨(col a b).val % 256, Nat.mod_lt _ (by decide)⟩ : Fin 256) = a := Fin.ext (by
    show (if b.val < 64 then a.val else 256 + a.val) % 256 = a.val
    split <;> omega)
  have hq : ∀ l, qs q (col a b) l = if (b.val < 64 ↔ l.val < 64) then q a l else 0 := fun l => by
    have hc : (col a b).val < 256 ↔ b.val < 64 := by
      show (if b.val < 64 then a.val else 256 + a.val) < 256 ↔ _
      split <;> omega
    unfold qs
    rw [hm]
    exact if_congr (iff_congr hc Iff.rfl) rfl rfl
  simp only [hq]
  rw [show (∑ l : Fin 128, f l (if (b.val < 64 ↔ l.val < 64) then q a l else 0))
    = ∑ l : Fin (64 + 64), (fun l : Fin 128 => f l (if (b.val < 64 ↔ l.val < 64) then q a l else 0)) l from rfl, Fin.sum_univ_add]
  by_cases h : b.val < 64
  · have z : ∀ x : Fin 64, (fun l : Fin 128 => f l (if (b.val < 64 ↔ l.val < 64) then q a l else 0)) (Fin.natAdd 64 x) = 0 := fun x => by
      have : ¬(b.val < 64 ↔ (Fin.natAdd 64 x : Fin 128).val < 64) := by simp [h]
      dsimp only
      rw [if_neg this, hf]
    rw [Finset.sum_congr rfl fun x _ => z x, Finset.sum_const_zero, add_zero]
    refine Finset.sum_congr rfl fun x _ => ?_
    have e : (⟨off b + x.val, off_lt b x⟩ : Fin 128) = Fin.castAdd 64 x := Fin.ext (by show off b + x.val = x.val; unfold off; rw [if_pos h, Nat.zero_add])
    have : (b.val < 64 ↔ (Fin.castAdd 64 x : Fin 128).val < 64) := by simp [h]
    rw [e, if_pos this]
  · have z : ∀ x : Fin 64, (fun l : Fin 128 => f l (if (b.val < 64 ↔ l.val < 64) then q a l else 0)) (Fin.castAdd 64 x) = 0 := fun x => by
      have : ¬(b.val < 64 ↔ (Fin.castAdd 64 x : Fin 128).val < 64) := by simp [h]
      dsimp only
      rw [if_neg this, hf]
    rw [Finset.sum_congr rfl fun x _ => z x, Finset.sum_const_zero, zero_add]
    refine Finset.sum_congr rfl fun x _ => ?_
    have e : (⟨off b + x.val, off_lt b x⟩ : Fin 128) = Fin.natAdd 64 x := Fin.ext (by show off b + x.val = 64 + x.val; unfold off; rw [if_neg h])
    have : (b.val < 64 ↔ (Fin.natAdd 64 x : Fin 128).val < 64) := by simp [h]
    rw [e, if_pos this]

/-! ## A point's column and the reference's query -/

section Point

variable (Q K : ℕ → ℕ → ℝ) (t : Fin cfg0.N) (a : Fin 256) (b : Fin 128)

/-- The numbers of a point's blocks. -/
def qOf (a : Fin 256) (l : Fin 128) : ℝ := Q (qrow t a).val (lane t l).val
def kOf (r : Fin 2048) (l : Fin 128) : ℝ := K (krow t r).val (lane t l).val

/-- The head of a lane. -/
def headOf : Fin 8 := ⟨2 * (t.val / 8 % 4) + b.val / 64, by omega⟩

theorem lane_head (x : Fin 64) : (lane t ⟨off b + x.val, off_lt b x⟩).val = 64 * (headOf t b).val + x.val := by
  show t.val / 8 % 4 * 128 + (off b + x.val) = 64 * (2 * (t.val / 8 % 4) + b.val / 64) + x.val
  unfold off
  split <;> omega

theorem qrow_eq : (qrow t a).val = 2048 * (t.val / 32) + (256 * (t.val % 8) + a.val) := by
  show (t.val / 32 * 8 + t.val % 8) * 256 + a.val = _; omega

theorem krow_eq (r : Fin 2048) : (krow t r).val = 2048 * (t.val / 32) + r.val := by
  show t.val / 32 * 2048 + r.val = _; omega

theorem col_mod : (col a b).val % 256 = a.val := by
  show (if b.val < 64 then a.val else 256 + a.val) % 256 = a.val
  split <;> omega

theorem gate_same : gateOf (qOf Q t) (kOf K t) (t.val % 8) (col a b)
    = gateE Q K (t.val / 32) (headOf t b).val (256 * (t.val % 8) + a.val) := by
  funext n
  unfold gateOf gateE
  have e : (256 * (t.val % 8) + a.val) / 256 = t.val % 8 := by omega
  rw [e]
  refine if_congr Iff.rfl (congrArg _ ?_) rfl
  rw [lane_sum (fun l z => kmean (kOf K t) n l * z) (fun l => mul_zero _)]
  unfold gateR
  refine Finset.sum_congr rfl fun x _ => ?_
  rw [mul_comm]
  unfold qOf kmean meanR kOf
  rw [lane_head, qrow_eq]
  simp only [krow_eq, lane_head, mul_comm (t.val / 32) 2048]

theorem seen_same (r : Fin 2048) : Seen (qOf Q t) (kOf K t) (t.val % 8) (col a b) r
    ↔ seenR Q K (t.val / 32) (headOf t b).val (256 * (t.val % 8) + a.val) r.val := by
  have e : (256 * (t.val % 8) + a.val) / 256 = t.val % 8 := by omega
  unfold Seen Own PickedRow Picked seenR
  rw [gate_same, col_mod, e]
  refine or_congr (and_congr_left fun _ => eq_comm) ?_
  constructor
  · rintro ⟨h, hb, hn⟩; exact ⟨⟨h, hb⟩, hn⟩
  · rintro ⟨⟨h, hb⟩, hn⟩; exact ⟨h, hb, hn⟩

theorem slope_same (sl : Fin 8 → ℝ) : slopeOf sl (t.val / 8 % 4) (Nat.mod_lt _ (by decide)) (col a b) = sl (headOf t b) := by
  have hc : (col a b).val < 256 ↔ b.val < 64 := by
    show (if b.val < 64 then a.val else 256 + a.val) < 256 ↔ _
    split <;> omega
  unfold slopeOf headOf
  by_cases h : b.val < 64
  · rw [if_pos (hc.mpr h)]; exact congrArg sl (Fin.ext (by show 2 * (t.val / 8 % 4) = 2 * (t.val / 8 % 4) + b.val / 64; omega))
  · rw [if_neg (fun h' => h (hc.mp h'))]; exact congrArg sl (Fin.ext (by show 2 * (t.val / 8 % 4) + 1 = 2 * (t.val / 8 % 4) + b.val / 64; omega))

theorem score_same (r : Fin 2048) :
    score (qOf Q t) (kOf K t) (slopeOf slR (t.val / 8 % 4) (Nat.mod_lt _ (by decide)) (col a b)) (t.val % 8) (col a b) r
      = scoreR Q K (t.val / 32) (headOf t b) (256 * (t.val % 8) + a.val) r.val := by
  rw [slope_same]
  unfold score scoreR dotk
  rw [col_mod, lane_sum (fun l z => kOf K t r l * (z * 0.125)) (fun l => by simp), Finset.sum_mul]
  refine congrArg₂ (· - ·) (Finset.sum_congr rfl fun x _ => ?_) ?_
  · unfold qOf kOf
    rw [lane_head, qrow_eq, krow_eq]
    ring
  · push_cast
    rfl

end Point

/-! ## The blocks -/

section Blocks

variable (m : (ℓ : Loc nD τ sig) → Buf (Elt Ideal) ℓ)

/-- The slopes the call is given are the reference's. -/
theorem slopes_in (c : Dev nD) : V m c main_v8 = Cert.ReferenceIdeal.Read.val_main_v11 (F := Ideal) := by
  simp only [V, hostOps0]
  rfl

theorem outAt_eq (c : Dev nD) (Q K : ℕ → ℕ → ℝ) (hQ : Reals (m ((c : Thread nD τ).loc main_arg0)) Q) (hK : Reals (m ((c : Thread nD τ).loc main_arg1)) K)
    (t : Fin cfg0.N) (a : Fin 256) (b : Fin 128) :
    outAt m c t (ix2 a b) = Cert.ReferenceIdeal.Read.val_main_v89 (F := Ideal) (m ((c : Thread nD τ).loc main_arg0)) (m ((c : Thread nD τ).loc main_arg1))
      (m ((c : Thread nD τ).loc main_arg2)) (ix2 (qrow t a) (lane t b)) := by
  obtain ⟨e0, e1, e2⟩ := coord_facts t
  have ht := t_lt t
  have hb := block (grid0.coords t) (qOf Q t) (kOf K t) slR (iblk m c 0 t) (iblk m c 1 t) (kblk m c t) (vblk m c t)
    (fun h => by rw [iblk0_apply, slopes_in, v11_at]; rfl)
    (fun a l => by rw [iblk1_apply, hQ]; rfl)
    (fun r l => (iblk2_apply m c t (ix2 r l)).trans ((hK _).trans rfl)) a b
  unfold outAt
  refine hb.trans (Eq.trans ?_ (ref_at _ _ _ Q K hQ hK ⟨t.val / 32, by omega⟩ (headOf t b) ⟨b.val % 64, by omega⟩ ⟨256 * (t.val % 8) + a.val, by omega⟩
    (ix2 (qrow t a) (lane t b)) (qrow_eq t a)
    (by show t.val / 8 % 4 * 128 + b.val = 64 * (2 * (t.val / 8 % 4) + b.val / 64) + b.val % 64; omega)).symm)
  have h1 : Seen (qOf Q t) (kOf K t) (grid0.coords t 2).val (col a b)
      = fun r => seenR Q K (t.val / 32) (headOf t b).val (256 * (t.val % 8) + a.val) r.val := by
    rw [e2]; exact funext fun r => propext (seen_same Q K t a b r)
  have h2 : sc (grid0.coords t) (qOf Q t) (kOf K t) slR (col a b)
      = fun r => scoreR Q K (t.val / 32) (headOf t b) (256 * (t.val % 8) + a.val) r.val := by
    funext r
    refine Eq.trans ?_ (score_same Q K t a b r)
    show score (qOf Q t) (kOf K t) (slopeOf slR (grid0.coords t 1).val _ (col a b)) (grid0.coords t 2).val (col a b) r = _
    simp only [e1, e2]
  have h3 : (fun r : Fin 2048 => vblk m c t (ix2 r b))
      = fun r : Fin 2048 => m ((c : Thread nD τ).loc main_arg2) (ix2 ⟨2048 * (t.val / 32) + r.val, by omega⟩ (lane t b)) := by
    funext r
    refine (iblk3_apply m c t (ix2 r b)).trans (congrArg _ ?_)
    exact congrArg (fun w => ix2 w (lane t b)) (Fin.ext (krow_eq t r))
  exact congr (congr (congrArg attn h1) h2) h3

/-- The array the call leaves is the reference's result. -/
theorem array_eq (c : Dev nD) (Q K : ℕ → ℕ → ℝ) (hQ : Reals (m ((c : Thread nD τ).loc main_arg0)) Q) (hK : Reals (m ((c : Thread nD τ).loc main_arg1)) K) :
    (dat m 0 c).arrAt 4 cfg0.N = Cert.ReferenceIdeal.Read.val_main_v89 (F := Ideal) (m ((c : Thread nD τ).loc main_arg0)) (m ((c : Thread nD τ).loc main_arg1))
      (m ((c : Thread nD τ).loc main_arg2)) := by
  refine Pipeline.Dat.arrAt_eq_of_covers (dat m 0 c) 4 _ (by decide +kernel) (fun t _ y => ?_)
  rw [dat_after4, emb4]
  have ey : y = ix2 (y 0) (y 1) := funext fun a => by match a with | ⟨0, _⟩ => rfl | ⟨1, _⟩ => rfl
  refine Eq.trans ?_ (outAt_eq m c Q K hQ hK t (y 0) (y 1))
  exact congrArg (outAt m c t) ey

end Blocks

/-! ## The precondition -/

/-- Finite arrays hold numbers. -/
theorem reals_of (X : S32768x512.Idx → EReal)
    (h : ∀ i, FloatOps.cmpf (F := Ideal) (φ := .f32) .olt (FloatOps.absf (X i)) (FloatOps.ofBits .f32 0x7F800000#32) = 1#1) : ∃ Q, Reals X Q := by
  have fin : ∀ i, X i ≠ ⊤ ∧ X i ≠ ⊥ := fun i => by
    have hi := h i
    have top : Ideal.ofBits .f32 0x7F800000#32 = ⊤ := by simp [Ideal.ofBits, Ideal.ieee, -EReal.coe_mul]
    rw [show FloatOps.cmpf (F := Ideal) (φ := .f32) .olt (FloatOps.absf (X i)) (FloatOps.ofBits .f32 0x7F800000#32)
      = Ideal.cmp .olt (max (X i) (-X i)) (Ideal.ofBits .f32 0x7F800000#32) from rfl, top] at hi
    constructor
    · intro e; rw [e] at hi; simp [Ideal.cmp] at hi
    · intro e; rw [e] at hi; simp [Ideal.cmp] at hi
  refine ⟨fun r l => if hr : r < 32768 ∧ l < 512 then (X (ix2 ⟨r, hr.1⟩ ⟨l, hr.2⟩)).toReal else 0, fun i => ?_⟩
  have h0 : (i 0).val < 32768 := (i 0).isLt
  have h1 : (i 1).val < 512 := (i 1).isLt
  dsimp only
  rw [dif_pos ⟨h0, h1⟩]
  have ei : i = ix2 ⟨(i 0).val, h0⟩ ⟨(i 1).val, h1⟩ := funext fun a => by match a with | ⟨0, _⟩ => rfl | ⟨1, _⟩ => rfl
  rw [← ei]
  exact (EReal.coe_toReal (fin i).1 (fin i).2).symm

instance : Subsingleton Cert.Pre_finite.S_.Idx := ⟨fun a b => funext fun x => x.elim0⟩

theorem reals_of_pre (x0 x1 x2 : S32768x512.Idx → EReal) (h : Cert.Pre_finite.fn (F := Ideal) x0 x1 x2 = fun _ => 1#1) :
    (∃ Q, Reals x0 Q) ∧ ∃ K, Reals x1 K := by
  have h' := congrFun h (fun x => x.elim0)
  unfold Cert.Pre_finite.fn at h'
  dsimp only at h'
  have band : ∀ x y : BitVec 1, IntOp.andi x y = 1#1 ↔ x = 1#1 ∧ y = 1#1 := by decide
  obtain ⟨a, b⟩ := (band _ _).mp h'
  exact ⟨reals_of x0 fun i => Host.reduce_andi_all _ _ _ _ _ a i, reals_of x1 fun i => Host.reduce_andi_all _ _ _ _ _ b i⟩

/-! ## The claim -/

theorem same_result : Cert.algebraic_KernelIdeal_ReferenceIdeal_pre_finite := by
  intro m g m' g' hpre hag
  refine ⟨fun c => Cert.ReferenceIdeal.Read.val_main_v89 (F := Ideal) (m ((c : Thread nD τ).loc main_arg0)) (m ((c : Thread nD τ).loc main_arg1))
      (m ((c : Thread nD τ).loc main_arg2)), ?_, ?_⟩
  · refine (θ_run defs _ _).mono ?_ (θ_run_and (run_all m g) (ends m g))
    rintro r ⟨⟨h, -⟩, h', -⟩ c
    obtain ⟨⟨Q, hQ⟩, K, hK⟩ := reals_of_pre _ _ _ (hpre c)
    exact ⟨((h c).1 4).trans (array_eq m c Q K hQ hK), h' c⟩
  · refine (θ_run Cert.ReferenceIdeal.defs _ _).mono ?_ (Cert.ReferenceIdeal.Value.run (F := Ideal) m' g')
    intro r h c
    refine ⟨((h c).1).trans ?_, (h c).2⟩
    rw [Cert.ReferenceIdeal.Read.val_main_v89_eq, (hag c).1, (hag c).2.1, (hag c).2.2]

end Cert.Moba
-- ==== Proof.Inproj.Block.lean ====
module

public import proofs.«01_k».proof.Proof.Gen.InprojIdeal.Value
public import proofs.«01_k».proof.Proof.Moba.Softmax
public import Idealize.ShloMosaic.Lib.Pointwise

@[expose] public section

set_option maxRecDepth 16384

noncomputable section

namespace Cert.Inp

open Cert.InprojIdeal Cert.InprojIdeal.Gen
open Idealize.ShloMosaic Idealize.ShloMosaic.TcCoe Idealize.ShloMosaic.Tactic
open scoped Classical

/-! # The projection of one row, and the norm of one head -/

theorem lit_1024 : Ideal.ofBits .f32 1149239296#32 = ((1024 : ℝ) : EReal) := by
  simp [Ideal.ofBits, Ideal.ieee, -EReal.coe_mul]; norm_num
theorem lit_64 : Ideal.ofBits .f32 1115684864#32 = ((64 : ℝ) : EReal) := by
  simp [Ideal.ofBits, Ideal.ieee, -EReal.coe_mul]; norm_num
theorem lit_inv64 : Ideal.ofBits .f32 1015021568#32 = ((1 / 64 : ℝ) : EReal) := by
  simp [Ideal.ofBits, Ideal.ieee, -EReal.coe_mul]; norm_num
theorem lit_eps : ∃ e : ℝ, 0 < e ∧ Ideal.ofBits .f32 897988541#32 = (e : EReal) := by
  refine ⟨_, ?_, by simp [Ideal.ofBits, Ideal.ieee, -EReal.coe_mul]; rfl⟩
  norm_num

/-- The small constant under the roots. -/
abbrev eps : EReal := Ideal.ofBits .f32 897988541#32

/-- A row, normed and scaled, at one place. -/
def normed (X g : Fin 1024 → EReal) (k : Fin 1024) : EReal :=
  X k * Ideal.rsqrt (Ideal.div (∑ l, X l * X l) (Ideal.ofBits .f32 1149239296#32) + eps) * g k

/-- One column of the row's projection. -/
def proj (X g W : Fin 1024 → EReal) : EReal := ∑ k, normed X g k * W k

theorem pay1_at (v0 : Vec Ideal S512x1024 .f32) (v12 : Vec Ideal S1x1024 .f32) (v17 : Vec Ideal S1024x3712 .bf16) (r : Fin 512) (j : Fin 3712) :
    k0_pay1 v0 v12 v17 (ix2 r j) = proj (fun k => v0 (ix2 r k)) (fun k => v12 (ix2 0 k)) (fun k => v17 (ix2 k j)) := by
  unfold k0_pay1 proj normed
  pointwise

/-- The quotient by 64 as the kernel spells it. -/
theorem div_64 (a : Fin 256) : (Scalar.select
          (IntOp.andi
            (IntOp.cmpi CmpIPredicate.ne
              (IntOp.subi (BitVec.setWidth 32 (IntOp.cmpi CmpIPredicate.sgt (BitVec.ofNat 32 ↑a) 0#32))
                (BitVec.setWidth 32 (IntOp.cmpi CmpIPredicate.slt (BitVec.ofNat 32 ↑a) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 ↑a) 64#32) 0#32))
          (IntOp.subi (IntOp.divsi ArithUnit.vector (BitVec.ofNat 32 ↑a) 64#32) 1#32)
          (IntOp.divsi ArithUnit.vector (BitVec.ofNat 32 ↑a) 64#32)) = BitVec.ofNat 32 (a.val / 64) := by
  revert a; decide +kernel

theorem select_cmp_eq (x y : ℕ) (hx : x < 4) (hy : y < 4) (u v : EReal) :
    Scalar.select (IntOp.cmpi .eq (BitVec.ofNat 32 x) (BitVec.ofNat 32 y)) u v = if x = y then u else v := by
  have h : IntOp.cmpi .eq (BitVec.ofNat 32 x) (BitVec.ofNat 32 y) = if x = y then 1#1 else 0#1 := by
    interval_cases x <;> interval_cases y <;> decide
  rw [h]
  by_cases e : x = y
  · simp [e, Scalar.select]
  · simp [e, Scalar.select]

theorem gm_at (a b : Fin 256) : k0_pay4 (F := Ideal) k0_pay2 k0_pay3 1#32 (ix2 a b) = if a.val / 64 = b.val / 64 then ((1 / 64 : ℝ) : EReal) else 0 := by
  unfold k0_pay4 k0_pay2 k0_pay3
  pointwise
  rw [div_64, div_64, select_cmp_eq _ _ (by omega) (by omega), lit_inv64]

/-- The lanes of a group, with the weight 1/64, sum to the mean over the group. -/
theorem group_sum (f : Fin 256 → ℝ) (c : Fin 256) :
    (∑ x, ((f x : EReal) * (f x : EReal)) * (if x.val / 64 = c.val / 64 then ((1 / 64 : ℝ) : EReal) else 0)
      + ∑ x, ((f x : EReal) * (f x : EReal) - (f x : EReal) * (f x : EReal)) * (if x.val / 64 = c.val / 64 then ((1 / 64 : ℝ) : EReal) else 0))
      = Ideal.div (∑ j : Fin 64, (f ⟨64 * (c.val / 64) + j.val, by omega⟩ : EReal) * (f ⟨64 * (c.val / 64) + j.val, by omega⟩ : EReal)) (Ideal.ofBits .f32 1115684864#32) := by
  have e0 : ∀ x, ((f x : EReal) * (f x : EReal) - (f x : EReal) * (f x : EReal)) = 0 := fun x => by
    rw [← EReal.coe_mul, ← EReal.coe_sub, sub_self, EReal.coe_zero]
  have e1 : ∀ x : Fin 256, ((f x : EReal) * (f x : EReal)) * (if x.val / 64 = c.val / 64 then ((1 / 64 : ℝ) : EReal) else 0)
      = ((f x * f x * (if x.val / 64 = c.val / 64 then 1 / 64 else 0) : ℝ) : EReal) := fun x => by
    by_cases h : x.val / 64 = c.val / 64
    · rw [if_pos h, if_pos h]; push_cast; rfl
    · rw [if_neg h, if_neg h]; simp
  simp only [e0, e1, zero_mul, Finset.sum_const_zero, add_zero]
  simp only [← EReal.coe_mul]
  rw [← Cert.Moba.coe_sum, ← Cert.Moba.coe_sum, lit_64, Ideal.div_coe (by norm_num)]
  congr 1
  rw [← (finProdFinEquiv : Fin 4 × Fin 64 ≃ Fin 256).sum_comp, Fintype.sum_prod_type,
    Finset.sum_eq_single (⟨c.val / 64, by omega⟩ : Fin 4), Finset.sum_mul]
  · refine Finset.sum_congr rfl fun j _ => ?_
    have ej : (finProdFinEquiv ((⟨c.val / 64, by omega⟩ : Fin 4), j) : Fin 256) = ⟨64 * (c.val / 64) + j.val, by omega⟩ :=
      Fin.ext (by simp only [finProdFinEquiv_apply_val]; omega)
    rw [ej, if_pos (by show (64 * (c.val / 64) + j.val) / 64 = _; omega)]
  · intro b _ hb
    refine Finset.sum_eq_zero fun j _ => ?_
    rw [if_neg, mul_zero]
    intro h
    apply hb
    simp only [finProdFinEquiv_apply_val] at h
    exact Fin.ext (by show b.val = c.val / 64; omega)
  · intro h; exact absurd (Finset.mem_univ _) h

/-- One lane of a head, over the root of the head's mean square, times the gain. -/
def headed (z : EReal) (S : Fin 64 → EReal) (g : EReal) : EReal :=
  z * Ideal.rsqrt (Ideal.div (∑ j, S j * S j) (Ideal.ofBits .f32 1115684864#32) + eps) * g

theorem pay11_at (T : Vec Ideal S512x3712 .f32) (qg : Vec Ideal S1x512 .f32) (r : Fin 512) (p : Fin 3712 → ℝ) (hT : ∀ j, T (ix2 r j) = p j) (c : Fin 512) :
    k0_pay11 (k0_pay4 (F := Ideal) k0_pay2 k0_pay3 1#32) (k0_pay5 T) (k0_pay6 qg) (k0_pay8 T k0_pay2 k0_pay3 1#32) (k0_pay9 T) (k0_pay10 T) (ix2 r c)
      = headed (T (ix2 r ⟨c.val, by omega⟩)) (fun j => T (ix2 r ⟨64 * (c.val / 64) + j.val, by omega⟩)) (qg (ix2 0 c)) := by
  have hg := gm_at
  unfold k0_pay11 k0_pay10 k0_pay9 k0_pay8 k0_pay7 k0_pay6 k0_pay5
  generalize k0_pay4 (F := Ideal) k0_pay2 k0_pay3 1#32 = gm at hg ⊢
  unfold headed
  pointwise
  simp only [hg, hT]
  congr 3
  by_cases hc : c.val < 256
  · rw [dif_pos hc]
    refine congrArg (· + _) ((group_sum (fun x => p ⟨x.val, by omega⟩) ⟨c.val, hc⟩).trans rfl)
  · rw [dif_neg hc]
    refine congrArg (· + _) ((group_sum (fun x => p ⟨256 + x.val, by omega⟩) ⟨c.val - 256, by omega⟩).trans ?_)
    refine congrArg (Ideal.div · _) (Finset.sum_congr rfl fun j _ => ?_)
    have e : (⟨256 + (64 * ((c.val - 256) / 64) + j.val), by omega⟩ : Fin 3712) = ⟨64 * (c.val / 64) + j.val, by omega⟩ := Fin.ext (by dsimp only; omega)
    exact congrArg (fun w => (p w : EReal) * (p w : EReal)) e

theorem pay12_at (T : Vec Ideal S512x3712 .f32) (kg : Vec Ideal S1x512 .f32) (r : Fin 512) (p : Fin 3712 → ℝ) (hT : ∀ j, T (ix2 r j) = p j) (c : Fin 512) :
    k0_pay12 T (k0_pay4 (F := Ideal) k0_pay2 k0_pay3 1#32) kg (ix2 r c)
      = headed (T (ix2 r ⟨512 + c.val, by omega⟩)) (fun j => T (ix2 r ⟨512 + (64 * (c.val / 64) + j.val), by omega⟩)) (kg (ix2 0 c)) := by
  have hg := gm_at
  unfold k0_pay12
  generalize k0_pay4 (F := Ideal) k0_pay2 k0_pay3 1#32 = gm at hg ⊢
  unfold headed
  pointwise
  simp only [hg, hT]
  congr 3
  by_cases hc : c.val < 256
  · rw [dif_pos hc]
    refine congrArg (· + _) ((group_sum (fun x => p ⟨512 + x.val, by omega⟩) ⟨c.val, hc⟩).trans rfl)
  · rw [dif_neg hc]
    refine congrArg (· + _) ((group_sum (fun x => p ⟨512 + (256 + x.val), by omega⟩) ⟨c.val - 256, by omega⟩).trans ?_)
    refine congrArg (Ideal.div · _) (Finset.sum_congr rfl fun j _ => ?_)
    have e : (⟨512 + (256 + (64 * ((c.val - 256) / 64) + j.val)), by omega⟩ : Fin 3712) = ⟨512 + (64 * (c.val / 64) + j.val), by omega⟩ := Fin.ext (by dsimp only; omega)
    exact congrArg (fun w => (p w : EReal) * (p w : EReal)) e

/-- The softplus of a number. -/
def softplus (a : EReal) : EReal := max a 0 + Ideal.log (1 + Ideal.exp (-(FloatOps.absf (F := Ideal) (φ := .f32) a)))
/-- The sigmoid of a number. -/
def sigm (a : EReal) : EReal := Ideal.div 1 (1 + Ideal.exp (-a))

theorem lane_lt (c : Fin 128) : IntOp.cmpi CmpIPredicate.slt (BitVec.ofNat 32 ↑c) 8#32 = if c.val < 8 then 1#1 else 0#1 := by
  revert c; decide +kernel

theorem pay16_at (T : Vec Ideal S512x3712 .f32) (dt na : Vec Ideal S1x128 .f32) (r : Fin 512) (c : Fin 128) :
    k0_pay16 T dt na (ix2 r c) = if c.val < 8 then na (ix2 0 c) * softplus (T (ix2 r ⟨3584 + c.val, by omega⟩) + dt (ix2 0 c)) else sigm (T (ix2 r ⟨3584 + c.val, by omega⟩)) := by
  unfold k0_pay16 softplus sigm
  pointwise
  rw [lane_lt, zero_sub, zero_sub]
  by_cases h : c.val < 8
  · simp [h, Scalar.select]
  · simp [h, Scalar.select]

end Cert.Inp
-- ==== Proof.Inproj.RefValue.lean ====
module

public import proofs.«01_k».proof.Proof.Inproj.Block
public import proofs.«01_k».proof.Proof.Gen.InprojReferenceIdeal.Read

@[expose] public section

set_option maxRecDepth 16384

noncomputable section

namespace Cert.Inp

open Cert.InprojReferenceIdeal Cert.InprojReferenceIdeal.Gen Cert.InprojReferenceIdeal.Read
open Idealize.ShloMosaic Idealize.ShloMosaic.TcCoe Idealize.ShloMosaic.Tactic
open scoped Classical

/-! # What the reference's results are at one place -/

variable (x0 : Vec Ideal S16x2048x1024 .f32) (x1 : Vec Ideal S1x1024 .f32) (x2 : Vec Ideal S1x1024x3600 .f32) (x3 x4 : Vec Ideal S1x64 .f32) (x5 x6 : Vec Ideal S1x8 .f32)

theorem v16_at (R : Fin 32768) (j : Fin 3600) :
    val_main_v16 (F := Ideal) x0 x1 x2 (ix2 R j) = proj (fun k => val_main_v0 (F := Ideal) x0 (ix2 R k)) (fun k => x1 (ix2 0 k)) (fun k => val_main_v15 (F := Ideal) x2 (ix2 k j)) := by
  unfold val_main_v16 val_main_v14 val_main_v13 val_main_v12 val_main_v11 val_main_v10 val_main_v9 val_main_v8 val_main_v7 val_main_v6 val_main_v5 val_main_v4 val_main_v3 val_main_v2 val_main_v1 val_main_cst_1 val_main_cst_0 val_main_cst
  generalize val_main_v0 (F := Ideal) x0 = X
  generalize val_main_v15 (F := Ideal) x2 = W
  unfold proj normed
  pointwise

theorem v33_at (R : Fin 32768) (c : Fin 512) :
    val_main_v33 (F := Ideal) x0 x1 x2 x3 (ix2 R c) = headed (val_main_v16 (F := Ideal) x0 x1 x2 (ix2 R ⟨c.val, by omega⟩))
      (fun j => val_main_v16 (F := Ideal) x0 x1 x2 (ix2 R ⟨64 * (c.val / 64) + j.val, by omega⟩)) (x3 (ix2 0 ⟨c.val % 64, by omega⟩)) := by
  unfold val_main_v33 val_main_v32 val_main_v31 val_main_v30 val_main_v29 val_main_v28 val_main_v27 val_main_v26 val_main_v25 val_main_v24 val_main_v23 val_main_v22 val_main_v21 val_main_v20 val_main_v19 val_main_v18 val_main_v17 val_main_cst_2 val_main_cst_3 val_main_cst_4
  generalize val_main_v16 (F := Ideal) x0 x1 x2 = T
  unfold headed
  pointwise
  simp only [Nat.mul_comm 64]

theorem v50_at (R : Fin 32768) (c : Fin 512) :
    val_main_v50 (F := Ideal) x0 x1 x2 x4 (ix2 R c) = headed (val_main_v16 (F := Ideal) x0 x1 x2 (ix2 R ⟨512 + c.val, by omega⟩))
      (fun j => val_main_v16 (F := Ideal) x0 x1 x2 (ix2 R ⟨512 + (64 * (c.val / 64) + j.val), by omega⟩)) (x4 (ix2 0 ⟨c.val % 64, by omega⟩)) := by
  unfold val_main_v50 val_main_v49 val_main_v48 val_main_v47 val_main_v46 val_main_v45 val_main_v44 val_main_v43 val_main_v42 val_main_v41 val_main_v40 val_main_v39 val_main_v38 val_main_v37 val_main_v36 val_main_v35 val_main_v34 val_main_cst_5 val_main_cst_6 val_main_cst_7
  generalize val_main_v16 (F := Ideal) x0 x1 x2 = T
  unfold headed
  pointwise
  simp only [Nat.mul_comm 64]

theorem v80_at (R : Fin 32768) (c : Fin 512) :
    val_main_v80 (F := Ideal) x0 x1 x2 (ix2 R c) = val_main_v16 (F := Ideal) x0 x1 x2 (ix2 R ⟨1024 + c.val, by omega⟩) := by
  unfold val_main_v80
  generalize val_main_v16 (F := Ideal) x0 x1 x2 = T
  pointwise

theorem v81_at (R : Fin 32768) (c : Fin 1536) :
    val_main_v81 (F := Ideal) x0 x1 x2 (ix2 R c) = val_main_v16 (F := Ideal) x0 x1 x2 (ix2 R ⟨1536 + c.val, by omega⟩) := by
  unfold val_main_v81
  generalize val_main_v16 (F := Ideal) x0 x1 x2 = T
  pointwise

theorem v82_at (R : Fin 32768) (c : Fin 512) :
    val_main_v82 (F := Ideal) x0 x1 x2 (ix2 R c) = val_main_v16 (F := Ideal) x0 x1 x2 (ix2 R ⟨3072 + c.val, by omega⟩) := by
  unfold val_main_v82
  generalize val_main_v16 (F := Ideal) x0 x1 x2 = T
  pointwise

theorem v79_at (R : Fin 32768) (c : Fin 128) :
    val_main_v79 (F := Ideal) x0 x1 x2 x5 x6 (ix2 R c) =
      if h : c.val < 8 then (-(Ideal.exp (x5 (ix2 0 ⟨c.val, h⟩)))) * softplus (val_main_v16 (F := Ideal) x0 x1 x2 (ix2 R ⟨3584 + c.val, by omega⟩) + x6 (ix2 0 ⟨c.val, h⟩))
      else if h : c.val < 16 then sigm (val_main_v16 (F := Ideal) x0 x1 x2 (ix2 R ⟨3584 + c.val, by omega⟩))
      else Ideal.ofBits .f32 0x3F000000#32 := by
  unfold val_main_v79 val_main_v78 val_main_v77 val_main_v76 val_main_v75 val_main_v74 val_main_v73 val_main_v72 val_main_v71 val_main_v70 val_main_v69 val_main_v68 val_main_v67 val_main_v66 val_main_v65 val_main_v64 val_main_v63 val_main_v62 val_main_v61 val_main_v60 val_main_v59 val_main_v58 val_main_v57 val_main_v56 val_main_v55 val_main_v54 val_main_v53 val_main_v52 val_main_v51 val_main_cst_8 val_main_cst_9 val_main_cst_10 val_main_cst_11 val_main_cst_12
  generalize val_main_v16 (F := Ideal) x0 x1 x2 = T
  unfold softplus sigm
  pointwise
  by_cases h8 : c.val < 8
  · rw [dif_pos h8, dif_pos h8]
  · rw [dif_neg h8, dif_neg h8]
    by_cases h16 : c.val < 16
    · have e : (⟨3592 + (c.val - 8), by omega⟩ : Fin 3600) = ⟨3584 + c.val, by omega⟩ := Fin.ext (by dsimp only; omega)
      rw [dif_pos (by omega : c.val - 8 < 8), dif_pos h16]
      exact congrArg (fun w => Ideal.div 1 (1 + Ideal.exp (-(T (ix2 R w))))) e
    · rw [dif_neg (by omega : ¬ c.val - 8 < 8), dif_neg h16]

end Cert.Inp
-- ==== Proof.Inproj.Reads.lean ====
module

public import proofs.«01_k».proof.Proof.Inproj.RefValue
public import Idealize.ShloMosaic.Lib.StableHlo.ReadAt

@[expose] public section

set_option maxRecDepth 16384

noncomputable section

namespace Cert.Inp

open Cert.InprojIdeal Cert.InprojIdeal.Gen
open Idealize.ShloMosaic Idealize.ShloMosaic.TcCoe Idealize.ShloMosaic.Tactic
open Idealize.SL Idealize.SL.Sem
open scoped Classical

variable (m : (ℓ : Loc nD τ sig) → Buf (Elt Ideal) ℓ) (c : Dev nD)

/-! # What the call is given -/

theorem rows_in (R : Fin 32768) (k : Fin 1024) : (V m c main_v21 : Vec Ideal S32768x1024 .f32) (ix2 R k)
    = Cert.InprojReferenceIdeal.Read.val_main_v0 (F := Ideal) (m ((c : Thread nD τ).loc main_arg0)) (ix2 R k) := by
  unfold Cert.InprojReferenceIdeal.Read.val_main_v0
  simp only [V, hostOps0, hostOps0_1, hostOps0_2, hostOps0_3, hostOps0_4, hostOps0_5, hostOps0_6]
  after_reads_at

theorem gain_in (k : Fin 1024) : (V m c main_v23 : Vec Ideal S1x1024 .f32) (ix2 0 k) = (m ((c : Thread nD τ).loc main_arg1) : Vec Ideal S1x1024 .f32) (ix2 0 k) := by
  simp only [V, hostOps0, hostOps0_1, hostOps0_2, hostOps0_3, hostOps0_4, hostOps0_5, hostOps0_6]
  after_reads_at

theorem weights_in (k : Fin 1024) (j : Fin 3712) : (V m c main_v2 : Vec Ideal S1024x3712 .bf16) (ix2 k j)
    = if h : j.val < 3600 then Cert.InprojReferenceIdeal.Read.val_main_v15 (F := Ideal) (m ((c : Thread nD τ).loc main_arg2)) (ix2 k ⟨j.val, h⟩) else 0 := by
  unfold Cert.InprojReferenceIdeal.Read.val_main_v15
  simp only [V, hostOps0, hostOps0_1, hostOps0_2, hostOps0_3, hostOps0_4, hostOps0_5, hostOps0_6]
  after_reads_at
  have e0 : (FloatOps.sitofp (F := Ideal) FTy.f32 (0#32 : BitVec 32)) = (0 : EReal) := by
    show (((0#32 : BitVec 32).toInt : ℝ) : EReal) = 0
    simp
  by_cases h : j.val < 3600
  · rw [dif_pos h, dif_pos h]
  · rw [dif_neg h, dif_neg h]; exact e0

theorem qgain_in (l : Fin 512) : (V m c main_v7 : Vec Ideal S1x512 .f32) (ix2 0 l) = (m ((c : Thread nD τ).loc main_arg3) : Vec Ideal S1x64 .f32) (ix2 0 ⟨l.val % 64, by omega⟩) := by
  simp only [V, hostOps0, hostOps0_1, hostOps0_2, hostOps0_3, hostOps0_4, hostOps0_5, hostOps0_6]
  after_reads_at

theorem kgain_in (l : Fin 512) : (V m c main_v12 : Vec Ideal S1x512 .f32) (ix2 0 l) = (m ((c : Thread nD τ).loc main_arg4) : Vec Ideal S1x64 .f32) (ix2 0 ⟨l.val % 64, by omega⟩) := by
  simp only [V, hostOps0, hostOps0_1, hostOps0_2, hostOps0_3, hostOps0_4, hostOps0_5, hostOps0_6]
  after_reads_at

theorem decay_in (l : Fin 128) (h : l.val < 8) : (V m c main_v17 : Vec Ideal S1x128 .f32) (ix2 0 l) = -(Ideal.exp ((m ((c : Thread nD τ).loc main_arg5) : Vec Ideal S1x8 .f32) (ix2 0 ⟨l.val, h⟩))) := by
  simp only [V, hostOps0, hostOps0_1, hostOps0_2, hostOps0_3, hostOps0_4, hostOps0_5, hostOps0_6]
  after_reads_at
  rw [dif_pos h]

theorem shift_in (l : Fin 128) (h : l.val < 8) : (V m c main_v20 : Vec Ideal S1x128 .f32) (ix2 0 l) = (m ((c : Thread nD τ).loc main_arg6) : Vec Ideal S1x8 .f32) (ix2 0 ⟨l.val, h⟩) := by
  simp only [V, hostOps0, hostOps0_1, hostOps0_2, hostOps0_3, hostOps0_4, hostOps0_5, hostOps0_6]
  after_reads_at
  rw [dif_pos h]

end Cert.Inp
-- ==== Proof.Inproj.Real.lean ====
module

public import proofs.«01_k».proof.Proof.Inproj.Block

@[expose] public section

noncomputable section

namespace Cert.Inp

open Idealize.ShloMosaic

/-! # A row's projection is a number when the gains and the weights are -/

theorem scale_real (X : Fin 1024 → EReal) (k : Fin 1024) :
    ∃ r : ℝ, X k * Ideal.rsqrt (Ideal.div (∑ l, X l * X l) (Ideal.ofBits .f32 1149239296#32) + eps) = r := by
  obtain ⟨e, he, hE⟩ := lit_eps
  have hE' : eps = (e : EReal) := hE
  rw [lit_1024, Ideal.div_coe (by norm_num), hE']
  by_cases h : ∀ l, X l ≠ ⊤ ∧ X l ≠ ⊥
  · obtain ⟨x, hx⟩ : ∃ x : Fin 1024 → ℝ, ∀ l, X l = x l := ⟨fun l => (X l).toReal, fun l => (EReal.coe_toReal (h l).1 (h l).2).symm⟩
    simp only [hx, ← EReal.coe_mul]
    rw [← Cert.Moba.coe_sum, ← EReal.coe_mul, ← EReal.coe_add, Ideal.rsqrt_coe]
    have hs : 0 ≤ ∑ l, x l * x l := Finset.sum_nonneg fun l _ => mul_self_nonneg _
    have hp : 0 < (∑ l, x l * x l) * (1 / 1024) + e := by positivity
    rw [if_neg (not_lt.mpr hp.le), if_neg hp.ne', ← EReal.coe_mul]
    exact ⟨_, rfl⟩
  · have ⟨l, hl⟩ : ∃ l, X l = ⊤ ∨ X l = ⊥ := by
      by_contra hn
      exact h fun l => ⟨fun e => hn ⟨l, .inl e⟩, fun e => hn ⟨l, .inr e⟩⟩
    have hll : X l * X l = ⊤ := by rcases hl with e | e <;> rw [e] <;> rfl
    have hnn : ∀ i ∈ (Finset.univ : Finset (Fin 1024)), 0 ≤ X i * X i := fun i _ => by
      induction X i using EReal.rec with
      | bot => exact le_of_lt (by exact EReal.zero_lt_top)
      | top => exact le_of_lt (by exact EReal.zero_lt_top)
      | coe r => rw [← EReal.coe_mul]; exact EReal.coe_nonneg.mpr (mul_self_nonneg r)
    have hs : ∑ i, X i * X i = ⊤ := top_unique (hll ▸ Finset.single_le_sum hnn (Finset.mem_univ l))
    rw [hs, EReal.top_mul_coe_of_pos (by norm_num), EReal.top_add_coe, show Ideal.rsqrt ⊤ = 0 from rfl, mul_zero]
    exact ⟨0, rfl⟩

theorem proj_real (X g W : Fin 1024 → EReal) (hg : ∀ k, ∃ r : ℝ, g k = r) (hW : ∀ k, ∃ r : ℝ, W k = r) : ∃ r : ℝ, proj X g W = r := by
  choose a ha using scale_real X
  choose b hb using hg
  choose d hd using hW
  unfold proj normed
  simp only [ha, hb, hd, ← EReal.coe_mul]
  rw [← Cert.Moba.coe_sum]
  exact ⟨_, rfl⟩

theorem proj_zero (X g W : Fin 1024 → EReal) (hW : ∀ k, W k = 0) : proj X g W = 0 := by
  unfold proj
  simp only [hW, mul_zero, Finset.sum_const_zero]

end Cert.Inp
-- ==== Proof.Inproj.Blocks.lean ====
module

public import proofs.«01_k».proof.Proof.Inproj.Reads
public import proofs.«01_k».proof.Proof.Inproj.Real
public import Idealize.ShloMosaic.Lib.Pipeline.ValueKit

@[expose] public section

set_option maxRecDepth 16384

noncomputable section

namespace Cert.Inp

open Cert.InprojIdeal Cert.InprojIdeal.Gen
open Idealize.ShloMosaic Idealize.ShloMosaic.TcCoe Idealize.ShloMosaic.Tactic
open Idealize.SL Idealize.SL.Sem
open scoped Classical

variable (m : (ℓ : Loc nD τ sig) → Buf (Elt Ideal) ℓ) (c : Dev nD)

/-! # The blocks of a point -/

theorem t_lt (t : Fin cfg0.N) : t.val < 64 := lt_of_lt_of_eq t.isLt (show cfg0.N = 64 from N_0)

/-- A block's row in the array. -/
abbrev row (t : Fin cfg0.N) (r : Fin 512) : Fin 32768 := ⟨t.val * 512 + r.val, by have := t_lt t; omega⟩

theorem row_blocks : ∀ t : Fin cfg0.N, (win0_0.index t (0 : Fin 2) = t.val ∧ win0_0.index t (1 : Fin 2) = 0)
    ∧ (win0_7.index t (0 : Fin 2) = t.val ∧ win0_7.index t (1 : Fin 2) = 0) ∧ (win0_8.index t (0 : Fin 2) = t.val ∧ win0_8.index t (1 : Fin 2) = 0)
    ∧ (win0_9.index t (0 : Fin 2) = t.val ∧ win0_9.index t (1 : Fin 2) = 0) ∧ (win0_10.index t (0 : Fin 2) = t.val ∧ win0_10.index t (1 : Fin 2) = 0)
    ∧ (win0_11.index t (0 : Fin 2) = t.val ∧ win0_11.index t (1 : Fin 2) = 0) ∧ (win0_12.index t (0 : Fin 2) = t.val ∧ win0_12.index t (1 : Fin 2) = 0) :=
  (by decide +kernel : ∀ t : Fin grid0.N, _)

theorem whole_blocks : ∀ t : Fin cfg0.N, (win0_1.index t (0 : Fin 2) = 0 ∧ win0_1.index t (1 : Fin 2) = 0)
    ∧ (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

theorem emb0 (t : Fin cfg0.N) (z : S512x1024.Idx) : ((cfg0.win 0).blk t).view.emb z = ix2 (row t (z 0)) (z 1) := by
  have e := (row_blocks t).1
  funext a; apply Fin.ext
  match a with
  | ⟨0, _⟩ => show win0_0.index t (0 : Fin 2) * 512 + 1 * (z 0).val = _; rw [e.1, Nat.one_mul]; rfl
  | ⟨1, _⟩ => show win0_0.index t (1 : Fin 2) * 1024 + 1 * (z 1).val = _; rw [e.2, Nat.one_mul, Nat.zero_mul, Nat.zero_add]; rfl

theorem emb7 (t : Fin cfg0.N) (z : S512x512.Idx) : ((cfg0.win 7).blk t).view.emb z = ix2 (row t (z 0)) (z 1) := by
  have e := (row_blocks t).2.1
  funext a; apply Fin.ext
  match a with
  | ⟨0, _⟩ => show win0_7.index t (0 : Fin 2) * 512 + 1 * (z 0).val = _; rw [e.1, Nat.one_mul]; rfl
  | ⟨1, _⟩ => show win0_7.index t (1 : Fin 2) * 512 + 1 * (z 1).val = _; rw [e.2, Nat.one_mul, Nat.zero_mul, Nat.zero_add]; rfl

theorem emb8 (t : Fin cfg0.N) (z : S512x512.Idx) : ((cfg0.win 8).blk t).view.emb z = ix2 (row t (z 0)) (z 1) := by
  have e := (row_blocks t).2.2.1
  funext a; apply Fin.ext
  match a with
  | ⟨0, _⟩ => show win0_8.index t (0 : Fin 2) * 512 + 1 * (z 0).val = _; rw [e.1, Nat.one_mul]; rfl
  | ⟨1, _⟩ => show win0_8.index t (1 : Fin 2) * 512 + 1 * (z 1).val = _; rw [e.2, Nat.one_mul, Nat.zero_mul, Nat.zero_add]; rfl

theorem emb9 (t : Fin cfg0.N) (z : S512x512.Idx) : ((cfg0.win 9).blk t).view.emb z = ix2 (row t (z 0)) (z 1) := by
  have e := (row_blocks t).2.2.2.1
  funext a; apply Fin.ext
  match a with
  | ⟨0, _⟩ => show win0_9.index t (0 : Fin 2) * 512 + 1 * (z 0).val = _; rw [e.1, Nat.one_mul]; rfl
  | ⟨1, _⟩ => show win0_9.index t (1 : Fin 2) * 512 + 1 * (z 1).val = _; rw [e.2, Nat.one_mul, Nat.zero_mul, Nat.zero_add]; rfl

theorem emb10 (t : Fin cfg0.N) (z : S512x1536.Idx) : ((cfg0.win 10).blk t).view.emb z = ix2 (row t (z 0)) (z 1) := by
  have e := (row_blocks t).2.2.2.2.1
  funext a; apply Fin.ext
  match a with
  | ⟨0, _⟩ => show win0_10.index t (0 : Fin 2) * 512 + 1 * (z 0).val = _; rw [e.1, Nat.one_mul]; rfl
  | ⟨1, _⟩ => show win0_10.index t (1 : Fin 2) * 1536 + 1 * (z 1).val = _; rw [e.2, Nat.one_mul, Nat.zero_mul, Nat.zero_add]; rfl

theorem emb11 (t : Fin cfg0.N) (z : S512x512.Idx) : ((cfg0.win 11).blk t).view.emb z = ix2 (row t (z 0)) (z 1) := by
  have e := (row_blocks t).2.2.2.2.2.1
  funext a; apply Fin.ext
  match a with
  | ⟨0, _⟩ => show win0_11.index t (0 : Fin 2) * 512 + 1 * (z 0).val = _; rw [e.1, Nat.one_mul]; rfl
  | ⟨1, _⟩ => show win0_11.index t (1 : Fin 2) * 512 + 1 * (z 1).val = _; rw [e.2, Nat.one_mul, Nat.zero_mul, Nat.zero_add]; rfl

theorem emb12 (t : Fin cfg0.N) (z : S512x128.Idx) : ((cfg0.win 12).blk t).view.emb z = ix2 (row t (z 0)) (z 1) := by
  have e := (row_blocks t).2.2.2.2.2.2
  funext a; apply Fin.ext
  match a with
  | ⟨0, _⟩ => show win0_12.index t (0 : Fin 2) * 512 + 1 * (z 0).val = _; rw [e.1, Nat.one_mul]; rfl
  | ⟨1, _⟩ => show win0_12.index t (1 : Fin 2) * 128 + 1 * (z 1).val = _; rw [e.2, Nat.one_mul, Nat.zero_mul, Nat.zero_add]; rfl

theorem emb1 (t : Fin cfg0.N) (z : S1x1024.Idx) : ((cfg0.win 1).blk t).view.emb z = z := by
  have e := (whole_blocks t).1
  funext a; apply Fin.ext
  match a with
  | ⟨0, _⟩ => show win0_1.index t (0 : Fin 2) * 1 + 1 * (z 0).val = _; rw [e.1, Nat.one_mul, Nat.zero_mul, Nat.zero_add]; rfl
  | ⟨1, _⟩ => show win0_1.index t (1 : Fin 2) * 1024 + 1 * (z 1).val = _; rw [e.2, Nat.one_mul, Nat.zero_mul, Nat.zero_add]; rfl

theorem emb2 (t : Fin cfg0.N) (z : S1024x3712.Idx) : ((cfg0.win 2).blk t).view.emb z = z := by
  have e := (whole_blocks t).2.1
  funext a; apply Fin.ext
  match a with
  | ⟨0, _⟩ => show win0_2.index t (0 : Fin 2) * 1024 + 1 * (z 0).val = _; rw [e.1, Nat.one_mul, Nat.zero_mul, Nat.zero_add]; rfl
  | ⟨1, _⟩ => show win0_2.index t (1 : Fin 2) * 3712 + 1 * (z 1).val = _; rw [e.2, Nat.one_mul, Nat.zero_mul, Nat.zero_add]; rfl

theorem emb3 (t : Fin cfg0.N) (z : S1x512.Idx) : ((cfg0.win 3).blk t).view.emb z = z := by
  have e := (whole_blocks t).2.2.1
  funext a; apply Fin.ext
  match a with
  | ⟨0, _⟩ => show win0_3.index t (0 : Fin 2) * 1 + 1 * (z 0).val = _; rw [e.1, Nat.one_mul, Nat.zero_mul, Nat.zero_add]; rfl
  | ⟨1, _⟩ => show win0_3.index t (1 : Fin 2) * 512 + 1 * (z 1).val = _; rw [e.2, Nat.one_mul, Nat.zero_mul, Nat.zero_add]; rfl

theorem emb4 (t : Fin cfg0.N) (z : S1x512.Idx) : ((cfg0.win 4).blk t).view.emb z = z := by
  have e := (whole_blocks t).2.2.2.1
  funext a; apply Fin.ext
  match a with
  | ⟨0, _⟩ => show win0_4.index t (0 : Fin 2) * 1 + 1 * (z 0).val = _; rw [e.1, Nat.one_mul, Nat.zero_mul, Nat.zero_add]; rfl
  | ⟨1, _⟩ => show win0_4.index t (1 : Fin 2) * 512 + 1 * (z 1).val = _; rw [e.2, Nat.one_mul, Nat.zero_mul, Nat.zero_add]; rfl

theorem emb5 (t : Fin cfg0.N) (z : S1x128.Idx) : ((cfg0.win 5).blk t).view.emb z = z := by
  have e := (whole_blocks t).2.2.2.2.1
  funext a; apply Fin.ext
  match a with
  | ⟨0, _⟩ => show win0_5.index t (0 : Fin 2) * 1 + 1 * (z 0).val = _; rw [e.1, Nat.one_mul, Nat.zero_mul, Nat.zero_add]; rfl
  | ⟨1, _⟩ => show win0_5.index t (1 : Fin 2) * 128 + 1 * (z 1).val = _; rw [e.2, Nat.one_mul, Nat.zero_mul, Nat.zero_add]; rfl

theorem emb6 (t : Fin cfg0.N) (z : S1x128.Idx) : ((cfg0.win 6).blk t).view.emb z = z := by
  have e := (whole_blocks t).2.2.2.2.2
  funext a; apply Fin.ext
  match a with
  | ⟨0, _⟩ => show win0_6.index t (0 : Fin 2) * 1 + 1 * (z 0).val = _; rw [e.1, Nat.one_mul, Nat.zero_mul, Nat.zero_add]; rfl
  | ⟨1, _⟩ => show win0_6.index t (1 : Fin 2) * 128 + 1 * (z 1).val = _; rw [e.2, Nat.one_mul, Nat.zero_mul, Nat.zero_add]; rfl

theorem iblk0_at (t : Fin cfg0.N) (r : Fin 512) (k : Fin 1024) : (iblk m c 0 t : Vec Ideal S512x1024 .f32) (ix2 r k) = (V m c main_v21 : Vec Ideal S32768x1024 .f32) (ix2 (row t r) k) := by
  show V m c main_v21 (((cfg0.win 0).blk t).view.emb (ix2 r k)) = _
  rw [emb0]; rfl

theorem iblk1_eq (t : Fin cfg0.N) : (iblk m c 1 t : Vec Ideal S1x1024 .f32) = (V m c main_v23 : Vec Ideal S1x1024 .f32) := by
  funext z
  show V m c main_v23 (((cfg0.win 1).blk t).view.emb z) = _
  rw [emb1]

theorem iblk2_eq (t : Fin cfg0.N) : (iblk m c 2 t : Vec Ideal S1024x3712 .bf16) = (V m c main_v2 : Vec Ideal S1024x3712 .bf16) := by
  funext z
  show V m c main_v2 (((cfg0.win 2).blk t).view.emb z) = _
  rw [emb2]

theorem iblk3_eq (t : Fin cfg0.N) : (iblk m c 3 t : Vec Ideal S1x512 .f32) = (V m c main_v7 : Vec Ideal S1x512 .f32) := by
  funext z
  show V m c main_v7 (((cfg0.win 3).blk t).view.emb z) = _
  rw [emb3]

theorem iblk4_eq (t : Fin cfg0.N) : (iblk m c 4 t : Vec Ideal S1x512 .f32) = (V m c main_v12 : Vec Ideal S1x512 .f32) := by
  funext z
  show V m c main_v12 (((cfg0.win 4).blk t).view.emb z) = _
  rw [emb4]

theorem iblk5_eq (t : Fin cfg0.N) : (iblk m c 5 t : Vec Ideal S1x128 .f32) = (V m c main_v17 : Vec Ideal S1x128 .f32) := by
  funext z
  show V m c main_v17 (((cfg0.win 5).blk t).view.emb z) = _
  rw [emb5]

theorem iblk6_eq (t : Fin cfg0.N) : (iblk m c 6 t : Vec Ideal S1x128 .f32) = (V m c main_v20 : Vec Ideal S1x128 .f32) := by
  funext z
  show V m c main_v20 (((cfg0.win 6).blk t).view.emb z) = _
  rw [emb6]

/-- The projection of a point's rows. -/
def pblk (t : Fin cfg0.N) : Vec Ideal S512x3712 .f32 := k0_pay1 (iblk m c 0 t) (iblk m c 1 t) (iblk m c 2 t)

theorem pblk_low (t : Fin cfg0.N) (r : Fin 512) (j : Fin 3712) (h : j.val < 3600) :
    pblk m c t (ix2 r j) = Cert.InprojReferenceIdeal.Read.val_main_v16 (F := Ideal) (m ((c : Thread nD τ).loc main_arg0)) (m ((c : Thread nD τ).loc main_arg1)) (m ((c : Thread nD τ).loc main_arg2)) (ix2 (row t r) ⟨j.val, h⟩) := by
  refine (pay1_at _ _ _ r j).trans (Eq.trans ?_ (v16_at (m ((c : Thread nD τ).loc main_arg0)) (m ((c : Thread nD τ).loc main_arg1)) (m ((c : Thread nD τ).loc main_arg2)) (row t r) ⟨j.val, h⟩).symm)
  refine congr (congr (congrArg proj (funext fun k => (iblk0_at m c t r k).trans (rows_in m c _ k))) (funext fun k => ?_)) (funext fun k => ?_)
  · exact (congrFun (iblk1_eq m c t) _).trans (gain_in m c k)
  · exact (congrFun (iblk2_eq m c t) _).trans ((weights_in m c k j).trans (dif_pos h))

theorem pblk_high (t : Fin cfg0.N) (r : Fin 512) (j : Fin 3712) (h : ¬ j.val < 3600) : pblk m c t (ix2 r j) = 0 := by
  refine (pay1_at _ _ _ r j).trans (proj_zero _ _ _ fun k => ?_)
  exact (congrFun (iblk2_eq m c t) _).trans ((weights_in m c k j).trans (dif_neg h))

/-- A number: neither of the infinities. -/
def IsNum (x : EReal) : Prop := ∃ r : ℝ, x = r

def Numbers : Prop := (∀ i, IsNum ((m ((c : Thread nD τ).loc main_arg1) : Vec Ideal S1x1024 .f32) i)) ∧ ∀ i, IsNum ((m ((c : Thread nD τ).loc main_arg2) : Vec Ideal S1x1024x3600 .f32) i)

theorem pblk_real (hn : Numbers m c) (t : Fin cfg0.N) (r : Fin 512) (j : Fin 3712) : ∃ x : ℝ, pblk m c t (ix2 r j) = x := by
  by_cases h : j.val < 3600
  · rw [pblk_low m c t r j h, v16_at]
    refine proj_real _ _ _ (fun k => hn.1 _) fun k => ?_
    rw [Cert.InprojReferenceIdeal.Read.val_main_v15_apply]
    exact hn.2 _
  · exact ⟨0, pblk_high m c t r j h⟩

end Cert.Inp
-- ==== Proof.Inproj.Value.lean ====
module

public import proofs.«01_k».proof.Defs
public import proofs.«01_k».proof.Proof.Inproj.Blocks
public import proofs.«01_k».proof.Proof.Gen.InprojReferenceIdeal.Run
public import proofs.«01_k».proof.Proof.Gen.Pre_finite_weights
public import Idealize.ShloMosaic.Lib.ReduceAll

@[expose] public section

set_option maxRecDepth 16384

noncomputable section

namespace Cert.Inp

open Cert.InprojIdeal Cert.InprojIdeal.Gen
open Idealize.ShloMosaic Idealize.ShloMosaic.TcCoe Idealize.ShloMosaic.Tactic
open Idealize.SL Idealize.SL.Sem
open scoped Classical

theorem zero_off (a : Fin 2) : (![0, 0] : Fin 2 → ℕ) a = 0 := by match a with | ⟨0, _⟩ => rfl | ⟨1, _⟩ => rfl

theorem ld0 (X : Vec Ideal S512x1024 .f32) : View.ld X r0_0 = X := View.ld_unit_lit _ X zero_off

theorem ld1 (X : Vec Ideal S1x1024 .f32) : View.ld X r0_1 = X := View.ld_unit_lit _ X zero_off

theorem ld2 (X : Vec Ideal S1024x3712 .bf16) : View.ld X r0_2 = X := View.ld_unit_lit _ X zero_off

theorem ld3 (X : Vec Ideal S1x512 .f32) : View.ld X r0_3 = X := View.ld_unit_lit _ X zero_off

theorem ld6 (X : Vec Ideal S1x128 .f32) : View.ld X r0_6 = X := View.ld_unit_lit _ X zero_off

theorem pay13_at (T : Vec Ideal S512x3712 .f32) (r : Fin 512) (l : Fin 512) : k0_pay13 (F := Ideal) T (ix2 r l) = T (ix2 r ⟨1024 + l.val, by omega⟩) := by
  unfold k0_pay13
  pointwise

theorem pay14_at (T : Vec Ideal S512x3712 .f32) (r : Fin 512) (l : Fin 1536) : k0_pay14 (F := Ideal) T (ix2 r l) = T (ix2 r ⟨1536 + l.val, by omega⟩) := by
  unfold k0_pay14
  pointwise

theorem pay15_at (T : Vec Ideal S512x3712 .f32) (r : Fin 512) (l : Fin 512) : k0_pay15 (F := Ideal) T (ix2 r l) = T (ix2 r ⟨3072 + l.val, by omega⟩) := by
  unfold k0_pay15
  pointwise

theorem sigm_zero : sigm 0 = Ideal.ofBits .f32 0x3F000000#32 := by
  unfold sigm
  have e1 : Ideal.exp 0 = ((1 : ℝ) : EReal) := by
    rw [show (0 : EReal) = ((0 : ℝ) : EReal) from rfl, show Ideal.exp ((0 : ℝ) : EReal) = ((Real.exp 0 : ℝ) : EReal) from rfl, Real.exp_zero]
  have e2 : Ideal.ofBits .f32 0x3F000000#32 = ((1 / 2 : ℝ) : EReal) := by
    simp [Ideal.ofBits, Ideal.ieee, -EReal.coe_mul]; norm_num
  rw [neg_zero, e1, e2, show (1 : EReal) = ((1 : ℝ) : EReal) from rfl, ← EReal.coe_add, Ideal.div_coe (by norm_num)]
  norm_num

section Arrays

variable (m : (ℓ : Loc nD τ sig) → Buf (Elt Ideal) ℓ) (c : Dev nD)

/-! # The arrays the call leaves are the reference's results -/

theorem out7_at (hn : Numbers m c) (t : Fin cfg0.N) (r : Fin 512) (l : Fin 512) :
    ((dats m 0 c).after 7 t : Vec Ideal S512x512 .f32) (ix2 r l) = Cert.InprojReferenceIdeal.Read.val_main_v33 (F := Ideal) (m ((c : Thread nD τ).loc main_arg0)) (m ((c : Thread nD τ).loc main_arg1)) (m ((c : Thread nD τ).loc main_arg2)) (m ((c : Thread nD τ).loc main_arg3)) (ix2 (row t r) l) := by
  rw [after0_7]
  unfold_out out0_7
  refine (congrFun (View.canon_cons_unit_lit _ _ _ fun a => by match a with | ⟨0, _⟩ => rfl | ⟨1, _⟩ => rfl) _).trans ?_
  rw [ld0, ld1, ld2, ld3]
  rw [v33_at]
  choose p hp using pblk_real m c hn t r
  refine (pay11_at (pblk m c t) _ r p hp l).trans ?_
  refine congr (congr (congrArg headed (pblk_low m c t r _ (by have := l.isLt; dsimp only; omega))) (funext fun j => pblk_low m c t r _ (by have := l.isLt; have := j.isLt; dsimp only; omega))) ?_
  exact (congrFun (iblk3_eq m c t) _).trans (qgain_in m c l)

theorem array7 (hn : Numbers m c) : (dats m 0 c).arrAt 7 cfg0.N = Cert.InprojReferenceIdeal.Read.val_main_v33 (F := Ideal) (m ((c : Thread nD τ).loc main_arg0)) (m ((c : Thread nD τ).loc main_arg1)) (m ((c : Thread nD τ).loc main_arg2)) (m ((c : Thread nD τ).loc main_arg3)) := by
  refine Pipeline.Dat.arrAt_eq_of_covers (dats m 0 c) 7 _ (by decide +kernel) (fun t _ y => ?_)
  rw [emb7]
  have ey : y = ix2 (y 0) (y 1) := funext fun a => by match a with | ⟨0, _⟩ => rfl | ⟨1, _⟩ => rfl
  refine Eq.trans ?_ (out7_at m c hn t (y 0) (y 1))
  exact congrArg ((dats m 0 c).after 7 t) ey

theorem out8_at (hn : Numbers m c) (t : Fin cfg0.N) (r : Fin 512) (l : Fin 512) :
    ((dats m 0 c).after 8 t : Vec Ideal S512x512 .f32) (ix2 r l) = Cert.InprojReferenceIdeal.Read.val_main_v50 (F := Ideal) (m ((c : Thread nD τ).loc main_arg0)) (m ((c : Thread nD τ).loc main_arg1)) (m ((c : Thread nD τ).loc main_arg2)) (m ((c : Thread nD τ).loc main_arg4)) (ix2 (row t r) l) := by
  rw [after0_8]
  unfold_out out0_8
  refine (congrFun (View.canon_cons_unit_lit _ _ _ fun a => by match a with | ⟨0, _⟩ => rfl | ⟨1, _⟩ => rfl) _).trans ?_
  rw [ld0, ld1, ld2, ld3]
  rw [v50_at]
  choose p hp using pblk_real m c hn t r
  refine (pay12_at (pblk m c t) _ r p hp l).trans ?_
  refine congr (congr (congrArg headed (pblk_low m c t r _ (by have := l.isLt; dsimp only; omega))) (funext fun j => pblk_low m c t r _ (by have := l.isLt; have := j.isLt; dsimp only; omega))) ?_
  exact (congrFun (iblk4_eq m c t) _).trans (kgain_in m c l)

theorem array8 (hn : Numbers m c) : (dats m 0 c).arrAt 8 cfg0.N = Cert.InprojReferenceIdeal.Read.val_main_v50 (F := Ideal) (m ((c : Thread nD τ).loc main_arg0)) (m ((c : Thread nD τ).loc main_arg1)) (m ((c : Thread nD τ).loc main_arg2)) (m ((c : Thread nD τ).loc main_arg4)) := by
  refine Pipeline.Dat.arrAt_eq_of_covers (dats m 0 c) 8 _ (by decide +kernel) (fun t _ y => ?_)
  rw [emb8]
  have ey : y = ix2 (y 0) (y 1) := funext fun a => by match a with | ⟨0, _⟩ => rfl | ⟨1, _⟩ => rfl
  refine Eq.trans ?_ (out8_at m c hn t (y 0) (y 1))
  exact congrArg ((dats m 0 c).after 8 t) ey

theorem out9_at (t : Fin cfg0.N) (r : Fin 512) (l : Fin 512) :
    ((dats m 0 c).after 9 t : Vec Ideal S512x512 .f32) (ix2 r l) = Cert.InprojReferenceIdeal.Read.val_main_v80 (F := Ideal) (m ((c : Thread nD τ).loc main_arg0)) (m ((c : Thread nD τ).loc main_arg1)) (m ((c : Thread nD τ).loc main_arg2)) (ix2 (row t r) l) := by
  rw [after0_9]
  unfold_out out0_9
  refine (congrFun (View.canon_cons_unit_lit _ _ _ fun a => by match a with | ⟨0, _⟩ => rfl | ⟨1, _⟩ => rfl) _).trans ?_
  rw [ld0, ld1, ld2]
  rw [v80_at]
  refine Eq.trans ?_ (pblk_low m c t r ⟨1024 + l.val, by omega⟩ (by have := l.isLt; dsimp only; omega))
  exact pay13_at (pblk m c t) r l

theorem array9 : (dats m 0 c).arrAt 9 cfg0.N = Cert.InprojReferenceIdeal.Read.val_main_v80 (F := Ideal) (m ((c : Thread nD τ).loc main_arg0)) (m ((c : Thread nD τ).loc main_arg1)) (m ((c : Thread nD τ).loc main_arg2)) := by
  refine Pipeline.Dat.arrAt_eq_of_covers (dats m 0 c) 9 _ (by decide +kernel) (fun t _ y => ?_)
  rw [emb9]
  have ey : y = ix2 (y 0) (y 1) := funext fun a => by match a with | ⟨0, _⟩ => rfl | ⟨1, _⟩ => rfl
  refine Eq.trans ?_ (out9_at m c t (y 0) (y 1))
  exact congrArg ((dats m 0 c).after 9 t) ey

theorem out10_at (t : Fin cfg0.N) (r : Fin 512) (l : Fin 1536) :
    ((dats m 0 c).after 10 t : Vec Ideal S512x1536 .f32) (ix2 r l) = Cert.InprojReferenceIdeal.Read.val_main_v81 (F := Ideal) (m ((c : Thread nD τ).loc main_arg0)) (m ((c : Thread nD τ).loc main_arg1)) (m ((c : Thread nD τ).loc main_arg2)) (ix2 (row t r) l) := by
  rw [after0_10]
  unfold_out out0_10
  refine (congrFun (View.canon_cons_unit_lit _ _ _ fun a => by match a with | ⟨0, _⟩ => rfl | ⟨1, _⟩ => rfl) _).trans ?_
  rw [ld0, ld1, ld2]
  rw [v81_at]
  refine Eq.trans ?_ (pblk_low m c t r ⟨1536 + l.val, by omega⟩ (by have := l.isLt; dsimp only; omega))
  exact pay14_at (pblk m c t) r l

theorem array10 : (dats m 0 c).arrAt 10 cfg0.N = Cert.InprojReferenceIdeal.Read.val_main_v81 (F := Ideal) (m ((c : Thread nD τ).loc main_arg0)) (m ((c : Thread nD τ).loc main_arg1)) (m ((c : Thread nD τ).loc main_arg2)) := by
  refine Pipeline.Dat.arrAt_eq_of_covers (dats m 0 c) 10 _ (by decide +kernel) (fun t _ y => ?_)
  rw [emb10]
  have ey : y = ix2 (y 0) (y 1) := funext fun a => by match a with | ⟨0, _⟩ => rfl | ⟨1, _⟩ => rfl
  refine Eq.trans ?_ (out10_at m c t (y 0) (y 1))
  exact congrArg ((dats m 0 c).after 10 t) ey

theorem out11_at (t : Fin cfg0.N) (r : Fin 512) (l : Fin 512) :
    ((dats m 0 c).after 11 t : Vec Ideal S512x512 .f32) (ix2 r l) = Cert.InprojReferenceIdeal.Read.val_main_v82 (F := Ideal) (m ((c : Thread nD τ).loc main_arg0)) (m ((c : Thread nD τ).loc main_arg1)) (m ((c : Thread nD τ).loc main_arg2)) (ix2 (row t r) l) := by
  rw [after0_11]
  unfold_out out0_11
  refine (congrFun (View.canon_cons_unit_lit _ _ _ fun a => by match a with | ⟨0, _⟩ => rfl | ⟨1, _⟩ => rfl) _).trans ?_
  rw [ld0, ld1, ld2]
  rw [v82_at]
  refine Eq.trans ?_ (pblk_low m c t r ⟨3072 + l.val, by omega⟩ (by have := l.isLt; dsimp only; omega))
  exact pay15_at (pblk m c t) r l

theorem array11 : (dats m 0 c).arrAt 11 cfg0.N = Cert.InprojReferenceIdeal.Read.val_main_v82 (F := Ideal) (m ((c : Thread nD τ).loc main_arg0)) (m ((c : Thread nD τ).loc main_arg1)) (m ((c : Thread nD τ).loc main_arg2)) := by
  refine Pipeline.Dat.arrAt_eq_of_covers (dats m 0 c) 11 _ (by decide +kernel) (fun t _ y => ?_)
  rw [emb11]
  have ey : y = ix2 (y 0) (y 1) := funext fun a => by match a with | ⟨0, _⟩ => rfl | ⟨1, _⟩ => rfl
  refine Eq.trans ?_ (out11_at m c t (y 0) (y 1))
  exact congrArg ((dats m 0 c).after 11 t) ey

theorem out12_at (t : Fin cfg0.N) (r : Fin 512) (l : Fin 128) :
    ((dats m 0 c).after 12 t : Vec Ideal S512x128 .f32) (ix2 r l) = Cert.InprojReferenceIdeal.Read.val_main_v79 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (ix2 (row t r) l) := by
  rw [after0_12]
  unfold_out out0_12
  refine (congrFun (View.canon_cons_unit_lit _ _ _ fun a => by match a with | ⟨0, _⟩ => rfl | ⟨1, _⟩ => rfl) _).trans ?_
  rw [ld0, ld1, ld2, ld6, ld6]
  rw [v79_at]
  refine (pay16_at (pblk m c t) _ _ r l).trans ?_
  by_cases h : l.val < 8
  · rw [if_pos h, dif_pos h]
    have e5 := (congrFun (iblk5_eq m c t) (ix2 0 l)).trans (decay_in m c l h)
    have e6 := (congrFun (iblk6_eq m c t) (ix2 0 l)).trans (shift_in m c l h)
    have e16 := pblk_low m c t r ⟨3584 + l.val, by omega⟩ (by dsimp only; omega)
    exact congr (congrArg HMul.hMul e5) (congrArg softplus (congr (congrArg HAdd.hAdd e16) e6))
  · rw [if_neg h, dif_neg h]
    by_cases h' : l.val < 16
    · rw [dif_pos h']
      exact congrArg sigm (pblk_low m c t r ⟨3584 + l.val, by omega⟩ (by dsimp only; omega))
    · rw [dif_neg h']
      exact (congrArg sigm (pblk_high m c t r ⟨3584 + l.val, by omega⟩ (by dsimp only; omega))).trans sigm_zero

theorem array12 : (dats m 0 c).arrAt 12 cfg0.N = Cert.InprojReferenceIdeal.Read.val_main_v79 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  refine Pipeline.Dat.arrAt_eq_of_covers (dats m 0 c) 12 _ (by decide +kernel) (fun t _ y => ?_)
  rw [emb12]
  have ey : y = ix2 (y 0) (y 1) := funext fun a => by match a with | ⟨0, _⟩ => rfl | ⟨1, _⟩ => rfl
  refine Eq.trans ?_ (out12_at m c t (y 0) (y 1))
  exact congrArg ((dats m 0 c).after 12 t) ey

end Arrays

/-! # The precondition -/

theorem num_of (x : EReal) (h : FloatOps.cmpf (F := Ideal) (φ := .f32) .olt (FloatOps.absf x) (FloatOps.ofBits .f32 0x7F800000#32) = 1#1) : IsNum x := by
  have top : Ideal.ofBits .f32 0x7F800000#32 = ⊤ := by simp [Ideal.ofBits, Ideal.ieee, -EReal.coe_mul]
  rw [show FloatOps.cmpf (F := Ideal) (φ := .f32) .olt (FloatOps.absf x) (FloatOps.ofBits .f32 0x7F800000#32)
    = Ideal.cmp .olt (max x (-x)) (Ideal.ofBits .f32 0x7F800000#32) from rfl, top] at h
  refine ⟨x.toReal, (EReal.coe_toReal (fun e => ?_) fun e => ?_).symm⟩
  · rw [e] at h; simp [Ideal.cmp] at h
  · rw [e] at h; simp [Ideal.cmp] at h

instance : Subsingleton Cert.Pre_finite_weights.S_.Idx := ⟨fun a b => funext fun x => x.elim0⟩

theorem numbers_of (m : (ℓ : Loc nD τ sig) → Buf (Elt Ideal) ℓ) (c : Dev nD)
    (h : Cert.Pre_finite_weights.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = fun _ => 1#1) : Numbers m c := by
  have h' := congrFun h (fun x => x.elim0)
  unfold Cert.Pre_finite_weights.fn at h'
  dsimp only at h'
  have band : ∀ x y : BitVec 1, IntOp.andi x y = 1#1 ↔ x = 1#1 ∧ y = 1#1 := by decide
  obtain ⟨a, b⟩ := (band _ _).mp h'
  exact ⟨fun i => num_of _ (Host.reduce_andi_all _ _ _ _ _ a i), fun i => num_of _ (Host.reduce_andi_all _ _ _ _ _ b i)⟩

/-! # The claim -/

theorem same_result : Cert.algebraic_InprojIdeal_InprojReferenceIdeal_pre_finite_weights := by
  intro m g m' g' hpre hag
  refine ⟨fun c => Cert.InprojReferenceIdeal.Read.val_main_v33 (F := Ideal) (m ((c : Thread nD τ).loc main_arg0)) (m ((c : Thread nD τ).loc main_arg1)) (m ((c : Thread nD τ).loc main_arg2)) (m ((c : Thread nD τ).loc main_arg3)),
      fun c => Cert.InprojReferenceIdeal.Read.val_main_v50 (F := Ideal) (m ((c : Thread nD τ).loc main_arg0)) (m ((c : Thread nD τ).loc main_arg1)) (m ((c : Thread nD τ).loc main_arg2)) (m ((c : Thread nD τ).loc main_arg4)),
      fun c => Cert.InprojReferenceIdeal.Read.val_main_v80 (F := Ideal) (m ((c : Thread nD τ).loc main_arg0)) (m ((c : Thread nD τ).loc main_arg1)) (m ((c : Thread nD τ).loc main_arg2)),
      fun c => Cert.InprojReferenceIdeal.Read.val_main_v81 (F := Ideal) (m ((c : Thread nD τ).loc main_arg0)) (m ((c : Thread nD τ).loc main_arg1)) (m ((c : Thread nD τ).loc main_arg2)),
      fun c => Cert.InprojReferenceIdeal.Read.val_main_v82 (F := Ideal) (m ((c : Thread nD τ).loc main_arg0)) (m ((c : Thread nD τ).loc main_arg1)) (m ((c : Thread nD τ).loc main_arg2)),
      fun c => Cert.InprojReferenceIdeal.Read.val_main_v79 (F := Ideal) (m ((c : Thread nD τ).loc main_arg0)) (m ((c : Thread nD τ).loc main_arg1)) (m ((c : Thread nD τ).loc main_arg2)) (m ((c : Thread nD τ).loc main_arg5)) (m ((c : Thread nD τ).loc main_arg6)), ?_, ?_⟩
  · refine (θ_run defs _ _).mono ?_ (Cert.InprojIdeal.Value.run_blocks m g)
    intro r h c
    have hn := numbers_of m c (hpre c)
    obtain ⟨h0, h1, h2, h3, h4, h5, hk⟩ := h c
    exact ⟨h0.trans (array7 m c hn), h1.trans (array8 m c hn), h2.trans (array9 m c), h3.trans (array10 m c), h4.trans (array11 m c), h5.trans (array12 m c), hk⟩
  · refine (θ_run Cert.InprojReferenceIdeal.defs _ _).mono ?_ (Cert.InprojReferenceIdeal.Value.run (F := Ideal) m' g')
    intro r h c
    obtain ⟨a0, a1, a2, a3, a4, a5, a6⟩ := hag c
    obtain ⟨h0, h1, h2, h3, h4, h5, hk⟩ := h c
    have e0 : r.2.mem ((c.tc : Thread Cert.InprojReferenceIdeal.nD Cert.InprojReferenceIdeal.τ).loc Cert.InprojReferenceIdeal.main_v33) = Cert.InprojReferenceIdeal.Read.val_main_v33 (F := Ideal) (m ((c : Thread nD τ).loc main_arg0)) (m ((c : Thread nD τ).loc main_arg1)) (m ((c : Thread nD τ).loc main_arg2)) (m ((c : Thread nD τ).loc main_arg3)) := by
      refine h0.trans ?_
      rw [Cert.InprojReferenceIdeal.Read.val_main_v33_eq, a0, a1, a2, a3]
    have e1 : r.2.mem ((c.tc : Thread Cert.InprojReferenceIdeal.nD Cert.InprojReferenceIdeal.τ).loc Cert.InprojReferenceIdeal.main_v50) = Cert.InprojReferenceIdeal.Read.val_main_v50 (F := Ideal) (m ((c : Thread nD τ).loc main_arg0)) (m ((c : Thread nD τ).loc main_arg1)) (m ((c : Thread nD τ).loc main_arg2)) (m ((c : Thread nD τ).loc main_arg4)) := by
      refine h1.trans ?_
      rw [Cert.InprojReferenceIdeal.Read.val_main_v50_eq, a0, a1, a2, a4]
    have e2 : r.2.mem ((c.tc : Thread Cert.InprojReferenceIdeal.nD Cert.InprojReferenceIdeal.τ).loc Cert.InprojReferenceIdeal.main_v80) = Cert.InprojReferenceIdeal.Read.val_main_v80 (F := Ideal) (m ((c : Thread nD τ).loc main_arg0)) (m ((c : Thread nD τ).loc main_arg1)) (m ((c : Thread nD τ).loc main_arg2)) := by
      refine h2.trans ?_
      rw [Cert.InprojReferenceIdeal.Read.val_main_v80_eq, a0, a1, a2]
    have e3 : r.2.mem ((c.tc : Thread Cert.InprojReferenceIdeal.nD Cert.InprojReferenceIdeal.τ).loc Cert.InprojReferenceIdeal.main_v81) = Cert.InprojReferenceIdeal.Read.val_main_v81 (F := Ideal) (m ((c : Thread nD τ).loc main_arg0)) (m ((c : Thread nD τ).loc main_arg1)) (m ((c : Thread nD τ).loc main_arg2)) := by
      refine h3.trans ?_
      rw [Cert.InprojReferenceIdeal.Read.val_main_v81_eq, a0, a1, a2]
    have e4 : r.2.mem ((c.tc : Thread Cert.InprojReferenceIdeal.nD Cert.InprojReferenceIdeal.τ).loc Cert.InprojReferenceIdeal.main_v82) = Cert.InprojReferenceIdeal.Read.val_main_v82 (F := Ideal) (m ((c : Thread nD τ).loc main_arg0)) (m ((c : Thread nD τ).loc main_arg1)) (m ((c : Thread nD τ).loc main_arg2)) := by
      refine h4.trans ?_
      rw [Cert.InprojReferenceIdeal.Read.val_main_v82_eq, a0, a1, a2]
    have e5 : r.2.mem ((c.tc : Thread Cert.InprojReferenceIdeal.nD Cert.InprojReferenceIdeal.τ).loc Cert.InprojReferenceIdeal.main_v79) = Cert.InprojReferenceIdeal.Read.val_main_v79 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
      refine h5.trans ?_
      rw [Cert.InprojReferenceIdeal.Read.val_main_v79_eq, a0, a1, a2, a5, a6]
    exact ⟨e0, e1, e2, e3, e4, e5, hk⟩

end Cert.Inp
-- ==== Proof.Experts.Run.lean ====
module

public import proofs.«01_k».proof.Proof.Gen.ExpertsIdeal.Flash.Pins
public import proofs.«01_k».proof.Proof.Gen.ExpertsIdeal.Skeleton
public import Idealize.ShloMosaic.Lib.Pipeline.ValueKit
public import Idealize.ShloMosaic.Lib.VecWindow

@[expose] public section

set_option maxRecDepth 16384

noncomputable section

namespace Cert.Exp

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources of the runs below. -/
local notation "𝕄" => MT nD τ sig Unit (Elt F) ℕ (UR sig nD τ) ℕ

/-- The count of blocks in use, as the body reads it off the table. -/
abbrev countIn (T1 : Vec F S1 .i32) : BitVec 32 :=
  View.readAt (Elt F) (tbM0_1).view (Rect.unit (s := S1) ![0] S1.size inb_S1_S1_0).toLoadRect T1 (Shape.Idx.first (numel1_S1.symm ▸ Nat.one_pos))

/-- What a block in use ends with: the expert's output for its rows. -/
def blockOut (x0 : Vec F S256x1024 .f32) (x1 x2 x3 : Vec F S1x1024x1024 .bf16) (x4 x5 x6 : Vec F S1x1x1024 .f32) : Vec F S256x1024 .f32 :=
  k0_pay1 (F := F) (k0_pay3 x0 x1 x4 x2 x5) x3 x6

set_option maxHeartbeats 8000000 in
/-- The body at a block in use. -/
theorem run_used (c : Dev nD) (i : grid0.Coords) (arg3 : Memref sig .tc .vmem S256x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S256x1024 .f32) (harg10 : arg10.IsWhole)
    (T0 : Vec F S548 .i32) (T1 : Vec F S1 .i32) (x0 : Vec F S256x1024 .f32) (x1 x2 x3 : Vec F S1x1024x1024 .bf16) (x4 x5 x6 : Vec F S1x1x1024 .f32)
    (h1 : k0_cond1 i (countIn T1) = 1#1) (h2 : ¬ k0_cond2 i (countIn T1) = 1#1) (K : PUnit → sProp 𝕄) :
    iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ (tbM0_0.view.loc (c : Thread nD τ) ↦{fullShare.right} T0) ∗ (tbM0_1.view.loc (c : Thread nD τ) ↦{fullShare.right} T1)
            ∗ (∃ d, owns (c : Thread nD τ) arg10 fullShare d)
            ∗ (iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ (tbM0_0.view.loc (c : Thread nD τ) ↦{fullShare.right} T0) ∗ (tbM0_1.view.loc (c : Thread nD τ) ↦{fullShare.right} T1)
            ∗ owns (c : Thread nD τ) arg10 fullShare (blockOut x0 x1 x2 x3 x4 x5 x6)) -∗ K ⟨⟩))
      ⊢ wp frame (wpE (defs₀ (F := F)) Variants.none c none) Set.univ (cc0_moe_experts i tbM0_0 (Memref.isWhole_whole _) tbM0_1 (Memref.isWhole_whole _) arg3 harg3 arg4 harg4 arg5 harg5 arg6 harg6 arg7 harg7 arg8 harg8 arg9 harg9 arg10 harg10) K := by
  unfold owns
  rw [cc0_moe_experts_eq_skeleton]; unfold cc0_moe_experts_skel
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, HT0, HT1, ⟨%d7, %f7, -, HO7⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  have hT0 : tbM0_0.IsWhole := Memref.isWhole_whole _
  have hT1 : tbM0_1.IsWhole := Memref.isWhole_whole _
  sl_exec! (disch := first | (guard_target = k0_cond1 _ _ = _; exact h1) | (guard_target = ¬(k0_cond1 _ _ = _); exact h1) | (guard_target = k0_cond2 _ _ = _; exact h2) | (guard_target = ¬(k0_cond2 _ _ = _); exact h2))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [HT0]; · iexact HT0
  isplitl [HT1]; · iexact HT1
  iexists _; isplitr; swap; · iexact HO7
  ipureintro
  refine (View.read_writes_full _ _ _ _ _).trans ?_
  unfold blockOut run_used.sl.r_1
  simp only [View.readAt_eq_ld, harg3.read_unread, harg4.read_unread, harg5.read_unread, harg6.read_unread, harg7.read_unread, harg8.read_unread, harg9.read_unread]
  simp only [View.ld_unit_lit (S := S256x1024) inb_S256x1024_S256x1024_0_0 _ (by decide), View.ld_unit_lit (S := S1x1024x1024) inb_S1x1024x1024_S1x1024x1024_0_0_0 _ (by decide), View.ld_unit_lit (S := S1x1x1024) inb_S1x1x1024_S1x1x1024_0_0_0 _ (by decide)]

set_option maxHeartbeats 8000000 in
/-- The body at a block not in use: zero. -/
theorem run_idle (c : Dev nD) (i : grid0.Coords) (arg3 : Memref sig .tc .vmem S256x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S256x1024 .f32) (harg10 : arg10.IsWhole)
    (T0 : Vec F S548 .i32) (T1 : Vec F S1 .i32) (x0 : Vec F S256x1024 .f32) (x1 x2 x3 : Vec F S1x1024x1024 .bf16) (x4 x5 x6 : Vec F S1x1x1024 .f32)
    (h1 : ¬ k0_cond1 i (countIn T1) = 1#1) (h2 : k0_cond2 i (countIn T1) = 1#1) (K : PUnit → sProp 𝕄) :
    iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ (tbM0_0.view.loc (c : Thread nD τ) ↦{fullShare.right} T0) ∗ (tbM0_1.view.loc (c : Thread nD τ) ↦{fullShare.right} T1)
            ∗ (∃ d, owns (c : Thread nD τ) arg10 fullShare d)
            ∗ (iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ (tbM0_0.view.loc (c : Thread nD τ) ↦{fullShare.right} T0) ∗ (tbM0_1.view.loc (c : Thread nD τ) ↦{fullShare.right} T1)
            ∗ owns (c : Thread nD τ) arg10 fullShare (k0_pay2 (F := F))) -∗ K ⟨⟩))
      ⊢ wp frame (wpE (defs₀ (F := F)) Variants.none c none) Set.univ (cc0_moe_experts i tbM0_0 (Memref.isWhole_whole _) tbM0_1 (Memref.isWhole_whole _) arg3 harg3 arg4 harg4 arg5 harg5 arg6 harg6 arg7 harg7 arg8 harg8 arg9 harg9 arg10 harg10) K := by
  unfold owns
  rw [cc0_moe_experts_eq_skeleton]; unfold cc0_moe_experts_skel
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, HT0, HT1, ⟨%d7, %f7, -, HO7⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  have hT0 : tbM0_0.IsWhole := Memref.isWhole_whole _
  have hT1 : tbM0_1.IsWhole := Memref.isWhole_whole _
  sl_exec! (disch := first | (guard_target = k0_cond1 _ _ = _; exact h1) | (guard_target = ¬(k0_cond1 _ _ = _); exact h1) | (guard_target = k0_cond2 _ _ = _; exact h2) | (guard_target = ¬(k0_cond2 _ _ = _); exact h2))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [HT0]; · iexact HT0
  isplitl [HT1]; · iexact HT1
  iexists _; isplitr; swap; · iexact HO7
  ipureintro
  refine (View.read_writes_full _ _ _ _ _).trans ?_
  rfl

end Cert.Exp

end
-- ==== Proof.Experts.Tables.lean ====
module

public import proofs.«01_k».proof.Proof.Gen.ExpertsIdeal.Flash.Pins
public import Idealize.ShloMosaic.Lib.Pointwise

@[expose] public section

set_option maxRecDepth 16384

noncomputable section

namespace Cert.Exp

open Cert.ExpertsIdeal Cert.ExpertsIdeal.Gen
open Idealize.ShloMosaic

variable {F : FTy → Type} [FloatOps F]

/-- A table in range: every expert one of the thirty-two, and between one and all of the blocks in use. -/
structure InRange (E : S548.Idx → BitVec 32) (N : S1.Idx → BitVec 32) : Prop where
  expert : ∀ x, (E x).toNat < 32
  pos : ∀ x, 1 ≤ (N x).toNat
  le : ∀ x, (N x).toNat ≤ 548

theorem toInt_small {w : BitVec 32} (h : w.toNat ≤ 548) : w.toInt = (w.toNat : ℤ) := by
  rw [BitVec.toInt_eq_toNat_cond]; split <;> omega

theorem toNat_point (n : ℕ) (h : n < 548) : (BitVec.ofNat 32 n).toNat = n := by
  rw [BitVec.toNat_ofNat]; omega

theorem lt_word (n : ℕ) (h : n < 548) {w : BitVec 32} (hw : w.toNat ≤ 548) : (BitVec.ofNat 32 n).slt w = decide (n < w.toNat) := by
  have e := toNat_point n h
  rw [BitVec.slt_eq_decide, toInt_small hw, toInt_small (by omega), e]
  simp

theorem ge_word (n : ℕ) (h : n < 548) {w : BitVec 32} (hw : w.toNat ≤ 548) : w.sle (BitVec.ofNat 32 n) = decide (w.toNat ≤ n) := by
  have e := toNat_point n h
  rw [BitVec.sle_eq_decide, toInt_small hw, toInt_small (by omega), e]
  simp

/-- The first branch is taken at a block in use; -/
theorem used_iff (i : grid0.Coords) {w : BitVec 32} (hw : w.toNat ≤ 548) : k0_cond1 i w = 1#1 ↔ (i 0).val < w.toNat := by
  have hi : (i 0).val < 548 := (i 0).isLt
  unfold k0_cond1
  simp only [Scalar.cmpi, Scalar.extui, IntOp.cmpi, lt_word _ hi hw]
  by_cases h : (i 0).val < w.toNat <;> simp [h]

/-- the second at the others. -/
theorem unused_iff (i : grid0.Coords) {w : BitVec 32} (hw : w.toNat ≤ 548) : k0_cond2 i w = 1#1 ↔ w.toNat ≤ (i 0).val := by
  have hi : (i 0).val < 548 := (i 0).isLt
  unfold k0_cond2
  simp only [Scalar.cmpi, Scalar.extui, IntOp.cmpi, ge_word _ hi hw]
  by_cases h : w.toNat ≤ (i 0).val <;> simp [h]

/-- The row block fetched: the point's own, or the last in use. -/
theorem row_word (n : ℕ) (h : n < 548) {w : BitVec 32} (h1 : 1 ≤ w.toNat) (hw : w.toNat ≤ 548) :
    (Scalar.minsi (BitVec.ofNat 32 n) (Scalar.subi w 1#32)).toNat = min n (w.toNat - 1) := by
  have e := toNat_point n h
  have s : (w - 1#32).toNat = w.toNat - 1 := by
    rw [BitVec.toNat_sub]; simp; omega
  have l := lt_word n h (w := w - 1#32) (by omega)
  rw [s] at l
  show (if (BitVec.ofNat 32 n).slt (w - 1#32) = true then BitVec.ofNat 32 n else w - 1#32).toNat = _
  by_cases hn : n < w.toNat - 1
  · rw [if_pos (by rw [l]; exact decide_eq_true hn), e]; omega
  · rw [if_neg (by rw [l]; simpa using hn), s]; omega

/-- The expert of a point. -/
def expertAt (E : S548.Idx → BitVec 32) (i : grid0.Coords) : BitVec 32 := E (ix1 (n0 := 548) ⟨(i 0).val, (i 0).isLt⟩)

variable (pf : pre0.Contents (Elt F))

/-- The tables of a region's contents. -/
abbrev tabE : S548.Idx → BitVec 32 := pf 0
abbrev tabN : S1.Idx → BitVec 32 := pf 1

theorem at_expert (i : grid0.Coords) (inb : ∀ a, (![(Scalar.indexCast (BitVec.ofNat 32 (i 0).val) : Index).toNat] : Fin 1 → ℕ) a + S1.size a ≤ S548.size a) :
    pf.at 0 (Rect.unit (s := S548) ![(Scalar.indexCast (BitVec.ofNat 32 (i 0).val) : Index).toNat] S1.size inb) numel1_S1 = expertAt (tabE pf) i := by
  have hi : (i 0).val < 548 := (i 0).isLt
  refine congrArg (tabE pf) (funext fun a => Fin.ext ?_)
  fin_cases a
  have e : (Scalar.indexCast (BitVec.ofNat 32 (i 0).val) : Index).toNat = (i 0).val := congrFun (k0_off1_eq i) 0
  have z : ((Shape.Idx.first (s := S1) (numel1_S1.symm ▸ Nat.one_pos)) 0).val = 0 := by
    have : ((Shape.Idx.first (s := S1) (numel1_S1.symm ▸ Nat.one_pos)) 0).val < 1 := ((Shape.Idx.first (s := S1) (numel1_S1.symm ▸ Nat.one_pos)) 0).isLt
    omega
  have key : ∀ p q : ℕ, p = (i 0).val → q = 0 → p + 1 * q = (i 0).val := by intros; omega
  exact key _ _ e z

theorem t0_eq (h : InRange (tabE pf) (tabN pf)) (i : grid0.Coords) : cc0_transform_0 inb_S1_S1_0 numel1_S1 pf i = ![min (i 0).val ((tabN pf (ix1 0)).toNat - 1), 0] := by
  have e : pf.at 1 (Rect.unit (s := S1) ![0] S1.size inb_S1_S1_0) numel1_S1 = tabN pf (ix1 0) :=
    congrArg (tabN pf) (funext fun a => by
      fin_cases a
      exact Subsingleton.elim (α := Fin 1) _ _)
  unfold cc0_transform_0
  refine congrArg (fun k : ℕ => ![k, 0]) (Eq.trans ?_ (row_word _ (i 0).isLt (h.pos (ix1 0)) (h.le _)))
  exact congrArg (fun w : BitVec 32 => (Scalar.minsi (BitVec.ofNat 32 (i 0).val) (Scalar.subi w 1#32)).toNat) e

theorem t1_eq (i : grid0.Coords) : cc0_transform_1 k0_off1_inb numel1_S1 pf i = ![(expertAt (tabE pf) i).toNat, 0, 0] := by
  unfold cc0_transform_1; exact congrArg (fun w : BitVec 32 => ![w.toNat, 0, 0]) (at_expert pf i _)
theorem t2_eq (i : grid0.Coords) : cc0_transform_2 k0_off1_inb numel1_S1 pf i = ![(expertAt (tabE pf) i).toNat, 0, 0] := t1_eq pf i
theorem t3_eq (i : grid0.Coords) : cc0_transform_3 k0_off1_inb numel1_S1 pf i = ![(expertAt (tabE pf) i).toNat, 0, 0] := t1_eq pf i
theorem t4_eq (i : grid0.Coords) : cc0_transform_4 k0_off1_inb numel1_S1 pf i = ![(expertAt (tabE pf) i).toNat, 0, 0] := t1_eq pf i
theorem t5_eq (i : grid0.Coords) : cc0_transform_5 k0_off1_inb numel1_S1 pf i = ![(expertAt (tabE pf) i).toNat, 0, 0] := t1_eq pf i
theorem t6_eq (i : grid0.Coords) : cc0_transform_6 k0_off1_inb numel1_S1 pf i = ![(expertAt (tabE pf) i).toNat, 0, 0] := t1_eq pf i

/-- At tables in range every block is inside its array, in whole words. -/
theorem ok_of_range (h : InRange (tabE pf) (tabN pf)) : ok0 pf := by
  have ex : ∀ i, (expertAt (tabE pf) i).toNat < 32 := fun i => h.expert _
  have in0 : ∀ i : grid0.Coords, ∀ a, (cc0_transform_0 inb_S1_S1_0 numel1_S1 pf i a + 1) * S256x1024.size a ≤ S140288x1024.size a := by
    intro i a
    have hi : (i 0).val < 548 := (i 0).isLt
    rw [t0_eq pf h]
    fin_cases a
    · show (min (i 0).val _ + 1) * 256 ≤ 140288
      have := Nat.min_le_left (i 0).val ((tabN pf (ix1 0)).toNat - 1)
      omega
    · show (0 + 1) * 1024 ≤ 1024
      omega
  have inW : ∀ i : grid0.Coords, ∀ a, (![(expertAt (tabE pf) i).toNat, 0, 0] a + 1) * S1x1024x1024.size a ≤ S32x1024x1024.size a := by
    intro i a
    have := ex i
    fin_cases a
    · show ((expertAt (tabE pf) i).toNat + 1) * 1 ≤ 32; omega
    · show (0 + 1) * 1024 ≤ 1024; omega
    · show (0 + 1) * 1024 ≤ 1024; omega
  have inB : ∀ i : grid0.Coords, ∀ a, (![(expertAt (tabE pf) i).toNat, 0, 0] a + 1) * S1x1x1024.size a ≤ S32x1x1024.size a := by
    intro i a
    have := ex i
    fin_cases a
    · show ((expertAt (tabE pf) i).toNat + 1) * 1 ≤ 32; omega
    · show (0 + 1) * 1 ≤ 1; omega
    · show (0 + 1) * 1024 ≤ 1024; omega
  refine ⟨fun i => ⟨in0 i, .inl rfl⟩, fun i => ⟨?_, .inr (Affine.block_words_dvd (s := S32x1024x1024) (p := EltTy.packing .bf16) (by decide) (by decide))⟩,
    fun i => ⟨?_, .inr (Affine.block_words_dvd (s := S32x1024x1024) (p := EltTy.packing .bf16) (by decide) (by decide))⟩,
    fun i => ⟨?_, .inr (Affine.block_words_dvd (s := S32x1024x1024) (p := EltTy.packing .bf16) (by decide) (by decide))⟩,
    fun i => ⟨?_, .inl rfl⟩, fun i => ⟨?_, .inl rfl⟩, fun i => ⟨?_, .inl rfl⟩⟩
  · rw [t1_eq]; exact inW i
  · rw [t2_eq]; exact inW i
  · rw [t3_eq]; exact inW i
  · rw [t4_eq]; exact inB i
  · rw [t5_eq]; exact inB i
  · rw [t6_eq]; exact inB i

end Cert.Exp

end
-- ==== Proof.Experts.Frame.lean ====
module

public import proofs.«01_k».proof.Proof.Experts.Run
public import proofs.«01_k».proof.Proof.Experts.Tables
public import proofs.«01_k».proof.Proof.Gen.ExpertsIdeal.Launch
public import Idealize.ShloMosaic.Lib.Claim

@[expose] public section

set_option maxRecDepth 16384

noncomputable section

namespace Cert.Exp

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of the body. -/
local notation "𝕄" => MT nD τ sig Unit (Elt F) ℕ (UR sig nD τ) ℕ

/-- Where the pipeline keeps its own resources. -/
abbrev place : Emb (UR sig nD τ) 𝕄 := emb₁

/-- Tables a launch may hold. -/
structure Tables (F : FTy → Type) [FloatOps F] where
  pf : pre0.Contents (Elt F)
  range : InRange (tabE pf) (tabN pf)

variable (T : Tables F) (m : (ℓ : Loc nD τ sig) → Buf (Elt F) ℓ) (ρ : Dev nD → PrngReg)

/-- The pipeline at such tables. -/
def adm : (pcfg0 (F := F)).Adm := ⟨T.pf, ok_of_range T.pf T.range⟩
abbrev cfgT : Pipeline.Cfg sig Λ₀ := cfg0 (F := F) (adm T)
abbrev pcsT : Fin 1 → Pipeline.Cfg sig Λ₀ := Pipeline.pin (pcfgs (F := F)) fun _ => adm T

/-- A point's coordinates. -/
abbrev crd (t : Fin (cfgT T).N) : (cfgT T).grid.Coords := (cfgT T).grid.coords t

abbrev st0 (t : Fin (cfgT T).N) : Memref sig .tc .vmem S256x1024 .f32 := spec0_0.stage ((cfgT T).slots t (0 : Fin 8))
abbrev wh0 (t : Fin (cfgT T).N) : (st0 T t).IsWhole := hstage0_0 (((cfgT T).slots t (0 : Fin 8)).cast nbuf0_0)
abbrev st1 (t : Fin (cfgT T).N) : Memref sig .tc .vmem S1x1024x1024 .bf16 := spec0_1.stage ((cfgT T).slots t (1 : Fin 8))
abbrev wh1 (t : Fin (cfgT T).N) : (st1 T t).IsWhole := hstage0_1 (((cfgT T).slots t (1 : Fin 8)).cast nbuf0_1)
abbrev st2 (t : Fin (cfgT T).N) : Memref sig .tc .vmem S1x1024x1024 .bf16 := spec0_2.stage ((cfgT T).slots t (2 : Fin 8))
abbrev wh2 (t : Fin (cfgT T).N) : (st2 T t).IsWhole := hstage0_2 (((cfgT T).slots t (2 : Fin 8)).cast nbuf0_2)
abbrev st3 (t : Fin (cfgT T).N) : Memref sig .tc .vmem S1x1024x1024 .bf16 := spec0_3.stage ((cfgT T).slots t (3 : Fin 8))
abbrev wh3 (t : Fin (cfgT T).N) : (st3 T t).IsWhole := hstage0_3 (((cfgT T).slots t (3 : Fin 8)).cast nbuf0_3)
abbrev st4 (t : Fin (cfgT T).N) : Memref sig .tc .vmem S1x1x1024 .f32 := spec0_4.stage ((cfgT T).slots t (4 : Fin 8))
abbrev wh4 (t : Fin (cfgT T).N) : (st4 T t).IsWhole := hstage0_4 (((cfgT T).slots t (4 : Fin 8)).cast nbuf0_4)
abbrev st5 (t : Fin (cfgT T).N) : Memref sig .tc .vmem S1x1x1024 .f32 := spec0_5.stage ((cfgT T).slots t (5 : Fin 8))
abbrev wh5 (t : Fin (cfgT T).N) : (st5 T t).IsWhole := hstage0_5 (((cfgT T).slots t (5 : Fin 8)).cast nbuf0_5)
abbrev st6 (t : Fin (cfgT T).N) : Memref sig .tc .vmem S1x1x1024 .f32 := spec0_6.stage ((cfgT T).slots t (6 : Fin 8))
abbrev wh6 (t : Fin (cfgT T).N) : (st6 T t).IsWhole := hstage0_6 (((cfgT T).slots t (6 : Fin 8)).cast nbuf0_6)
abbrev st7 (t : Fin (cfgT T).N) : Memref sig .tc .vmem S256x1024 .f32 := spec0_7.stage ((cfgT T).slots t (7 : Fin 8))
abbrev wh7 (t : Fin (cfgT T).N) : (st7 T t).IsWhole := hstage0_7 (((cfgT T).slots t (7 : Fin 8)).cast nbuf0_7)

/-- A window's block at a point. -/
def iblk (c : Dev nD) (w : Fin (cfgT T).W) (t : Fin (cfgT T).N) : (((cfgT T).win w).xblock (crd T t)).Idx → Elt F ((cfgT T).win w).elt :=
  (((cfgT T).win w).blk t).view.read (Elt F) ((s₀ m ρ).mem (((cfgT T).win w).arr.view.loc (c : Thread nD τ)))

/-- The count of blocks in use. -/
abbrev used : ℕ := (tabN T.pf (ix1 0)).toNat

/-- What a point leaves in the output's buffer. -/
def left (c : Dev nD) (t : Fin (cfgT T).N) : Vec F S256x1024 .f32 :=
  if (crd T t 0).val < used T then
    blockOut (iblk T m ρ c 0 t) (iblk T m ρ c 1 t) (iblk T m ρ c 2 t) (iblk T m ρ c 3 t) (iblk T m ρ c 4 t) (iblk T m ρ c 5 t) (iblk T m ρ c 6 t)
  else k0_pay2 (F := F)

/-- The body keeps its halves of the tables. -/
def held (c : Dev nD) : sProp 𝕄 :=
  iprop((tbM0_0.view.loc (c : Thread nD τ) ↦{fullShare.right} T.pf 0) ∗ (tbM0_1.view.loc (c : Thread nD τ) ↦{fullShare.right} T.pf 1))

/-- The pipeline's data. -/
def dat (_ : Fin 1) (c : Dev nD) : Dat τ (Elt F) Unit ℕ (UR sig nD τ) ℕ (cfgT T) c where
  A w := (s₀ m ρ).mem (((cfgT T).win w).arr.view.loc (c : Thread nD τ))
  after w t := match w with
    | ⟨0, _⟩ => iblk T m ρ c 0 t
    | ⟨1, _⟩ => iblk T m ρ c 1 t
    | ⟨2, _⟩ => iblk T m ρ c 2 t
    | ⟨3, _⟩ => iblk T m ρ c 3 t
    | ⟨4, _⟩ => iblk T m ρ c 4 t
    | ⟨5, _⟩ => iblk T m ρ c 5 t
    | ⟨6, _⟩ => iblk T m ρ c 6 t
    | ⟨7, _⟩ => left T m ρ c t
  Φ _ := held T c
  q _ := fullShare
  owed _ := 0

/-- An input window keeps its block. -/
theorem after_in (c : Dev nD) (w : Fin 8) (hw : w ≠ 7) (t : Fin (cfgT T).N) : (dat T m ρ 0 c).after w t = iblk T m ρ c w t := by
  match w, hw with
  | 0, _ => rfl
  | 1, _ => rfl
  | 2, _ => rfl
  | 3, _ => rfl
  | 4, _ => rfl
  | 5, _ => rfl
  | 6, _ => rfl
  | 7, h => exact absurd rfl h
  | ⟨_ + 8, h⟩, _ => exact absurd h (by omega)

theorem after_out (c : Dev nD) (t : Fin (cfgT T).N) : (dat T m ρ 0 c).after (7 : Fin 8) t = left T m ρ c t := rfl

theorem not_out (w : Fin 8) (hw : w ≠ 7) : ((cfgT T).win w).isOut = false := by
  match w, hw with
  | 0, _ => rfl
  | 1, _ => rfl
  | 2, _ => rfl
  | 3, _ => rfl
  | 4, _ => rfl
  | 5, _ => rfl
  | 6, _ => rfl
  | 7, h => exact absurd rfl h
  | ⟨_ + 8, h⟩, _ => exact absurd h (by omega)

theorem before0 (c : Dev nD) (t : Fin (cfgT T).N) (d) : (dat T m ρ 0 c).before (0 : Fin 8) t d = iblk T m ρ c (0 : Fin 8) t :=
  ((dat T m ρ 0 c).before_in_eq_fetched (0 : Fin 8) rfl (fun _ => rfl) (fun _ _ _ => rfl) (fun t => by rw [after_in _ _ _ _ _ (by decide)]; unfold Dat.blockOf iblk; rfl) t d).trans
    (by unfold Dat.fetched Dat.blockOf iblk; rfl)
theorem before1 (c : Dev nD) (t : Fin (cfgT T).N) (d) : (dat T m ρ 0 c).before (1 : Fin 8) t d = iblk T m ρ c (1 : Fin 8) t :=
  ((dat T m ρ 0 c).before_in_eq_fetched (1 : Fin 8) rfl (fun _ => rfl) (fun _ _ _ => rfl) (fun t => by rw [after_in _ _ _ _ _ (by decide)]; unfold Dat.blockOf iblk; rfl) t d).trans
    (by unfold Dat.fetched Dat.blockOf iblk; rfl)
theorem before2 (c : Dev nD) (t : Fin (cfgT T).N) (d) : (dat T m ρ 0 c).before (2 : Fin 8) t d = iblk T m ρ c (2 : Fin 8) t :=
  ((dat T m ρ 0 c).before_in_eq_fetched (2 : Fin 8) rfl (fun _ => rfl) (fun _ _ _ => rfl) (fun t => by rw [after_in _ _ _ _ _ (by decide)]; unfold Dat.blockOf iblk; rfl) t d).trans
    (by unfold Dat.fetched Dat.blockOf iblk; rfl)
theorem before3 (c : Dev nD) (t : Fin (cfgT T).N) (d) : (dat T m ρ 0 c).before (3 : Fin 8) t d = iblk T m ρ c (3 : Fin 8) t :=
  ((dat T m ρ 0 c).before_in_eq_fetched (3 : Fin 8) rfl (fun _ => rfl) (fun _ _ _ => rfl) (fun t => by rw [after_in _ _ _ _ _ (by decide)]; unfold Dat.blockOf iblk; rfl) t d).trans
    (by unfold Dat.fetched Dat.blockOf iblk; rfl)
theorem before4 (c : Dev nD) (t : Fin (cfgT T).N) (d) : (dat T m ρ 0 c).before (4 : Fin 8) t d = iblk T m ρ c (4 : Fin 8) t :=
  ((dat T m ρ 0 c).before_in_eq_fetched (4 : Fin 8) rfl (fun _ => rfl) (fun _ _ _ => rfl) (fun t => by rw [after_in _ _ _ _ _ (by decide)]; unfold Dat.blockOf iblk; rfl) t d).trans
    (by unfold Dat.fetched Dat.blockOf iblk; rfl)
theorem before5 (c : Dev nD) (t : Fin (cfgT T).N) (d) : (dat T m ρ 0 c).before (5 : Fin 8) t d = iblk T m ρ c (5 : Fin 8) t :=
  ((dat T m ρ 0 c).before_in_eq_fetched (5 : Fin 8) rfl (fun _ => rfl) (fun _ _ _ => rfl) (fun t => by rw [after_in _ _ _ _ _ (by decide)]; unfold Dat.blockOf iblk; rfl) t d).trans
    (by unfold Dat.fetched Dat.blockOf iblk; rfl)
theorem before6 (c : Dev nD) (t : Fin (cfgT T).N) (d) : (dat T m ρ 0 c).before (6 : Fin 8) t d = iblk T m ρ c (6 : Fin 8) t :=
  ((dat T m ρ 0 c).before_in_eq_fetched (6 : Fin 8) rfl (fun _ => rfl) (fun _ _ _ => rfl) (fun t => by rw [after_in _ _ _ _ _ (by decide)]; unfold Dat.blockOf iblk; rfl) t d).trans
    (by unfold Dat.fetched Dat.blockOf iblk; rfl)

/-- The count the body reads is the table's. -/
theorem count_eq : countIn (F := F) (T.pf 1) = tabN T.pf (ix1 0) := by
  refine congrArg (tabN T.pf) (funext fun a => ?_)
  fin_cases a
  exact Subsingleton.elim (α := Fin 1) _ _

theorem atD_eq : T.pf.atD 1 ![0] = tabN T.pf (ix1 0) := by
  unfold Pipeline.Prefetch.Contents.atD
  rw [dif_pos (by intro a; fin_cases a; decide)]
  refine congrArg (tabN T.pf) (funext fun a => ?_)
  fin_cases a
  exact Subsingleton.elim (α := Fin 1) _ _

/-- No point leaves the output alone. -/
theorem never_idle (i : grid0.Coords) : (cfgT T).idle (7 : Fin 8) i = false := by
  show (!(k0_cond1 i (T.pf.atD 1 ![0]) == 1#1) && !(k0_cond2 i (T.pf.atD 1 ![0]) == 1#1)) = false
  rw [atD_eq]
  have h1 := used_iff i (T.range.le (ix1 0))
  have h2 := unused_iff i (T.range.le (ix1 0))
  by_cases h : (i 0).val < (tabN T.pf (ix1 0)).toNat
  · rw [h1.2 h]; rfl
  · rw [h2.2 (by omega)]; simp

abbrev bodyT (t : Fin (cfgT T).N) : Prog (TpuEff nD τ sig (Elt F) Λ₀ .tc) PUnit :=
  cc0_moe_experts (crd T t) (Memref.whole main_arg0) (Memref.isWhole_whole _) (Memref.whole main_arg1) (Memref.isWhole_whole _) (st0 T t) (wh0 T t) (st1 T t) (wh1 T t) (st2 T t) (wh2 T t) (st3 T t) (wh3 T t) (st4 T t) (wh4 T t) (st5 T t) (wh5 T t) (st6 T t) (wh6 T t) (st7 T t) (wh7 T t)

set_option maxHeartbeats 4000000 in
/-- The body at any point. -/
theorem body_any (c : Dev nD) (t : Fin (cfgT T).N) :
    iprop((dat T m ρ 0 c).Φ t.castSucc ∗ (dat T m ρ 0 c).owesAt () t.castSucc
        ∗ (∃ d, owns (c : Thread nD τ) (st0 T t) fullShare ((dat T m ρ 0 c).before (0 : Fin 8) t d))
        ∗ (∃ d, owns (c : Thread nD τ) (st1 T t) fullShare ((dat T m ρ 0 c).before (1 : Fin 8) t d))
        ∗ (∃ d, owns (c : Thread nD τ) (st2 T t) fullShare ((dat T m ρ 0 c).before (2 : Fin 8) t d))
        ∗ (∃ d, owns (c : Thread nD τ) (st3 T t) fullShare ((dat T m ρ 0 c).before (3 : Fin 8) t d))
        ∗ (∃ d, owns (c : Thread nD τ) (st4 T t) fullShare ((dat T m ρ 0 c).before (4 : Fin 8) t d))
        ∗ (∃ d, owns (c : Thread nD τ) (st5 T t) fullShare ((dat T m ρ 0 c).before (5 : Fin 8) t d))
        ∗ (∃ d, owns (c : Thread nD τ) (st6 T t) fullShare ((dat T m ρ 0 c).before (6 : Fin 8) t d))
        ∗ (∃ d, owns (c : Thread nD τ) (st7 T t) fullShare ((dat T m ρ 0 c).before (7 : Fin 8) t d)))
      ⊢ wp frame (wpE (defs₀ (F := F)) Variants.none c none) Set.univ (bodyT T t) fun _ =>
          iprop((dat T m ρ 0 c).Φ t.succ ∗ (dat T m ρ 0 c).owesAt () t.succ
            ∗ bigSep Finset.univ fun w : Fin (cfgT T).W =>
                match (cfgT T).idle w ((cfgT T).grid.coords t) with
                | true =>
                  match ((cfgT T).win w).flush t with
                  | false => iprop(∃ d, owns (c : Thread nD τ) (((cfgT T).win w).stage ((cfgT T).slots t w)) fullShare ((dat T m ρ 0 c).before w t d))
                  | true => owns (c : Thread nD τ) (((cfgT T).win w).stage ((cfgT T).slots t w)) fullShare ((dat T m ρ 0 c).after w t)
                | false => owns (c : Thread nD τ) (((cfgT T).win w).stage ((cfgT T).slots t w)) fullShare ((dat T m ρ 0 c).after w t)) := by
  have h1 := used_iff (crd T t) (T.range.le (ix1 0))
  have h2 := unused_iff (crd T t) (T.range.le (ix1 0))
  rw [bigSep_W0]
  rewrite [never_idle T (crd T t)]
  simp only [before0, before1, before2, before3, before4, before5, before6, after_out]
  rewrite [show (dat T m ρ 0 c).Φ t.succ = held T c from rfl, show (dat T m ρ 0 c).Φ t.castSucc = held T c from rfl,
    show (dat T m ρ 0 c).owesAt () t.succ = (dat T m ρ 0 c).owesAt () t.castSucc from rfl]
  unfold held left
  iintro ⟨⟨HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases hu : (crd T t 0).val < used T
  · rewrite [if_pos hu]
    have run := run_used (F := F) c (crd T t) (st0 T t) (wh0 T t) (st1 T t) (wh1 T t) (st2 T t) (wh2 T t) (st3 T t) (wh3 T t) (st4 T t) (wh4 T t) (st5 T t) (wh5 T t) (st6 T t) (wh6 T t) (st7 T t) (wh7 T t) (T.pf 0) (T.pf 1) (iblk T m ρ c (0 : Fin 8) t) (iblk T m ρ c (1 : Fin 8) t) (iblk T m ρ c (2 : Fin 8) t) (iblk T m ρ c (3 : Fin 8) t) (iblk T m ρ c (4 : Fin 8) t) (iblk T m ρ c (5 : Fin 8) t) (iblk T m ρ c (6 : Fin 8) t) (by rw [count_eq]; exact h1.2 hu) (by rw [count_eq]; exact fun h => Nat.not_le_of_lt hu (h2.1 h))
    iapply (run _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    isplitl [H7]; · iexists _; iexact H7
    iintro ⟨H0, H1, H2, H3, H4, H5, H6, HT0, HT1, H7⟩
    isplitl [HT0 HT1]
    · isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rewrite [if_neg hu]
    have run := run_idle (F := F) c (crd T t) (st0 T t) (wh0 T t) (st1 T t) (wh1 T t) (st2 T t) (wh2 T t) (st3 T t) (wh3 T t) (st4 T t) (wh4 T t) (st5 T t) (wh5 T t) (st6 T t) (wh6 T t) (st7 T t) (wh7 T t) (T.pf 0) (T.pf 1) (iblk T m ρ c (0 : Fin 8) t) (iblk T m ρ c (1 : Fin 8) t) (iblk T m ρ c (2 : Fin 8) t) (iblk T m ρ c (3 : Fin 8) t) (iblk T m ρ c (4 : Fin 8) t) (iblk T m ρ c (5 : Fin 8) t) (iblk T m ρ c (6 : Fin 8) t) (by rw [count_eq]; exact fun h => hu (h1.1 h)) (by rw [count_eq]; exact h2.2 (Nat.le_of_not_lt hu))
    iapply (run _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    isplitl [H7]; · iexists _; iexact H7
    iintro ⟨H0, H1, H2, H3, H4, H5, H6, HT0, HT1, H7⟩
    isplitl [HT0 HT1]
    · isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_ok (c : Dev nD) : BodyObligation (dat T m ρ 0 c) (defs₀ (F := F)) Variants.none () Set.univ := fun t => by
  rw [bigSep_W0]
  exact body_any T m ρ c t

/-- What the pipeline starts with. -/
def start : UR sig nD τ :=
  initOf (Pipeline.cells (pcsT T) ((launch0 (F := F)).cellOf_inj fun _ => adm T))
    (Pipeline.launchToks (pcsT T) ((launch0 (F := F)).cellOf_inj fun _ => adm T))

theorem whole_share (c : Dev nD) (w : Fin (cfgT T).W) : (dat T m ρ 0 c).share w = fullShare := by unfold Dat.share; split <;> rfl

/-- The two tables, one by one. -/
theorem two_tables (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem enter (c : Dev nD) :
    iprop(BI.emp ∗ Pipeline.prefHeld pre0 c (fun _ => fullShare.right) (adm T).1 ∗ Pipeline.scopedRest spec0 c) ⊢ (dat T m ρ 0 c).Φ 0 := by
  rw [two_tables, scopedRest0_eq, show (dat T m ρ 0 c).Φ 0 = held T c from rfl]
  unfold held
  iintro ⟨-, ⟨HT0, HT1⟩, -⟩
  isplitl [HT0]
  · iexact HT0
  iexact HT1

theorem leave (c : Dev nD) : (dat T m ρ 0 c).Φ (Fin.last (cfgT T).N) ⊢ iprop(BI.emp ∗ Pipeline.scopedRest spec0 c) := by
  rw [scopedRest0_eq, show (dat T m ρ 0 c).Φ (Fin.last (cfgT T).N) = held T c from rfl]
  unfold held
  iintro ⟨-, -⟩
  isplitr; · iempintro
  iempintro

/-- How every execution ends: every window's array as the pipeline computes it, the tables as they were. -/
def Ends (r : PUnit × MemSt nD τ sig (Elt F)) : Prop :=
  ∀ c : Dev nD, (∀ w : Fin (cfgT T).W, r.2.mem (((cfgT T).win w).arr.view.loc (c : Thread nD τ)) = (dat T m ρ 0 c).arrAt w (cfgT T).N)
    ∧ ∀ j, r.2.mem ((c : Thread nD τ).loc (pre0.ref j)) = (adm T).1 j

set_option backward.isDefEq.respectTransparency.types false in
set_option maxHeartbeats 4000000 in
theorem all_end (hp : ∀ (c : Dev nD) j, m ((c : Thread nD τ).loc (pre0.ref j)) = T.pf j) :
    θ_run (defs (F := F)) (onTc (τ := τ) (main (F := F))) (s₀ m ρ) (fun r => Ends T m ρ r ∧ r.2.sem = fun _ => 0) :=
  Pipeline.θ_run_region_noSem_pf_quiescent pcfgs (fun _ => adm T) (dat T m ρ) () ((launch0 (F := F)).cellOf_inj fun _ => adm T) (0 : Fin 1)
    (launch0 (F := F)).win.to₀ (launch0 (F := F)).pre place defs₀ Variants.none m ρ main
    (hbody := fun c => (body_ok T m ρ c).loose) (hne := (launch0 (F := F)).block_pos)
    (harr := (launch0 (F := F)).arr_whole) (hstage := (launch0 (F := F)).stage_whole) (howed := fun _ _ => rfl)
    (u₀ := start T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcsT T) (dat T m ρ) 0 (launch0 (F := F)).win.arr_inj c (launch0 (F := F)).arr_whole
      (whole_share T m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := enter T m ρ)
    (hout := leave T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- Every execution ends with its arguments kept, the result as the pipeline computes it, and every counter at zero. -/
theorem ends (hp : ∀ (c : Dev nD) j, m ((c : Thread nD τ).loc (pre0.ref j)) = T.pf j) :
    θ_run (defs (F := F)) (onTc (τ := τ) (main (F := F))) ⟨m, fun _ => 0, ρ⟩ (fun r => (∀ c : Dev nD,
      r.2.mem ((c.tc : Thread nD τ).loc main_v0) = (dat T m ρ 0 c).arrAt (7 : Fin 8) (cfgT T).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨(h.1 c).1 (7 : Fin 8), ((h.1 c).2 0).trans (hp c 0).symm, ((h.1 c).2 1).trans (hp c 1).symm, ((h.1 c).1 (0 : Fin 8)).trans ((dat T m ρ 0 c).arrAt_in (0 : Fin 8) rfl _), ((h.1 c).1 (1 : Fin 8)).trans ((dat T m ρ 0 c).arrAt_in (1 : Fin 8) rfl _), ((h.1 c).1 (2 : Fin 8)).trans ((dat T m ρ 0 c).arrAt_in (2 : Fin 8) rfl _), ((h.1 c).1 (3 : Fin 8)).trans ((dat T m ρ 0 c).arrAt_in (3 : Fin 8) rfl _), ((h.1 c).1 (4 : Fin 8)).trans ((dat T m ρ 0 c).arrAt_in (4 : Fin 8) rfl _), ((h.1 c).1 (5 : Fin 8)).trans ((dat T m ρ 0 c).arrAt_in (5 : Fin 8) rfl _), ((h.1 c).1 (6 : Fin 8)).trans ((dat T m ρ 0 c).arrAt_in (6 : Fin 8) rfl _)⟩, h.2⟩) (all_end T m ρ hp)

end Cert.Exp

end
-- ==== Proof.Experts.Same.lean ====
module

public import proofs.«01_k».proof.Defs
public import proofs.«01_k».proof.Proof.Gen.Experts
public import proofs.«01_k».proof.Proof.Gen.Pre_routed
public import proofs.«01_k».proof.Proof.Experts.Frame
public import Idealize.ShloMosaic.Lib.ReduceAll

@[expose] public section

set_option maxRecDepth 16384

noncomputable section

namespace Cert.Exp

open Idealize.ShloMosaic Idealize.ShloMosaic.TcCoe Idealize.SL.Sem

/-! # What the precondition says -/

instance : Subsingleton Cert.Pre_routed.S_.Idx := ⟨fun a b => funext fun x => x.elim0⟩

/-- A word between two small signed bounds. -/
theorem expert_of (w : BitVec 32) (h : IntOp.andi (IntOp.cmpi .sge w 0#32) (IntOp.cmpi .slt w 32#32) = 1#1) : w.toNat < 32 := by
  have band : ∀ x y : BitVec 1, IntOp.andi x y = 1#1 ↔ x = 1#1 ∧ y = 1#1 := by decide
  obtain ⟨a, b⟩ := (band _ _).mp h
  simp only [IntOp.cmpi, BitVec.ofBool, BitVec.sle, BitVec.slt] at a b
  have e1 : ((32#32 : BitVec 32)).toInt = 32 := by decide
  have e0 : ((0#32 : BitVec 32)).toInt = 0 := by decide
  simp only [e0, e1] at a b
  have a' : (0 : ℤ) ≤ w.toInt := by
    by_contra hn; simp [hn] at a
  have b' : w.toInt < 32 := by
    by_contra hn; simp [hn] at b
  rw [BitVec.toInt_eq_toNat_cond] at a' b'
  split at a' <;> omega

theorem count_of (w : BitVec 32) (h : IntOp.andi (IntOp.cmpi .sge w 1#32) (IntOp.cmpi .sle w 548#32) = 1#1) : 1 ≤ w.toNat ∧ w.toNat ≤ 548 := by
  have band : ∀ x y : BitVec 1, IntOp.andi x y = 1#1 ↔ x = 1#1 ∧ y = 1#1 := by decide
  obtain ⟨a, b⟩ := (band _ _).mp h
  simp only [IntOp.cmpi, BitVec.ofBool, BitVec.sle, BitVec.slt] at a b
  have e1 : ((548#32 : BitVec 32)).toInt = 548 := by decide
  have e0 : ((1#32 : BitVec 32)).toInt = 1 := by decide
  simp only [e0, e1] at a b
  have a' : (1 : ℤ) ≤ w.toInt := by
    by_contra hn; simp [hn] at a
  have b' : w.toInt ≤ 548 := by
    by_contra hn; simp [hn] at b
  rw [BitVec.toInt_eq_toNat_cond] at a' b'
  split at a' <;> omega

variable {F : FTy → Type} [FloatOps F]

theorem decoded (a0 : IVec Cert.Pre_routed.S548 32) (a1 : IVec Cert.Pre_routed.S1 32) (a2 : FVec F Cert.Pre_routed.S140288x1024 .f32)
    (a3 a4 a5 : FVec F Cert.Pre_routed.S32x1024x1024 .bf16) (a6 a7 a8 : FVec F Cert.Pre_routed.S32x1x1024 .f32)
    (h : Cert.Pre_routed.fn (F := F) a0 a1 a2 a3 a4 a5 a6 a7 a8 = fun _ => 1#1) : InRange a0 a1 := by
  have h' := congrFun h (fun x => x.elim0)
  unfold Cert.Pre_routed.fn at h'
  dsimp only at h'
  have band : ∀ x y : BitVec 1, IntOp.andi x y = 1#1 ↔ x = 1#1 ∧ y = 1#1 := by decide
  obtain ⟨a, b⟩ := (band _ _).mp h'
  exact ⟨fun i => expert_of _ (Host.reduce_andi_all _ _ _ _ _ a i), fun i => (count_of _ (Host.reduce_andi_all _ _ _ _ _ b i)).1,
    fun i => (count_of _ (Host.reduce_andi_all _ _ _ _ _ b i)).2⟩

/-! # The launch's tables -/

section Launch

open Cert.ExpertsIdeal

/-- The tables a memory holds. -/
def heldTables (m : (ℓ : Loc nD τ sig) → Buf (Elt F) ℓ) : Cert.ExpertsIdeal.pre0.Contents (Elt F)
  | ⟨0, _⟩ => m (((0 : Dev nD) : Thread nD τ).loc main_arg0)
  | ⟨1, _⟩ => m (((0 : Dev nD) : Thread nD τ).loc main_arg1)

/-- The tables, of a memory the precondition holds of. -/
def tablesOf (m : (ℓ : Loc nD τ sig) → Buf (Elt F) ℓ) (h : InRange (m (((0 : Dev nD) : Thread nD τ).loc main_arg0)) (m (((0 : Dev nD) : Thread nD τ).loc main_arg1))) :
    Tables F := ⟨heldTables m, h⟩

theorem tables_held (m : (ℓ : Loc nD τ sig) → Buf (Elt F) ℓ) (h) (c : Dev nD) (j) :
    m ((c : Thread nD τ).loc (pre0.ref j)) = (tablesOf m h).pf j := by
  obtain rfl : c = 0 := Subsingleton.elim (α := Fin 1) _ _
  match j with
  | ⟨0, _⟩ => rfl
  | ⟨1, _⟩ => rfl

end Launch

/-! # The printed program -/

set_option maxHeartbeats 4000000 in
/-- The two prints agree. -/
theorem main_same : Cert.Experts.main (F := Bits) = Cert.ExpertsIdeal.main (F := Bits) := rfl

theorem body_same : Cert.Experts.cc0_moe_experts (F := Bits) = Cert.ExpertsIdeal.cc0_moe_experts (F := Bits) := rfl

theorem labels_same : Cert.Experts.defs₀ (F := Bits) = Cert.ExpertsIdeal.defs₀ (F := Bits) := by
  unfold Cert.Experts.defs₀ Cert.ExpertsIdeal.defs₀
  rw [body_same]
  refine congrArg Defs.onTc ?_
  funext l x
  match l, x with
  | 0, (t, s) => rfl
  | ⟨_ + 1, h⟩, _ => exact absurd h (Nat.not_lt.2 (Nat.le_add_left _ _))

theorem defs_same : Cert.Experts.defs (F := Bits) = Cert.ExpertsIdeal.defs (F := Bits) := by
  unfold Cert.Experts.defs Cert.ExpertsIdeal.defs
  rw [labels_same]
  rfl

/-- The printed kernel ends, with its arguments kept. -/
theorem printed_ends : Cert.quiescent_Experts := fun m g hpre => by
  have hr := decoded _ _ _ _ _ _ _ _ _ (hpre 0)
  rw [main_same, defs_same]
  exact (θ_run Cert.ExpertsIdeal.defs _ _).mono (fun _ h => ⟨fun c => (h.1 c).2, h.2⟩)
    (ends (F := Bits) (tablesOf (F := Bits) m hr) m g (tables_held (F := Bits) m hr))

/-- The idealised kernel ends, with its arguments kept. -/
theorem ideal_ends : Cert.quiescent_ExpertsIdeal := fun m g hpre => by
  have hr := decoded _ _ _ _ _ _ _ _ _ (hpre 0)
  exact (θ_run Cert.ExpertsIdeal.defs _ _).mono (fun _ h => ⟨fun c => (h.1 c).2, h.2⟩)
    (ends (F := Ideal) (tablesOf (F := Ideal) m hr) m g (tables_held (F := Ideal) m hr))

end Cert.Exp
-- ==== Proof.Experts.Math.lean ====
module

public import proofs.«01_k».proof.Proof.Experts.Run
public import Idealize.ShloMosaic.Lib.Pointwise

@[expose] public section

set_option maxRecDepth 16384

noncomputable section

namespace Cert.Exp

open Cert.ExpertsIdeal Cert.ExpertsIdeal.Gen
open Idealize.ShloMosaic Idealize.ShloMosaic.TcCoe Idealize.ShloMosaic.Tactic
open scoped Classical

/-! # An expert's function of one row -/

/-- One entry of the gate, capped. -/
def gateOf (X W : Fin 1024 → EReal) (b : EReal) : EReal := min ((∑ k, X k * W k) + b) (Ideal.ofBits .f32 0x40E00000#32)

/-- One entry of the linear half, clipped. -/
def linOf (X W : Fin 1024 → EReal) (b : EReal) : EReal :=
  min (Ideal.ofBits .f32 0x40E00000#32) (max (Ideal.ofBits .f32 0xC0E00000#32) ((∑ k, X k * W k) + b))

/-- One entry of the hidden row. -/
def hiddenOf (g l : EReal) : EReal := g * Ideal.div 1 (1 + Ideal.exp (-(Ideal.ofBits .f32 0x3FD9DB23#32 * g))) * (l + 1)

/-- One entry of the expert's row. -/
def expertOf (X : Fin 1024 → EReal) (Wg Wl : Fin 1024 → Fin 1024 → EReal) (Bg Bl Wd : Fin 1024 → EReal) (bd : EReal) : EReal :=
  (∑ f, hiddenOf (gateOf X (fun k => Wg k f) (Bg f)) (linOf X (fun k => Wl k f) (Bl f)) * Wd f) + bd

theorem pay3_at (x0 : Vec Ideal S256x1024 .f32) (x1 x2 : Vec Ideal S1x1024x1024 .bf16) (x4 x5 : Vec Ideal S1x1x1024 .f32) (r : Fin 256) (f : Fin 1024) :
    k0_pay3 (F := Ideal) x0 x1 x4 x2 x5 (ix2 r f) = hiddenOf (gateOf (fun k => x0 (ix2 r k)) (fun k => x1 (ix3 0 k f)) (x4 (ix3 0 0 f)))
      (linOf (fun k => x0 (ix2 r k)) (fun k => x2 (ix3 0 k f)) (x5 (ix3 0 0 f))) := by
  unfold k0_pay3 hiddenOf gateOf linOf
  pointwise
  rw [zero_sub]

theorem pay1_at (h : FVec Ideal S256x1024 .bf16) (x3 : Vec Ideal S1x1024x1024 .bf16) (x6 : Vec Ideal S1x1x1024 .f32) (r : Fin 256) (l : Fin 1024) :
    k0_pay1 (F := Ideal) h x3 x6 (ix2 r l) = (∑ f, h (ix2 r f) * x3 (ix3 0 f l)) + x6 (ix3 0 0 l) := by
  unfold k0_pay1
  pointwise

theorem blockOut_at (x0 : Vec Ideal S256x1024 .f32) (x1 x2 x3 : Vec Ideal S1x1024x1024 .bf16) (x4 x5 x6 : Vec Ideal S1x1x1024 .f32) (r : Fin 256) (l : Fin 1024) :
    blockOut (F := Ideal) x0 x1 x2 x3 x4 x5 x6 (ix2 r l) = expertOf (fun k => x0 (ix2 r k)) (fun k f => x1 (ix3 0 k f)) (fun k f => x2 (ix3 0 k f))
      (fun f => x4 (ix3 0 0 f)) (fun f => x5 (ix3 0 0 f)) (fun f => x3 (ix3 0 f l)) (x6 (ix3 0 0 l)) := by
  unfold blockOut expertOf
  rw [pay1_at]
  simp only [pay3_at]

theorem pay2_at (r : Fin 256) (l : Fin 1024) : k0_pay2 (F := Ideal) (ix2 r l) = 0 := by
  unfold k0_pay2
  pointwise

end Cert.Exp
-- ==== Proof.Experts.Ref.lean ====
module

public import proofs.«01_k».proof.Proof.Experts.Math
public import proofs.«01_k».proof.Proof.Gen.ExpertsReferenceIdeal.Read

@[expose] public section

set_option maxRecDepth 16384

noncomputable section

namespace Cert.Exp

open Cert.ExpertsReferenceIdeal Cert.ExpertsReferenceIdeal.Gen Cert.ExpertsReferenceIdeal.Read
open Idealize.ShloMosaic Idealize.ShloMosaic.TcCoe Idealize.ShloMosaic.Tactic
open scoped Classical

/-! # What the reference's result is at one place -/

/-- The matrices the blocks' experts name, read at one place. -/
theorem take_matrix {α : Type} (x : S32x1024x1024.Idx → α) (idx : IVec S548x1 32) (n : Fin 548) (a b : Fin 1024) :
    Host.gather gather_S32x1024x1024_S548x1_S548x1024x1024_12_0_n_n_0_1_110241024 x idx (ix3 n a b)
      = x (ix3 ⟨min (idx (ix2 n 0)).toInt.toNat 31, by omega⟩ a b) := by
  unfold Host.gather
  congr 1
  funext k
  refine Fin.ext ?_
  show GatherDims.start _ (ix3 n a b) idx k + GatherDims.batchCoord _ (ix3 n a b) k + GatherDims.offCoord _ (ix3 n a b) k = _
  rw [GatherDims.batchCoord_eq_zero _ _ _ List.not_mem_nil]
  have hk : k = 0 ∨ k = 1 ∨ k = 2 := by
    match k with
    | ⟨0, _⟩ => exact Or.inl rfl
    | ⟨1, _⟩ => exact Or.inr (Or.inl rfl)
    | ⟨2, _⟩ => exact Or.inr (Or.inr rfl)
  rcases hk with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ GatherDims.startIndexMap gather_S32x1024x1024_S548x1_S548x1024x1024_12_0_n_n_0_1_110241024 from List.mem_singleton.mpr rfl)]
    refine congrArg (fun w : BitVec 32 => min w.toInt.toNat 31) (congrArg idx (funext fun b => Fin.ext ?_))
    match b with
    | ⟨0, _⟩ => rfl
    | ⟨1, _⟩ => rfl
  · unfold GatherDims.start
    rw [dif_neg (show (1 : Fin 3) ∉ GatherDims.startIndexMap gather_S32x1024x1024_S548x1_S548x1024x1024_12_0_n_n_0_1_110241024 from by decide)]
    unfold GatherDims.offCoord
    rw [dif_pos (show (1 : Fin 3) ∈ GatherDims.sKept gather_S32x1024x1024_S548x1_S548x1024x1024_12_0_n_n_0_1_110241024 from by decide)]
    simp only [Nat.zero_add, Nat.add_zero]
    rfl
  · unfold GatherDims.start
    rw [dif_neg (show (2 : Fin 3) ∉ GatherDims.startIndexMap gather_S32x1024x1024_S548x1_S548x1024x1024_12_0_n_n_0_1_110241024 from by decide)]
    unfold GatherDims.offCoord
    rw [dif_pos (show (2 : Fin 3) ∈ GatherDims.sKept gather_S32x1024x1024_S548x1_S548x1024x1024_12_0_n_n_0_1_110241024 from by decide)]
    simp only [Nat.zero_add, Nat.add_zero]
    rfl

/-- The rows the blocks' experts name, read at one place. -/
theorem take_row {α : Type} (x : S32x1x1024.Idx → α) (idx : IVec S548x1 32) (n : Fin 548) (b : Fin 1024) :
    Host.gather gather_S32x1x1024_S548x1_S548x1x1024_12_0_n_n_0_1_111024 x idx (ix3 n 0 b)
      = x (ix3 ⟨min (idx (ix2 n 0)).toInt.toNat 31, by omega⟩ 0 b) := by
  unfold Host.gather
  congr 1
  funext k
  refine Fin.ext ?_
  show GatherDims.start _ (ix3 n 0 b) idx k + GatherDims.batchCoord _ (ix3 n 0 b) k + GatherDims.offCoord _ (ix3 n 0 b) k = _
  rw [GatherDims.batchCoord_eq_zero _ _ _ List.not_mem_nil]
  have hk : k = 0 ∨ k = 1 ∨ k = 2 := by
    match k with
    | ⟨0, _⟩ => exact Or.inl rfl
    | ⟨1, _⟩ => exact Or.inr (Or.inl rfl)
    | ⟨2, _⟩ => exact Or.inr (Or.inr rfl)
  rcases hk with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ GatherDims.startIndexMap gather_S32x1x1024_S548x1_S548x1x1024_12_0_n_n_0_1_111024 from List.mem_singleton.mpr rfl)]
    refine congrArg (fun w : BitVec 32 => min w.toInt.toNat 31) (congrArg idx (funext fun b => Fin.ext ?_))
    match b with
    | ⟨0, _⟩ => rfl
    | ⟨1, _⟩ => rfl
  · unfold GatherDims.start
    rw [dif_neg (show (1 : Fin 3) ∉ GatherDims.startIndexMap gather_S32x1x1024_S548x1_S548x1x1024_12_0_n_n_0_1_111024 from by decide)]
    unfold GatherDims.offCoord
    rw [dif_pos (show (1 : Fin 3) ∈ GatherDims.sKept gather_S32x1x1024_S548x1_S548x1x1024_12_0_n_n_0_1_111024 from by decide)]
    simp only [Nat.zero_add, Nat.add_zero]
    rfl
  · unfold GatherDims.start
    rw [dif_neg (show (2 : Fin 3) ∉ GatherDims.startIndexMap gather_S32x1x1024_S548x1_S548x1x1024_12_0_n_n_0_1_111024 from by decide)]
    unfold GatherDims.offCoord
    rw [dif_pos (show (2 : Fin 3) ∈ GatherDims.sKept gather_S32x1x1024_S548x1_S548x1x1024_12_0_n_n_0_1_111024 from by decide)]
    simp only [Nat.zero_add, Nat.add_zero]
    rfl

/-- An expert in range is read as it is. -/
theorem word_kept (w : BitVec 32) (h : w.toNat < 32) : Scalar.select (IntOp.cmpi .slt w 0#32) (IntOp.addi w 32#32) w = w := by
  have e : IntOp.cmpi .slt w 0#32 = 0#1 := by
    simp only [IntOp.cmpi, BitVec.slt_eq_decide]
    have : w.toInt = (w.toNat : ℤ) := by rw [BitVec.toInt_eq_toNat_cond]; split <;> omega
    rw [this]
    have e0 : ((0#32 : BitVec 32)).toInt = 0 := by decide
    rw [e0]
    have : ¬ ((w.toNat : ℤ) < 0) := by omega
    simp [this]
  rw [e]
  rfl

section Values

variable (x0 : Vec Ideal S548 .i32) (x1 : Vec Ideal S1 .i32) (x2 : Vec Ideal S140288x1024 .f32) (x3 x4 x5 : Vec Ideal S32x1024x1024 .bf16) (x6 x7 x8 : Vec Ideal S32x1x1024 .f32)

/-- A block's expert. -/
def exOf (hx : ∀ i, ((x0 i : BitVec 32)).toNat < 32) (n : Fin 548) : Fin 32 := ⟨((x0 (ix1 n) : BitVec 32)).toNat, hx _⟩

theorem v6_at (hx : ∀ i, ((x0 i : BitVec 32)).toNat < 32) (n : Fin 548) : val_main_v6 (F := Ideal) x0 (ix2 n 0) = x0 (ix1 n) := by
  unfold val_main_v6 val_main_v5 val_main_v4 val_main_v3 val_main_v2 val_main_v1 val_main_c val_main_c_0
  pointwise
  exact word_kept _ (hx _)

theorem pick (hx : ∀ i, ((x0 i : BitVec 32)).toNat < 32) (n : Fin 548) (h) :
    (⟨min (val_main_v6 (F := Ideal) x0 (ix2 n 0)).toInt.toNat 31, h⟩ : Fin 32) = exOf x0 hx n := by
  refine Fin.ext ?_
  dsimp only [exOf]
  rw [v6_at x0 hx n]
  have := hx (ix1 n)
  have e : (x0 (ix1 n) : BitVec 32).toInt = ((x0 (ix1 n) : BitVec 32).toNat : ℤ) := by rw [BitVec.toInt_eq_toNat_cond]; split <;> omega
  rw [e]
  omega

theorem v7_at (hx : ∀ i, ((x0 i : BitVec 32)).toNat < 32) (x : Vec Ideal S32x1024x1024 .bf16) (n : Fin 548) (a b : Fin 1024) :
    val_main_v7 (F := Ideal) x0 x (ix3 n a b) = x (ix3 (exOf x0 hx n) a b) := by
  unfold val_main_v7
  rw [take_matrix, pick x0 hx]

theorem v16_at (hx : ∀ i, ((x0 i : BitVec 32)).toNat < 32) (x : Vec Ideal S32x1x1024 .f32) (n : Fin 548) (b : Fin 1024) :
    val_main_v16 (F := Ideal) x0 x (ix3 n 0 b) = x (ix3 (exOf x0 hx n) 0 b) := by
  unfold val_main_v16
  rw [show val_main_v15 (F := Ideal) x0 = val_main_v6 (F := Ideal) x0 from rfl, take_row, pick x0 hx]

theorem v0_at (n : Fin 548) (r : Fin 256) (k : Fin 1024) : val_main_v0 (F := Ideal) x2 (ix3 n r k) = x2 (ix2 ⟨n.val * 256 + r.val, by omega⟩ k) := by
  unfold val_main_v0
  pointwise

theorem v20_at (hx : ∀ i, ((x0 i : BitVec 32)).toNat < 32) (n : Fin 548) (r : Fin 256) (f : Fin 1024) :
    val_main_v20 (F := Ideal) x0 x2 x3 x6 (ix3 n r f) = gateOf (fun k => x2 (ix2 ⟨n.val * 256 + r.val, by omega⟩ k)) (fun k => x3 (ix3 (exOf x0 hx n) k f)) (x6 (ix3 (exOf x0 hx n) 0 f)) := by
  simp only [← v0_at, ← v7_at x0 hx, ← v16_at x0 hx]
  unfold val_main_v20 val_main_v19 val_main_cst val_main_v18 val_main_v17 val_main_v9 val_main_v8 gateOf
  generalize val_main_v0 (F := Ideal) x2 = X
  generalize val_main_v7 (F := Ideal) x0 x3 = W
  generalize val_main_v16 (F := Ideal) x0 x6 = B
  pointwise

theorem v39_at (hx : ∀ i, ((x0 i : BitVec 32)).toNat < 32) (n : Fin 548) (r : Fin 256) (f : Fin 1024) :
    val_main_v39 (F := Ideal) x0 x2 x4 x7 (ix3 n r f) = linOf (fun k => x2 (ix2 ⟨n.val * 256 + r.val, by omega⟩ k)) (fun k => x4 (ix3 (exOf x0 hx n) k f)) (x7 (ix3 (exOf x0 hx n) 0 f)) := by
  simp only [← v0_at, ← v7_at x0 hx, ← v16_at x0 hx]
  unfold val_main_v39 val_main_call0_v4 val_main_call0_v3 val_main_call0_v2 val_main_call0_v1 val_main_call0_v0 val_main_cst_7 val_main_cst_8 val_main_v38 val_main_v37 val_main_v29 val_main_v28 linOf
  rw [show val_main_v27 (F := Ideal) x0 x4 = val_main_v7 (F := Ideal) x0 x4 from rfl, show val_main_v36 (F := Ideal) x0 x7 = val_main_v16 (F := Ideal) x0 x7 from rfl]
  generalize val_main_v0 (F := Ideal) x2 = X
  generalize val_main_v7 (F := Ideal) x0 x4 = W
  generalize val_main_v16 (F := Ideal) x0 x7 = B
  simp only [id]
  pointwise

theorem v51_at (n : Fin 548) (r : Fin 256) (f : Fin 1024) :
    val_main_v51 (F := Ideal) x0 x2 x3 x4 x6 x7 (ix3 n r f) = hiddenOf (val_main_v20 (F := Ideal) x0 x2 x3 x6 (ix3 n r f)) (val_main_v39 (F := Ideal) x0 x2 x4 x7 (ix3 n r f)) := by
  unfold val_main_v51 val_main_v50 val_main_v49 val_main_v48 val_main_v47 val_main_v46 val_main_v45 val_main_v44 val_main_v43 val_main_v42 val_main_v41 val_main_v40 val_main_cst_9 val_main_cst_10 val_main_cst_11 val_main_cst_12 hiddenOf
  generalize val_main_v20 (F := Ideal) x0 x2 x3 x6 = G
  generalize val_main_v39 (F := Ideal) x0 x2 x4 x7 = L
  pointwise

theorem v69_at (hx : ∀ i, ((x0 i : BitVec 32)).toNat < 32) (n : Fin 548) (r : Fin 256) (l : Fin 1024) :
    val_main_v69 (F := Ideal) x0 x2 x3 x4 x5 x6 x7 x8 (ix3 n r l) = expertOf (fun k => x2 (ix2 ⟨n.val * 256 + r.val, by omega⟩ k))
      (fun k f => x3 (ix3 (exOf x0 hx n) k f)) (fun k f => x4 (ix3 (exOf x0 hx n) k f)) (fun f => x6 (ix3 (exOf x0 hx n) 0 f)) (fun f => x7 (ix3 (exOf x0 hx n) 0 f))
      (fun f => x5 (ix3 (exOf x0 hx n) f l)) (x8 (ix3 (exOf x0 hx n) 0 l)) := by
  unfold expertOf
  simp only [← v20_at x0 x2 x3 x6 hx, ← v39_at x0 x2 x4 x7 hx, ← v51_at]
  rw [← v16_at x0 hx x8]
  simp only [← v7_at x0 hx x5]
  unfold val_main_v69 val_main_v68 val_main_v60 val_main_v59
  rw [show val_main_v58 (F := Ideal) x0 x5 = val_main_v7 (F := Ideal) x0 x5 from rfl, show val_main_v67 (F := Ideal) x0 x8 = val_main_v16 (F := Ideal) x0 x8 from rfl]
  generalize val_main_v51 (F := Ideal) x0 x2 x3 x4 x6 x7 = H
  generalize val_main_v7 (F := Ideal) x0 x5 = W
  generalize val_main_v16 (F := Ideal) x0 x8 = B
  pointwise

theorem less_word (n : ℕ) (hn : n < 548) (w : BitVec 32) (h : w.toNat ≤ 548) (u v : EReal) :
    Scalar.select (IntOp.cmpi .slt (BitVec.ofNat 32 n) w) u v = if n < w.toNat then u else v := by
  have e : IntOp.cmpi .slt (BitVec.ofNat 32 n) w = if n < w.toNat then 1#1 else 0#1 := by
    simp only [IntOp.cmpi, BitVec.slt_eq_decide]
    have e1 : w.toInt = (w.toNat : ℤ) := by rw [BitVec.toInt_eq_toNat_cond]; split <;> omega
    have e2 : (BitVec.ofNat 32 n).toNat = n := by rw [BitVec.toNat_ofNat]; omega
    have e3 : (BitVec.ofNat 32 n).toInt = (n : ℤ) := by rw [BitVec.toInt_eq_toNat_cond, e2]; split <;> omega
    rw [e1, e3]
    by_cases hlt : n < w.toNat
    · simp [hlt]
    · simp [hlt]
  rw [e]
  by_cases hlt : n < w.toNat
  · simp [hlt, Scalar.select]
  · simp [hlt, Scalar.select]

/-- The reference's result at one place. -/
theorem result_at (hx : ∀ i, ((x0 i : BitVec 32)).toNat < 32) (hn : ((x1 (ix1 0) : BitVec 32)).toNat ≤ 548) (n : Fin 548) (r : Fin 256) (l : Fin 1024) :
    val_main_v76 (F := Ideal) x0 x1 x2 x3 x4 x5 x6 x7 x8 (ix2 ⟨n.val * 256 + r.val, by omega⟩ l) =
      if n.val < ((x1 (ix1 0) : BitVec 32)).toNat then val_main_v69 (F := Ideal) x0 x2 x3 x4 x5 x6 x7 x8 (ix3 n r l) else 0 := by
  rw [← less_word n.val n.isLt _ hn]
  unfold val_main_v76 val_main_v75 val_main_call1_v2 val_main_call1_v1 val_main_call1_v0 val_main_cst_17 val_main_v74 val_main_v73 val_main_v72 val_main_v71 val_main_v70
  generalize val_main_v69 (F := Ideal) x0 x2 x3 x4 x5 x6 x7 x8 = Y
  simp only [id]
  pointwise

end Values

end Cert.Exp
-- ==== Proof.Experts.Value.lean ====
module

public import proofs.«01_k».proof.Proof.Experts.Same
public import proofs.«01_k».proof.Proof.Experts.Ref
public import proofs.«01_k».proof.Proof.Gen.ExpertsReferenceIdeal.Run

@[expose] public section

set_option maxRecDepth 16384

noncomputable section

namespace Cert.Exp

open Cert.ExpertsIdeal Cert.ExpertsIdeal.Gen
open Idealize.ShloMosaic Idealize.ShloMosaic.TcCoe Idealize.ShloMosaic.Tactic
open Idealize.SL Idealize.SL.Sem
open scoped Classical

/-! # Where the blocks lie -/

section Blocks

variable {F : FTy → Type} [FloatOps F] (T : Tables F) (t : Fin (cfgT T).N)

/-- A point's block of rows. -/
def blockNo : Fin 548 := ⟨(crd T t 0).val, (crd T t 0).isLt⟩

/-- A row of the point's block. -/
abbrev rowAt (r : Fin 256) : Fin 140288 := ⟨(blockNo T t).val * 256 + r.val, by have := (blockNo T t).isLt; have := r.isLt; omega⟩

/-- The point's expert. -/
def expertNo : Fin 32 := ⟨(expertAt (tabE T.pf) (crd T t)).toNat, T.range.expert _⟩

theorem index0 (h : (blockNo T t).val < used T) : ((cfgT T).win (0 : Fin 8)).index t = ![(blockNo T t).val, 0] := by
  refine (t0_eq T.pf T.range (crd T t)).trans ?_
  have : min (crd T t 0).val (used T - 1) = (blockNo T t).val := Nat.min_eq_left (Nat.le_sub_one_of_lt h)
  exact congrArg (fun n : ℕ => ![n, 0]) this

theorem index7 : ((cfgT T).win (7 : Fin 8)).index t = ![(blockNo T t).val, 0] := by
  have e : (BitVec.ofNat 32 (crd T t 0).val).toNat = (blockNo T t).val := toNat_point _ (crd T t 0).isLt
  exact congrArg (fun n : ℕ => ![n, 0]) e

theorem emb7 (z : S256x1024.Idx) : (((cfgT T).win (7 : Fin 8)).blk t).view.emb z = ix2 (rowAt T t (z 0)) (z 1) := by
  have e := index7 T t
  funext a; apply Fin.ext
  match a with
  | ⟨0, _⟩ => show ((cfgT T).win (7 : Fin 8)).index t (0 : Fin 2) * 256 + 1 * (z 0).val = _; rw [e, Nat.one_mul]; rfl
  | ⟨1, _⟩ => show ((cfgT T).win (7 : Fin 8)).index t (1 : Fin 2) * 1024 + 1 * (z 1).val = _; rw [e, Nat.one_mul]; exact (congrArg (· + (z 1).val) (Nat.zero_mul 1024)).trans (Nat.zero_add _)

theorem emb0 (h : (blockNo T t).val < used T) (z : S256x1024.Idx) : (((cfgT T).win (0 : Fin 8)).blk t).view.emb z = ix2 (rowAt T t (z 0)) (z 1) := by
  have e := index0 T t h
  funext a; apply Fin.ext
  match a with
  | ⟨0, _⟩ => show ((cfgT T).win (0 : Fin 8)).index t (0 : Fin 2) * 256 + 1 * (z 0).val = _; rw [e, Nat.one_mul]; rfl
  | ⟨1, _⟩ => show ((cfgT T).win (0 : Fin 8)).index t (1 : Fin 2) * 1024 + 1 * (z 1).val = _; rw [e, Nat.one_mul]; exact (congrArg (· + (z 1).val) (Nat.zero_mul 1024)).trans (Nat.zero_add _)

theorem index1 : ((cfgT T).win (1 : Fin 8)).index t = ![(expertNo T t).val, 0, 0] := t1_eq T.pf (crd T t)

theorem emb1 (z : S1x1024x1024.Idx) : (((cfgT T).win (1 : Fin 8)).blk t).view.emb z = ix3 (expertNo T t) (z 1) (z 2) := by
  have e := index1 T t
  have z0 : (z 0).val = 0 := Nat.lt_one_iff.mp (z 0).isLt
  funext a; apply Fin.ext
  match a with
  | ⟨0, _⟩ => show ((cfgT T).win (1 : Fin 8)).index t (0 : Fin 3) * 1 + 1 * (z 0).val = _; rw [e, z0]; exact Nat.mul_one _
  | ⟨1, _⟩ => show ((cfgT T).win (1 : Fin 8)).index t (1 : Fin 3) * 1024 + 1 * (z 1).val = _; rw [e, Nat.one_mul]; exact (congrArg (· + (z 1).val) (Nat.zero_mul 1024)).trans (Nat.zero_add _)
  | ⟨2, _⟩ => show ((cfgT T).win (1 : Fin 8)).index t (2 : Fin 3) * 1024 + 1 * (z 2).val = _; rw [e, Nat.one_mul]; exact (congrArg (· + (z 2).val) (Nat.zero_mul 1024)).trans (Nat.zero_add _)

theorem index2 : ((cfgT T).win (2 : Fin 8)).index t = ![(expertNo T t).val, 0, 0] := t2_eq T.pf (crd T t)

theorem emb2 (z : S1x1024x1024.Idx) : (((cfgT T).win (2 : Fin 8)).blk t).view.emb z = ix3 (expertNo T t) (z 1) (z 2) := by
  have e := index2 T t
  have z0 : (z 0).val = 0 := Nat.lt_one_iff.mp (z 0).isLt
  funext a; apply Fin.ext
  match a with
  | ⟨0, _⟩ => show ((cfgT T).win (2 : Fin 8)).index t (0 : Fin 3) * 1 + 1 * (z 0).val = _; rw [e, z0]; exact Nat.mul_one _
  | ⟨1, _⟩ => show ((cfgT T).win (2 : Fin 8)).index t (1 : Fin 3) * 1024 + 1 * (z 1).val = _; rw [e, Nat.one_mul]; exact (congrArg (· + (z 1).val) (Nat.zero_mul 1024)).trans (Nat.zero_add _)
  | ⟨2, _⟩ => show ((cfgT T).win (2 : Fin 8)).index t (2 : Fin 3) * 1024 + 1 * (z 2).val = _; rw [e, Nat.one_mul]; exact (congrArg (· + (z 2).val) (Nat.zero_mul 1024)).trans (Nat.zero_add _)

theorem index3 : ((cfgT T).win (3 : Fin 8)).index t = ![(expertNo T t).val, 0, 0] := t3_eq T.pf (crd T t)

theorem emb3 (z : S1x1024x1024.Idx) : (((cfgT T).win (3 : Fin 8)).blk t).view.emb z = ix3 (expertNo T t) (z 1) (z 2) := by
  have e := index3 T t
  have z0 : (z 0).val = 0 := Nat.lt_one_iff.mp (z 0).isLt
  funext a; apply Fin.ext
  match a with
  | ⟨0, _⟩ => show ((cfgT T).win (3 : Fin 8)).index t (0 : Fin 3) * 1 + 1 * (z 0).val = _; rw [e, z0]; exact Nat.mul_one _
  | ⟨1, _⟩ => show ((cfgT T).win (3 : Fin 8)).index t (1 : Fin 3) * 1024 + 1 * (z 1).val = _; rw [e, Nat.one_mul]; exact (congrArg (· + (z 1).val) (Nat.zero_mul 1024)).trans (Nat.zero_add _)
  | ⟨2, _⟩ => show ((cfgT T).win (3 : Fin 8)).index t (2 : Fin 3) * 1024 + 1 * (z 2).val = _; rw [e, Nat.one_mul]; exact (congrArg (· + (z 2).val) (Nat.zero_mul 1024)).trans (Nat.zero_add _)

theorem index4 : ((cfgT T).win (4 : Fin 8)).index t = ![(expertNo T t).val, 0, 0] := t4_eq T.pf (crd T t)

theorem emb4 (z : S1x1x1024.Idx) : (((cfgT T).win (4 : Fin 8)).blk t).view.emb z = ix3 (expertNo T t) (z 1) (z 2) := by
  have e := index4 T t
  have z0 : (z 0).val = 0 := Nat.lt_one_iff.mp (z 0).isLt
  funext a; apply Fin.ext
  match a with
  | ⟨0, _⟩ => show ((cfgT T).win (4 : Fin 8)).index t (0 : Fin 3) * 1 + 1 * (z 0).val = _; rw [e, z0]; exact Nat.mul_one _
  | ⟨1, _⟩ => show ((cfgT T).win (4 : Fin 8)).index t (1 : Fin 3) * 1 + 1 * (z 1).val = _; rw [e, Nat.one_mul]; exact (congrArg (· + (z 1).val) (Nat.zero_mul 1)).trans (Nat.zero_add _)
  | ⟨2, _⟩ => show ((cfgT T).win (4 : Fin 8)).index t (2 : Fin 3) * 1024 + 1 * (z 2).val = _; rw [e, Nat.one_mul]; exact (congrArg (· + (z 2).val) (Nat.zero_mul 1024)).trans (Nat.zero_add _)

theorem index5 : ((cfgT T).win (5 : Fin 8)).index t = ![(expertNo T t).val, 0, 0] := t5_eq T.pf (crd T t)

theorem emb5 (z : S1x1x1024.Idx) : (((cfgT T).win (5 : Fin 8)).blk t).view.emb z = ix3 (expertNo T t) (z 1) (z 2) := by
  have e := index5 T t
  have z0 : (z 0).val = 0 := Nat.lt_one_iff.mp (z 0).isLt
  funext a; apply Fin.ext
  match a with
  | ⟨0, _⟩ => show ((cfgT T).win (5 : Fin 8)).index t (0 : Fin 3) * 1 + 1 * (z 0).val = _; rw [e, z0]; exact Nat.mul_one _
  | ⟨1, _⟩ => show ((cfgT T).win (5 : Fin 8)).index t (1 : Fin 3) * 1 + 1 * (z 1).val = _; rw [e, Nat.one_mul]; exact (congrArg (· + (z 1).val) (Nat.zero_mul 1)).trans (Nat.zero_add _)
  | ⟨2, _⟩ => show ((cfgT T).win (5 : Fin 8)).index t (2 : Fin 3) * 1024 + 1 * (z 2).val = _; rw [e, Nat.one_mul]; exact (congrArg (· + (z 2).val) (Nat.zero_mul 1024)).trans (Nat.zero_add _)

theorem index6 : ((cfgT T).win (6 : Fin 8)).index t = ![(expertNo T t).val, 0, 0] := t6_eq T.pf (crd T t)

theorem emb6 (z : S1x1x1024.Idx) : (((cfgT T).win (6 : Fin 8)).blk t).view.emb z = ix3 (expertNo T t) (z 1) (z 2) := by
  have e := index6 T t
  have z0 : (z 0).val = 0 := Nat.lt_one_iff.mp (z 0).isLt
  funext a; apply Fin.ext
  match a with
  | ⟨0, _⟩ => show ((cfgT T).win (6 : Fin 8)).index t (0 : Fin 3) * 1 + 1 * (z 0).val = _; rw [e, z0]; exact Nat.mul_one _
  | ⟨1, _⟩ => show ((cfgT T).win (6 : Fin 8)).index t (1 : Fin 3) * 1 + 1 * (z 1).val = _; rw [e, Nat.one_mul]; exact (congrArg (· + (z 1).val) (Nat.zero_mul 1)).trans (Nat.zero_add _)
  | ⟨2, _⟩ => show ((cfgT T).win (6 : Fin 8)).index t (2 : Fin 3) * 1024 + 1 * (z 2).val = _; rw [e, Nat.one_mul]; exact (congrArg (· + (z 2).val) (Nat.zero_mul 1024)).trans (Nat.zero_add _)

/-- The blocks written cover the result. -/
theorem covers : ((cfgT T).win (7 : Fin 8)).Covers := by
  have onto : ∀ n : Fin 548, ∃ t : Fin grid0.N, (grid0.coords t 0).val = n.val ∧ t.val = n.val := by decide +kernel
  have same : ∀ t : Fin grid0.N, (grid0.coords t 0).val = t.val := by decide +kernel
  refine ⟨fun a => by match a with | ⟨0, _⟩ => exact Nat.zero_lt_succ _ | ⟨1, _⟩ => exact Nat.zero_lt_succ _, fun β => ?_⟩
  obtain ⟨t, ht, -⟩ := onto ⟨(β (0 : Fin 2)).val, lt_of_lt_of_eq (β (0 : Fin 2)).isLt (show (140288 + 256 - 1) / 256 = 548 by norm_num)⟩
  refine ⟨t, ?_, fun a => ⟨?_, Or.inl ?_⟩⟩
  · unfold Pipeline.Window.flush
    rw [Bool.and_eq_true]
    refine ⟨rfl, ?_⟩
    rw [Bool.or_eq_true]
    by_cases hl : t.val + 1 < grid0.N
    · right
      refine decide_eq_true ⟨hl, fun he => ?_⟩
      rw [index7, index7] at he
      have h0 : (grid0.coords ⟨t.val + 1, hl⟩ 0).val = (grid0.coords t 0).val := congrFun he 0
      rw [same, same] at h0
      exact absurd h0 (Nat.succ_ne_self _)
    · left
      exact decide_eq_true (Nat.le_antisymm t.isLt (Nat.le_of_not_lt hl))
  · rw [index7]
    match a with
    | ⟨0, _⟩ => exact ht
    | ⟨1, _⟩ => exact (Nat.lt_one_iff.mp (lt_of_lt_of_eq (β (1 : Fin 2)).isLt (show (1024 + 1024 - 1) / 1024 = 1 by norm_num))).symm
  · match a with
    | ⟨0, _⟩ => rfl
    | ⟨1, _⟩ => rfl

end Blocks

/-! # The array the call leaves is the reference's result -/

section Arrays

variable (T : Tables Ideal) (m : (ℓ : Loc nD τ sig) → Buf (Elt Ideal) ℓ) (ρ : Dev nD → PrngReg) (c : Dev nD) (t : Fin (cfgT T).N)

theorem rows_at (h : (blockNo T t).val < used T) (r : Fin 256) (k : Fin 1024) :
    (iblk T m ρ c (0 : Fin 8) t : Vec Ideal S256x1024 .f32) (ix2 r k) = (m ((c : Thread nD τ).loc main_arg2) : Vec Ideal S140288x1024 .f32) (ix2 (rowAt T t r) k) := by
  show m ((c : Thread nD τ).loc main_arg2) ((((cfgT T).win (0 : Fin 8)).blk t).view.emb (ix2 r k)) = _
  rw [emb0 T t h]; rfl

theorem w1_at (a b : Fin 1024) : (iblk T m ρ c (1 : Fin 8) t : Vec Ideal S1x1024x1024 .bf16) (ix3 0 a b) = (m ((c : Thread nD τ).loc main_arg3) : Vec Ideal S32x1024x1024 .bf16) (ix3 (expertNo T t) a b) := by
  show m ((c : Thread nD τ).loc main_arg3) ((((cfgT T).win (1 : Fin 8)).blk t).view.emb (ix3 0 a b)) = _
  rw [emb1]; rfl

theorem w2_at (a b : Fin 1024) : (iblk T m ρ c (2 : Fin 8) t : Vec Ideal S1x1024x1024 .bf16) (ix3 0 a b) = (m ((c : Thread nD τ).loc main_arg4) : Vec Ideal S32x1024x1024 .bf16) (ix3 (expertNo T t) a b) := by
  show m ((c : Thread nD τ).loc main_arg4) ((((cfgT T).win (2 : Fin 8)).blk t).view.emb (ix3 0 a b)) = _
  rw [emb2]; rfl

theorem w3_at (a b : Fin 1024) : (iblk T m ρ c (3 : Fin 8) t : Vec Ideal S1x1024x1024 .bf16) (ix3 0 a b) = (m ((c : Thread nD τ).loc main_arg5) : Vec Ideal S32x1024x1024 .bf16) (ix3 (expertNo T t) a b) := by
  show m ((c : Thread nD τ).loc main_arg5) ((((cfgT T).win (3 : Fin 8)).blk t).view.emb (ix3 0 a b)) = _
  rw [emb3]; rfl

theorem w4_at (b : Fin 1024) : (iblk T m ρ c (4 : Fin 8) t : Vec Ideal S1x1x1024 .f32) (ix3 0 0 b) = (m ((c : Thread nD τ).loc main_arg6) : Vec Ideal S32x1x1024 .f32) (ix3 (expertNo T t) 0 b) := by
  show m ((c : Thread nD τ).loc main_arg6) ((((cfgT T).win (4 : Fin 8)).blk t).view.emb (ix3 0 0 b)) = _
  rw [emb4]; rfl

theorem w5_at (b : Fin 1024) : (iblk T m ρ c (5 : Fin 8) t : Vec Ideal S1x1x1024 .f32) (ix3 0 0 b) = (m ((c : Thread nD τ).loc main_arg7) : Vec Ideal S32x1x1024 .f32) (ix3 (expertNo T t) 0 b) := by
  show m ((c : Thread nD τ).loc main_arg7) ((((cfgT T).win (5 : Fin 8)).blk t).view.emb (ix3 0 0 b)) = _
  rw [emb5]; rfl

theorem w6_at (b : Fin 1024) : (iblk T m ρ c (6 : Fin 8) t : Vec Ideal S1x1x1024 .f32) (ix3 0 0 b) = (m ((c : Thread nD τ).loc main_arg8) : Vec Ideal S32x1x1024 .f32) (ix3 (expertNo T t) 0 b) := by
  show m ((c : Thread nD τ).loc main_arg8) ((((cfgT T).win (6 : Fin 8)).blk t).view.emb (ix3 0 0 b)) = _
  rw [emb6]; rfl

theorem left_used (h : (blockNo T t).val < used T) : left T m ρ c t =
    blockOut (iblk T m ρ c 0 t) (iblk T m ρ c 1 t) (iblk T m ρ c 2 t) (iblk T m ρ c 3 t) (iblk T m ρ c 4 t) (iblk T m ρ c 5 t) (iblk T m ρ c 6 t) := if_pos h

theorem left_unused (h : ¬ (blockNo T t).val < used T) : left T m ρ c t = k0_pay2 (F := Ideal) := if_neg h

theorem left_at (r : Fin 256) (l : Fin 1024) :
    (left T m ρ c t : Vec Ideal S256x1024 .f32) (ix2 r l) =
      Cert.ExpertsReferenceIdeal.Read.val_main_v76 (F := Ideal) (T.pf 0) (T.pf 1) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 (rowAt T t r) l) := by
  refine Eq.trans ?_ (result_at _ _ _ _ _ _ _ _ _ T.range.expert (T.range.le _) (blockNo T t) r l).symm
  by_cases h : (blockNo T t).val < used T
  · refine Eq.trans ?_ (if_pos h).symm
    refine (congrFun (left_used T m ρ c t h) (ix2 r l)).trans ?_
    refine (blockOut_at _ _ _ _ _ _ _ r l).trans ?_
    rw [v69_at _ _ _ _ _ _ _ _ T.range.expert]
    simp only [rows_at T m ρ c t h, w1_at, w2_at, w3_at, w4_at, w5_at, w6_at]
    rfl
  · refine Eq.trans ?_ (if_neg h).symm
    exact (congrFun (left_unused T m ρ c t h) (ix2 r l)).trans (pay2_at r l)

theorem result_eq : (dat T m ρ 0 c).arrAt (7 : Fin 8) (cfgT T).N =
    Cert.ExpertsReferenceIdeal.Read.val_main_v76 (F := Ideal) (T.pf 0) (T.pf 1) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine Pipeline.Dat.arrAt_eq_of_covers (dat T m ρ 0 c) (7 : Fin 8) _ (covers T) (fun t _ y => ?_)
  rw [emb7]
  have ey : y = ix2 (y 0) (y 1) := funext fun a => by match a with | ⟨0, _⟩ => rfl | ⟨1, _⟩ => rfl
  refine Eq.trans ?_ (left_at T m ρ c t (y 0) (y 1))
  exact congrArg (left T m ρ c t) ey

end Arrays

/-! # The claim -/

theorem same_result : Cert.algebraic_ExpertsIdeal_ExpertsReferenceIdeal := by
  intro m g m' g' hpre hag
  have hr := decoded _ _ _ _ _ _ _ _ _ (hpre 0)
  refine ⟨fun c => Cert.ExpertsReferenceIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)), ?_, ?_⟩
  · refine (θ_run defs _ _).mono ?_ (ends (F := Ideal) (tablesOf (F := Ideal) m hr) m g (tables_held (F := Ideal) m hr))
    intro r h c
    obtain rfl : c = 0 := Subsingleton.elim (α := Fin 1) _ _
    exact ⟨(h.1 0).1.trans (result_eq (tablesOf (F := Ideal) m hr) m g 0), (h.1 0).2⟩
  · refine (θ_run Cert.ExpertsReferenceIdeal.defs _ _).mono ?_ (Cert.ExpertsReferenceIdeal.Value.run (F := Ideal) m' g')
    intro r h c
    obtain ⟨a0, a1, a2, a3, a4, a5, a6, a7, a8⟩ := hag c
    obtain ⟨h0, hk⟩ := h c
    refine ⟨h0.trans ?_, hk⟩
    rw [Cert.ExpertsReferenceIdeal.Read.val_main_v76_eq, a0, a1, a2, a3, a4, a5, a6, a7, a8]

end Cert.Exp
-- ==== Proof.lean ====
module

public import proofs.«01_k».proof.Defs
public import proofs.«01_k».proof.Proof.Gen.Kernel
public import proofs.«01_k».proof.Proof.Moba.Same
public import proofs.«01_k».proof.Proof.Gen.KernelIdeal
public import proofs.«01_k».proof.Proof.Gen.ReferenceIdeal
public import proofs.«01_k».proof.Proof.Gen.ReferenceIdeal.Run
public import proofs.«01_k».proof.Proof.Moba.Frame
public import Idealize.ShloMosaic.Lib.Claim
public import proofs.«01_k».proof.Proof.Gen.Pre_finite
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.Gen.InprojIdeal.Value
public import proofs.«01_k».proof.Proof.Gen.InprojReferenceIdeal
public import proofs.«01_k».proof.Proof.Gen.InprojReferenceIdeal.Run
public import proofs.«01_k».proof.Proof.Gen.InprojReferenceIdeal.Read
public import proofs.«01_k».proof.Proof.Gen.Pre_finite_weights
public import proofs.«01_k».proof.Proof.Gen.Experts
public import proofs.«01_k».proof.Proof.Gen.ExpertsIdeal
public import proofs.«01_k».proof.Proof.Gen.ExpertsReferenceIdeal
public import proofs.«01_k».proof.Proof.Gen.ExpertsReferenceIdeal.Run
public import proofs.«01_k».proof.Proof.Gen.ExpertsReferenceIdeal.Read
public import proofs.«01_k».proof.Proof.Gen.Pre_routed
public import proofs.«01_k».proof.Proof.Moba.Value
public import proofs.«01_k».proof.Proof.Inproj.Value
public import proofs.«01_k».proof.Proof.Experts.Value

@[expose] public section

noncomputable section

namespace Cert.Proof

open Idealize.ShloMosaic Idealize.SL.Sem

theorem kernelIdeal_ends : Cert.quiescent_KernelIdeal := fun m g _ => Cert.Moba.ends m g

theorem referenceIdeal_ends : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

theorem kept : Cert.preserves_Kernel_KernelIdeal :=
  IdealRules.named_const.statement Cert.KernelIdeal.κ "mask" .f32 0xF149F2CA#32 ⊥ rfl

theorem kernelIdeal_ends_finite : Cert.quiescent_KernelIdeal_pre_finite := fun m g _ => Cert.Moba.ends m g

theorem referenceIdeal_ends_finite : Cert.quiescent_ReferenceIdeal_pre_finite := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

theorem inprojReference_ends : Cert.quiescent_InprojReferenceIdeal := fun m g _ =>
  (θ_run Cert.InprojReferenceIdeal.defs _ _).mono (fun r h => ⟨fun c => (h c).2.2.2.2.2.2, Idealize.ShloMosaic.sem_eq_zero_of_no_sems (by decide) r.2⟩)
    (Cert.InprojReferenceIdeal.Value.run (F := Ideal) m g)

theorem inprojReference_ends_finite : Cert.quiescent_InprojReferenceIdeal_pre_finite_weights := fun m g _ => inprojReference_ends m g trivial

theorem expertsReference_ends : Cert.quiescent_ExpertsReferenceIdeal := fun m g _ =>
  (θ_run Cert.ExpertsReferenceIdeal.defs _ _).mono (fun r h => ⟨fun c => (h c).2, Idealize.ShloMosaic.sem_eq_zero_of_no_sems (by decide) r.2⟩)
    (Cert.ExpertsReferenceIdeal.Value.run (F := Ideal) m g)

theorem expertsReference_ends_routed : Cert.quiescent_ExpertsReferenceIdeal_pre_routed := fun m g _ => expertsReference_ends m g trivial

theorem claim : Cert.Claim := ⟨Cert.Kernel.Gen.facts, Cert.KernelIdeal.Gen.facts, Cert.ReferenceIdeal.Gen.facts, Cert.Inproj.Gen.facts, Cert.InprojIdeal.Gen.facts,
  Cert.InprojReferenceIdeal.Gen.facts, Cert.Experts.Gen.facts, Cert.ExpertsIdeal.Gen.facts, Cert.ExpertsReferenceIdeal.Gen.facts,
  Cert.Pre_finite.Gen.facts, Cert.Pre_finite_weights.Gen.facts, Cert.Pre_routed.Gen.facts,
  Cert.Moba.printed_ends, kernelIdeal_ends, kernelIdeal_ends_finite, referenceIdeal_ends, referenceIdeal_ends_finite,
  fun m g _ => Cert.Inproj.Gen.frame m g, fun m g _ => Cert.InprojIdeal.Gen.frame m g, fun m g _ => Cert.InprojIdeal.Gen.frame m g,
  inprojReference_ends, inprojReference_ends_finite,
  Cert.Exp.printed_ends, Cert.Exp.ideal_ends, expertsReference_ends, expertsReference_ends_routed,
  kept, Cert.Moba.same_result, trivial, Cert.Inp.same_result, trivial, Cert.Exp.same_result⟩

end Cert.Proof

end
